-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x8x128 : S_.BroadcastsInDim S1x1024x8x128 (![] : Fin 0 → Fin S1x1024x8x128.rank)

variable [Facts]

def fn {F : FTy → Type} [FloatOps F] (main_arg0 : FVec F S1x1024x1024 .bf16) (main_arg1 : FVec F S1024x1024 .bf16) (main_arg2 : FVec F S1x1024x8x128 .bf16) (main_arg3 : FVec F S1x1024x8x128 .bf16) (main_arg4 : FVec F S1024x1024 .bf16) : IVec S1x1024x1024 1 × IVec S1024x1024 1 × IVec S1x1024x8x128 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1x1024x8x128 .f32 := (extf .f32 · bitsLt_bf16_f32) main_arg2
  let main_v9 : FVec F S1x1024x8x128 .f32 := Host.absf main_v8
  let main_cst_1 : FVec F S_ .f32 := constant S_ .f32 0x7F800000#32
  let main_v10 : FVec F S1x1024x8x128 .f32 := broadcastInDim S1x1024x8x128 ![] bcast_S_S1x1024x8x128 main_cst_1
  let main_v11 : IVec S1x1024x8x128 1 := cmpf .olt main_v9 main_v10
  (main_v3, main_v7, main_v11)
-- ==== Pre_finite_ReferenceIdeal.lean ====
abbrev S1x1024x1024 : Shape := ⟨3, ![1, 1024, 1024]⟩
abbrev S1024x1024 : Shape := ⟨2, ![1024, 1024]⟩
abbrev S1x8192x8x128 : Shape := ⟨4, ![1, 8192, 8, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x8192x8x128 : S_.BroadcastsInDim S1x8192x8x128 (![] : Fin 0 → Fin S1x8192x8x128.rank)

variable [Facts]

def fn {F : FTy → Type} [FloatOps F] (main_arg0 : FVec F S1x1024x1024 .bf16) (main_arg1 : FVec F S1024x1024 .bf16) (main_arg2 : FVec F S1x8192x8x128 .bf16) (main_arg3 : FVec F S1x8192x8x128 .bf16) (main_arg4 : FVec F S1024x1024 .bf16) : IVec S1x1024x1024 1 × IVec S1024x1024 1 × IVec S1x8192x8x128 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1x8192x8x128 .f32 := (extf .f32 · bitsLt_bf16_f32) main_arg2
  let main_v9 : FVec F S1x8192x8x128 .f32 := Host.absf main_v8
  let main_cst_1 : FVec F S_ .f32 := constant S_ .f32 0x7F800000#32
  let main_v10 : FVec F S1x8192x8x128 .f32 := broadcastInDim S1x8192x8x128 ![] bcast_S_S1x8192x8x128 main_cst_1
  let main_v11 : IVec S1x8192x8x128 1 := cmpf .olt main_v9 main_v10
  (main_v3, main_v7, main_v11)
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S1024x8x128 : Shape := ⟨3, ![1024, 8, 128]⟩
abbrev S1024x8 : Shape := ⟨2, ![1024, 8]⟩
abbrev S7x128x8x128 : Shape := ⟨4, ![7, 128, 8, 128]⟩
abbrev S7x128x8 : Shape := ⟨3, ![7, 128, 8]⟩
abbrev S128x1024 : Shape := ⟨2, ![128, 1024]⟩
abbrev S7x128x1024 : Shape := ⟨3, ![7, 128, 1024]⟩
abbrev S7 : Shape := ⟨1, ![7]⟩
abbrev S_ : Shape := ⟨0, ![]⟩
abbrev S4x4x64x1024 : Shape := ⟨4, ![4, 4, 64, 1024]⟩
abbrev S4x256x1024 : Shape := ⟨3, ![4, 256, 1024]⟩
abbrev S4x4x64x8x128 : Shape := ⟨5, ![4, 4, 64, 8, 128]⟩
abbrev S4x256x8x128 : Shape := ⟨4, ![4, 256, 8, 128]⟩
abbrev S1x256x128 : Shape := ⟨3, ![1, 256, 128]⟩
abbrev S256x128 : Shape := ⟨2, ![256, 128]⟩
abbrev S1x256x1x128 : Shape := ⟨4, ![1, 256, 1, 128]⟩
abbrev S256x256 : Shape := ⟨2, ![256, 256]⟩
abbrev S256 : Shape := ⟨1, ![256]⟩
abbrev S256x1 : Shape := ⟨2, ![256, 1]⟩
abbrev S256x1x128 : Shape := ⟨3, ![256, 1, 128]⟩
abbrev S256x8x128 : Shape := ⟨3, ![256, 8, 128]⟩
abbrev S256x8 : Shape := ⟨2, ![256, 8]⟩
abbrev S1 : Shape := ⟨1, ![1]⟩
abbrev S1x128x8x128 : Shape := ⟨4, ![1, 128, 8, 128]⟩
abbrev S128x8x128 : Shape := ⟨3, ![128, 8, 128]⟩
abbrev S1x128x8 : Shape := ⟨3, ![1, 128, 8]⟩
abbrev S128x8 : Shape := ⟨2, ![128, 8]⟩
abbrev S128x8x1 : Shape := ⟨3, ![128, 8, 1]⟩
abbrev S64x1024 : Shape := ⟨2, ![64, 1024]⟩
abbrev S1x64x1024 : Shape := ⟨3, ![1, 64, 1024]⟩
abbrev S1x128x1024 : Shape := ⟨3, ![1, 128, 1024]⟩

abbrev nBuf : Space → Nat
  | .hbm => 6
  | .vmem => 14
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x8x128, .bf16⟩
  | .hbm, ⟨3, _⟩ => ⟨S1x1024x8x128, .bf16⟩
  | .hbm, ⟨4, _⟩ => ⟨S1024x1024, .bf16⟩
  | .hbm, ⟨5, _⟩ => ⟨S1x1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1x1024x8x128, .bf16⟩
  | .local _ .vmem, ⟨3, _⟩ => ⟨S1x1024x8x128, .bf16⟩
  | .local _ .vmem, ⟨4, _⟩ => ⟨S1024x1024, .bf16⟩
  | .local _ .vmem, ⟨5, _⟩ => ⟨S1x1024x1024, .f32⟩
  | .local _ .vmem, ⟨6, _⟩ => ⟨S1024x8x128, .f32⟩
  | .local _ .vmem, ⟨7, _⟩ => ⟨S1024x8, .f32⟩
  | .local _ .vmem, ⟨8, _⟩ => ⟨S1024x8x128, .bf16⟩
  | .local _ .vmem, ⟨9, _⟩ => ⟨S1024x8, .bf16⟩
  | .local _ .vmem, ⟨10, _⟩ => ⟨S7x128x8x128, .bf16⟩
  | .local _ .vmem, ⟨11, _⟩ => ⟨S7x128x8, .bf16⟩
  | .local _ .vmem, ⟨12, _⟩ => ⟨S128x1024, .bf16⟩
  | .local _ .vmem, ⟨13, _⟩ => ⟨S7x128x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 2 → Bool
  | ⟨0, _⟩ => false
  | ⟨1, _⟩ => true
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 2 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_109 : BitVec 32 := 0#32
  let v199 : BitVec 1 := Scalar.cmpi .ne v2 c0_i32_109
  let v200 : BitVec 32 := Scalar.extui v199
  let c0_i32_110 : BitVec 32 := 0#32
  let v201 : BitVec 1 := Scalar.cmpi .ne v200 c0_i32_110
  v201

def k0_off1 (d0 : Dev nD) : Fin 1 → Nat :=
  let c0_i32_851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c0_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off2 (d0 : Dev nD) : Fin 4 → Nat :=
  let c0_i32_851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c0_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_858 : BitVec 32 := 0#32
  let c0_i32_859 : BitVec 32 := 0#32
  let c0_i32_860 : BitVec 32 := 0#32
  ![v1190.toNat, 0, 0, 0]
def k0_dev8 : Nat :=
  let c0_i32_857 : BitVec 32 := 0#32
  let c0_i32_855 : BitVec 32 := 0#32
  let c1_i32_856 : BitVec 32 := 1#32
  let v1191 : BitVec 32 := Scalar.muli c0_i32_855 c1_i32_856
  let v1192 : BitVec 32 := Scalar.addi c0_i32_857 v1191
  v1192.toNat
def k0_off3 (d0 : Dev nD) : Fin 3 → Nat :=
  let c0_i32_851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c0_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_867 : BitVec 32 := 0#32
  let c0_i32_868 : BitVec 32 := 0#32
  ![v1190.toNat, 0, 0]
def k0_dev9 : Nat :=
  let c0_i32_866 : BitVec 32 := 0#32
  let c0_i32_864 : BitVec 32 := 0#32
  let c1_i32_865 : BitVec 32 := 1#32
  let v1200 : BitVec 32 := Scalar.muli c0_i32_864 c1_i32_865
  let v1201 : BitVec 32 := Scalar.addi c0_i32_866 v1200
  v1201.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_111 : BitVec 32 := 1#32
  let v202 : BitVec 1 := Scalar.cmpi .ne v2 c1_i32_111
  let v203 : BitVec 32 := Scalar.extui v202
  let c0_i32_112 : BitVec 32 := 0#32
  let v204 : BitVec 1 := Scalar.cmpi .ne v203 c0_i32_112
  v204

def k0_off4 (d0 : Dev nD) : Fin 1 → Nat :=
  let c1_i32_851 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c1_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off5 (d0 : Dev nD) : Fin 4 → Nat :=
  let c1_i32_851 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c1_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_858 : BitVec 32 := 0#32
  let c0_i32_859 : BitVec 32 := 0#32
  let c0_i32_860 : BitVec 32 := 0#32
  ![v1190.toNat, 0, 0, 0]
def k0_dev10 : Nat :=
  let c0_i32_857 : BitVec 32 := 0#32
  let c1_i32_855 : BitVec 32 := 1#32
  let c1_i32_856 : BitVec 32 := 1#32
  let v1191 : BitVec 32 := Scalar.muli c1_i32_855 c1_i32_856
  let v1192 : BitVec 32 := Scalar.addi c0_i32_857 v1191
  v1192.toNat
def k0_off6 (d0 : Dev nD) : Fin 3 → Nat :=
  let c1_i32_851 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c1_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_867 : BitVec 32 := 0#32
  let c0_i32_868 : BitVec 32 := 0#32
  ![v1190.toNat, 0, 0]
def k0_dev11 : Nat :=
  let c0_i32_866 : BitVec 32 := 0#32
  let c1_i32_864 : BitVec 32 := 1#32
  let c1_i32_865 : BitVec 32 := 1#32
  let v1200 : BitVec 32 := Scalar.muli c1_i32_864 c1_i32_865
  let v1201 : BitVec 32 := Scalar.addi c0_i32_866 v1200
  v1201.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_186 : BitVec 32 := 2#32
  let v351 : BitVec 1 := Scalar.cmpi .ne v2 c2_i32_186
  let v352 : BitVec 32 := Scalar.extui v351
  let c0_i32_187 : BitVec 32 := 0#32
  let v353 : BitVec 1 := Scalar.cmpi .ne v352 c0_i32_187
  v353

def k0_off7 (d0 : Dev nD) : Fin 1 → Nat :=
  let c2_i32_851 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c2_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off8 (d0 : Dev nD) : Fin 4 → Nat :=
  let c2_i32_851 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c2_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_858 : BitVec 32 := 0#32
  let c0_i32_859 : BitVec 32 := 0#32
  let c0_i32_860 : BitVec 32 := 0#32
  ![v1190.toNat, 0, 0, 0]
def k0_dev12 : Nat :=
  let c0_i32_857 : BitVec 32 := 0#32
  let c2_i32_855 : BitVec 32 := 2#32
  let c1_i32_856 : BitVec 32 := 1#32
  let v1191 : BitVec 32 := Scalar.muli c2_i32_855 c1_i32_856
  let v1192 : BitVec 32 := Scalar.addi c0_i32_857 v1191
  v1192.toNat
def k0_off9 (d0 : Dev nD) : Fin 3 → Nat :=
  let c2_i32_851 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c2_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_867 : BitVec 32 := 0#32
  let c0_i32_868 : BitVec 32 := 0#32
  ![v1190.toNat, 0, 0]
def k0_dev13 : Nat :=
  let c0_i32_866 : BitVec 32 := 0#32
  let c2_i32_864 : BitVec 32 := 2#32
  let c1_i32_865 : BitVec 32 := 1#32
  let v1200 : BitVec 32 := Scalar.muli c2_i32_864 c1_i32_865
  let v1201 : BitVec 32 := Scalar.addi c0_i32_866 v1200
  v1201.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_188 : BitVec 32 := 3#32
  let v354 : BitVec 1 := Scalar.cmpi .ne v2 c3_i32_188
  let v355 : BitVec 32 := Scalar.extui v354
  let c0_i32_189 : BitVec 32 := 0#32
  let v356 : BitVec 1 := Scalar.cmpi .ne v355 c0_i32_189
  v356

def k0_off10 (d0 : Dev nD) : Fin 1 → Nat :=
  let c3_i32_851 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c3_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off11 (d0 : Dev nD) : Fin 4 → Nat :=
  let c3_i32_851 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c3_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_858 : BitVec 32 := 0#32
  let c0_i32_859 : BitVec 32 := 0#32
  let c0_i32_860 : BitVec 32 := 0#32
  ![v1190.toNat, 0, 0, 0]
def k0_dev14 : Nat :=
  let c0_i32_857 : BitVec 32 := 0#32
  let c3_i32_855 : BitVec 32 := 3#32
  let c1_i32_856 : BitVec 32 := 1#32
  let v1191 : BitVec 32 := Scalar.muli c3_i32_855 c1_i32_856
  let v1192 : BitVec 32 := Scalar.addi c0_i32_857 v1191
  v1192.toNat
def k0_off12 (d0 : Dev nD) : Fin 3 → Nat :=
  let c3_i32_851 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c3_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_866 : BitVec 32 := 0#32
  let c0_i32_867 : BitVec 32 := 0#32
  ![v1190.toNat, 0, 0]
def k0_dev15 : Nat :=
  let c0_i32_865 : BitVec 32 := 0#32
  let c3_i32_863 : BitVec 32 := 3#32
  let c1_i32_864 : BitVec 32 := 1#32
  let v1200 : BitVec 32 := Scalar.muli c3_i32_863 c1_i32_864
  let v1201 : BitVec 32 := Scalar.addi c0_i32_865 v1200
  v1201.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_263 : BitVec 32 := 4#32
  let v503 : BitVec 1 := Scalar.cmpi .ne v2 c4_i32_263
  let v504 : BitVec 32 := Scalar.extui v503
  let c0_i32_264 : BitVec 32 := 0#32
  let v505 : BitVec 1 := Scalar.cmpi .ne v504 c0_i32_264
  v505

def k0_off13 (d0 : Dev nD) : Fin 1 → Nat :=
  let c4_i32_851 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c4_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off14 (d0 : Dev nD) : Fin 4 → Nat :=
  let c4_i32_851 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c4_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_858 : BitVec 32 := 0#32
  let c0_i32_859 : BitVec 32 := 0#32
  let c0_i32_860 : BitVec 32 := 0#32
  ![v1190.toNat, 0, 0, 0]
def k0_dev16 : Nat :=
  let c0_i32_857 : BitVec 32 := 0#32
  let c4_i32_855 : BitVec 32 := 4#32
  let c1_i32_856 : BitVec 32 := 1#32
  let v1191 : BitVec 32 := Scalar.muli c4_i32_855 c1_i32_856
  let v1192 : BitVec 32 := Scalar.addi c0_i32_857 v1191
  v1192.toNat
def k0_off15 (d0 : Dev nD) : Fin 3 → Nat :=
  let c4_i32_851 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c4_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_866 : BitVec 32 := 0#32
  let c0_i32_867 : BitVec 32 := 0#32
  ![v1190.toNat, 0, 0]
def k0_dev17 : Nat :=
  let c0_i32_865 : BitVec 32 := 0#32
  let c4_i32_863 : BitVec 32 := 4#32
  let c1_i32_864 : BitVec 32 := 1#32
  let v1200 : BitVec 32 := Scalar.muli c4_i32_863 c1_i32_864
  let v1201 : BitVec 32 := Scalar.addi c0_i32_865 v1200
  v1201.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_265 : BitVec 32 := 5#32
  let v506 : BitVec 1 := Scalar.cmpi .ne v2 c5_i32_265
  let v507 : BitVec 32 := Scalar.extui v506
  let c0_i32_266 : BitVec 32 := 0#32
  let v508 : BitVec 1 := Scalar.cmpi .ne v507 c0_i32_266
  v508

def k0_off16 (d0 : Dev nD) : Fin 1 → Nat :=
  let c5_i32_851 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c5_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off17 (d0 : Dev nD) : Fin 4 → Nat :=
  let c5_i32_851 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c5_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_858 : BitVec 32 := 0#32
  let c0_i32_859 : BitVec 32 := 0#32
  let c0_i32_860 : BitVec 32 := 0#32
  ![v1190.toNat, 0, 0, 0]
def k0_dev18 : Nat :=
  let c0_i32_857 : BitVec 32 := 0#32
  let c5_i32_855 : BitVec 32 := 5#32
  let c1_i32_856 : BitVec 32 := 1#32
  let v1191 : BitVec 32 := Scalar.muli c5_i32_855 c1_i32_856
  let v1192 : BitVec 32 := Scalar.addi c0_i32_857 v1191
  v1192.toNat
def k0_off18 (d0 : Dev nD) : Fin 3 → Nat :=
  let c5_i32_851 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c5_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_866 : BitVec 32 := 0#32
  let c0_i32_867 : BitVec 32 := 0#32
  ![v1190.toNat, 0, 0]
def k0_dev19 : Nat :=
  let c0_i32_865 : BitVec 32 := 0#32
  let c5_i32_863 : BitVec 32 := 5#32
  let c1_i32_864 : BitVec 32 := 1#32
  let v1200 : BitVec 32 := Scalar.muli c5_i32_863 c1_i32_864
  let v1201 : BitVec 32 := Scalar.addi c0_i32_865 v1200
  v1201.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_340 : BitVec 32 := 6#32
  let v655 : BitVec 1 := Scalar.cmpi .ne v2 c6_i32_340
  let v656 : BitVec 32 := Scalar.extui v655
  let c0_i32_341 : BitVec 32 := 0#32
  let v657 : BitVec 1 := Scalar.cmpi .ne v656 c0_i32_341
  v657

def k0_off19 (d0 : Dev nD) : Fin 1 → Nat :=
  let c6_i32_851 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c6_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off20 (d0 : Dev nD) : Fin 4 → Nat :=
  let c6_i32_851 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c6_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_858 : BitVec 32 := 0#32
  let c0_i32_859 : BitVec 32 := 0#32
  let c0_i32_860 : BitVec 32 := 0#32
  ![v1190.toNat, 0, 0, 0]
def k0_dev20 : Nat :=
  let c0_i32_857 : BitVec 32 := 0#32
  let c6_i32_855 : BitVec 32 := 6#32
  let c1_i32_856 : BitVec 32 := 1#32
  let v1191 : BitVec 32 := Scalar.muli c6_i32_855 c1_i32_856
  let v1192 : BitVec 32 := Scalar.addi c0_i32_857 v1191
  v1192.toNat
def k0_off21 (d0 : Dev nD) : Fin 3 → Nat :=
  let c6_i32_851 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c6_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_866 : BitVec 32 := 0#32
  let c0_i32_867 : BitVec 32 := 0#32
  ![v1190.toNat, 0, 0]
def k0_dev21 : Nat :=
  let c0_i32_865 : BitVec 32 := 0#32
  let c6_i32_863 : BitVec 32 := 6#32
  let c1_i32_864 : BitVec 32 := 1#32
  let v1200 : BitVec 32 := Scalar.muli c6_i32_863 c1_i32_864
  let v1201 : BitVec 32 := Scalar.addi c0_i32_865 v1200
  v1201.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_342 : BitVec 32 := 7#32
  let v658 : BitVec 1 := Scalar.cmpi .ne v2 c7_i32_342
  let v659 : BitVec 32 := Scalar.extui v658
  let c0_i32_343 : BitVec 32 := 0#32
  let v660 : BitVec 1 := Scalar.cmpi .ne v659 c0_i32_343
  v660

def k0_off22 (d0 : Dev nD) : Fin 1 → Nat :=
  let c7_i32_851 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c7_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off23 (d0 : Dev nD) : Fin 4 → Nat :=
  let c7_i32_851 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c7_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_858 : BitVec 32 := 0#32
  let c0_i32_859 : BitVec 32 := 0#32
  let c0_i32_860 : BitVec 32 := 0#32
  ![v1190.toNat, 0, 0, 0]
def k0_dev22 : Nat :=
  let c0_i32_857 : BitVec 32 := 0#32
  let c7_i32_855 : BitVec 32 := 7#32
  let c1_i32_856 : BitVec 32 := 1#32
  let v1191 : BitVec 32 := Scalar.muli c7_i32_855 c1_i32_856
  let v1192 : BitVec 32 := Scalar.addi c0_i32_857 v1191
  v1192.toNat
def k0_off24 (d0 : Dev nD) : Fin 3 → Nat :=
  let c7_i32_851 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c7_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_866 : BitVec 32 := 0#32
  let c0_i32_867 : BitVec 32 := 0#32
  ![v1190.toNat, 0, 0]
def k0_dev23 : Nat :=
  let c0_i32_865 : BitVec 32 := 0#32
  let c7_i32_863 : BitVec 32 := 7#32
  let c1_i32_864 : BitVec 32 := 1#32
  let v1200 : BitVec 32 := Scalar.muli c7_i32_863 c1_i32_864
  let v1201 : BitVec 32 := Scalar.addi c0_i32_865 v1200
  v1201.toNat
def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v766 : BitVec 32 := Scalar.muli v2 c128_i32
  let v767 : Index := Scalar.indexCast v766
  let c0_491 : Index := 0#32
  let c0_492 : Index := 0#32
  ![v767.toNat, 0, 0]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v766 : BitVec 32 := Scalar.muli v2 c128_i32
  let v769 : Index := Scalar.indexCast v766
  let c0_493 : Index := 0#32
  ![v769.toNat, 0]
def k0_off27 (d0 : Dev nD) : Fin 3 → Nat :=
  let c0_551 : Index := 0#32
  let c8_i32_549 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_548 : BitVec 32 := 2#32
  let v839 : BitVec 32 := Scalar.remsi v2 c2_i32_548
  let v840 : BitVec 32 := Scalar.muli c8_i32_549 v839
  let c2_i32_550 : BitVec 32 := 2#32
  let v841 : BitVec 32 := Scalar.divsi v2 c2_i32_550
  let v842 : BitVec 32 := Scalar.addi v840 v841
  let c64_i32 : BitVec 32 := 64#32
  let v843 : BitVec 32 := Scalar.muli v842 c64_i32
  let v845 : Index := Scalar.indexCast v843
  let c0_552 : Index := 0#32
  ![0, v845.toNat, 0]
def k0_off28 (d0 : Dev nD) : Fin 3 → Nat :=
  let c0_553 : Index := 0#32
  let c8_i32_549 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_548 : BitVec 32 := 2#32
  let v839 : BitVec 32 := Scalar.remsi v2 c2_i32_548
  let v840 : BitVec 32 := Scalar.muli c8_i32_549 v839
  let c2_i32_550 : BitVec 32 := 2#32
  let v841 : BitVec 32 := Scalar.divsi v2 c2_i32_550
  let v842 : BitVec 32 := Scalar.addi v840 v841
  let c64_i32 : BitVec 32 := 64#32
  let v843 : BitVec 32 := Scalar.muli v842 c64_i32
  let c256_i32 : BitVec 32 := 256#32
  let v850 : BitVec 32 := Scalar.addi v843 c256_i32
  let v851 : Index := Scalar.indexCast v850
  let c0_554 : Index := 0#32
  ![0, v851.toNat, 0]
def k0_dev24 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_555 : BitVec 32 := 1#32
  let v855 : BitVec 32 := Scalar.addi v2 c1_i32_555
  let c8_i32_556 : BitVec 32 := 8#32
  let v856 : BitVec 32 := Scalar.remsi v855 c8_i32_556
  let c1_i32_560 : BitVec 32 := 1#32
  let v857 : BitVec 32 := Scalar.muli v856 c1_i32_560
  let v858 : BitVec 32 := Scalar.addi c0_i32_561 v857
  v858.toNat
def k0_dev25 (d0 : Dev nD) : Nat :=
  let c0_i32_570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_564 : BitVec 32 := 2#32
  let v865 : BitVec 32 := Scalar.addi v2 c2_i32_564
  let c8_i32_565 : BitVec 32 := 8#32
  let v866 : BitVec 32 := Scalar.remsi v865 c8_i32_565
  let c1_i32_569 : BitVec 32 := 1#32
  let v867 : BitVec 32 := Scalar.muli v866 c1_i32_569
  let v868 : BitVec 32 := Scalar.addi c0_i32_570 v867
  v868.toNat
def k0_dev26 (d0 : Dev nD) : Nat :=
  let c0_i32_579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_573 : BitVec 32 := 3#32
  let v875 : BitVec 32 := Scalar.addi v2 c3_i32_573
  let c8_i32_574 : BitVec 32 := 8#32
  let v876 : BitVec 32 := Scalar.remsi v875 c8_i32_574
  let c1_i32_578 : BitVec 32 := 1#32
  let v877 : BitVec 32 := Scalar.muli v876 c1_i32_578
  let v878 : BitVec 32 := Scalar.addi c0_i32_579 v877
  v878.toNat
def k0_dev27 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_582 : BitVec 32 := 4#32
  let v885 : BitVec 32 := Scalar.addi v2 c4_i32_582
  let c8_i32_583 : BitVec 32 := 8#32
  let v886 : BitVec 32 := Scalar.remsi v885 c8_i32_583
  let c1_i32_587 : BitVec 32 := 1#32
  let v887 : BitVec 32 := Scalar.muli v886 c1_i32_587
  let v888 : BitVec 32 := Scalar.addi c0_i32_588 v887
  v888.toNat
def k0_dev28 (d0 : Dev nD) : Nat :=
  let c0_i32_597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_591 : BitVec 32 := 5#32
  let v895 : BitVec 32 := Scalar.addi v2 c5_i32_591
  let c8_i32_592 : BitVec 32 := 8#32
  let v896 : BitVec 32 := Scalar.remsi v895 c8_i32_592
  let c1_i32_596 : BitVec 32 := 1#32
  let v897 : BitVec 32 := Scalar.muli v896 c1_i32_596
  let v898 : BitVec 32 := Scalar.addi c0_i32_597 v897
  v898.toNat
def k0_dev29 (d0 : Dev nD) : Nat :=
  let c0_i32_606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_600 : BitVec 32 := 6#32
  let v905 : BitVec 32 := Scalar.addi v2 c6_i32_600
  let c8_i32_601 : BitVec 32 := 8#32
  let v906 : BitVec 32 := Scalar.remsi v905 c8_i32_601
  let c1_i32_605 : BitVec 32 := 1#32
  let v907 : BitVec 32 := Scalar.muli v906 c1_i32_605
  let v908 : BitVec 32 := Scalar.addi c0_i32_606 v907
  v908.toNat
def k0_dev30 (d0 : Dev nD) : Nat :=
  let c0_i32_615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_609 : BitVec 32 := 7#32
  let v915 : BitVec 32 := Scalar.addi v2 c7_i32_609
  let c8_i32_610 : BitVec 32 := 8#32
  let v916 : BitVec 32 := Scalar.remsi v915 c8_i32_610
  let c1_i32_614 : BitVec 32 := 1#32
  let v917 : BitVec 32 := Scalar.muli v916 c1_i32_614
  let v918 : BitVec 32 := Scalar.addi c0_i32_615 v917
  v918.toNat
def k0_off29 (d0 : Dev nD) (c0_i32_629 : BitVec 32) : Fin 3 → Nat :=
  let c0_638 : Index := 0#32
  let c8_i32_635 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_628 : BitVec 32 := 1#32
  let v933 : BitVec 32 := Scalar.addi v2 c1_i32_628
  let v934 : BitVec 32 := Scalar.addi v933 c0_i32_629
  let c8_i32_630 : BitVec 32 := 8#32
  let v935 : BitVec 32 := Scalar.remsi v934 c8_i32_630
  let c2_i32_634 : BitVec 32 := 2#32
  let v939 : BitVec 32 := Scalar.remsi v935 c2_i32_634
  let v940 : BitVec 32 := Scalar.muli c8_i32_635 v939
  let c2_i32_636 : BitVec 32 := 2#32
  let v941 : BitVec 32 := Scalar.divsi v935 c2_i32_636
  let v942 : BitVec 32 := Scalar.addi v940 v941
  let c64_i32_637 : BitVec 32 := 64#32
  let v943 : BitVec 32 := Scalar.muli v942 c64_i32_637
  let v945 : Index := Scalar.indexCast v943
  let c0_639 : Index := 0#32
  ![0, v945.toNat, 0]
def k0_off30 (d0 : Dev nD) (c0_i32_629 : BitVec 32) : Fin 3 → Nat :=
  let c0_641 : Index := 0#32
  let c8_i32_635 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_628 : BitVec 32 := 1#32
  let v933 : BitVec 32 := Scalar.addi v2 c1_i32_628
  let v934 : BitVec 32 := Scalar.addi v933 c0_i32_629
  let c8_i32_630 : BitVec 32 := 8#32
  let v935 : BitVec 32 := Scalar.remsi v934 c8_i32_630
  let c2_i32_634 : BitVec 32 := 2#32
  let v939 : BitVec 32 := Scalar.remsi v935 c2_i32_634
  let v940 : BitVec 32 := Scalar.muli c8_i32_635 v939
  let c2_i32_636 : BitVec 32 := 2#32
  let v941 : BitVec 32 := Scalar.divsi v935 c2_i32_636
  let v942 : BitVec 32 := Scalar.addi v940 v941
  let c64_i32_637 : BitVec 32 := 64#32
  let v943 : BitVec 32 := Scalar.muli v942 c64_i32_637
  let c256_i32_640 : BitVec 32 := 256#32
  let v950 : BitVec 32 := Scalar.addi v943 c256_i32_640
  let v951 : Index := Scalar.indexCast v950
  let c0_642 : Index := 0#32
  ![0, v951.toNat, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_793 : BitVec 32 := 0#32
  let v1135 : BitVec 1 := Scalar.cmpi .ne v2 c0_i32_793
  let v1136 : BitVec 32 := Scalar.extui v1135
  let c0_i32_794 : BitVec 32 := 0#32
  let v1137 : BitVec 1 := Scalar.cmpi .ne v1136 c0_i32_794
  v1137

def k0_off31 (d0 : Dev nD) : Fin 1 → Nat :=
  let c0_i32_851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c0_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off32 (d0 : Dev nD) : Fin 4 → Nat :=
  let c0_i32_851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c0_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_860 : BitVec 32 := 0#32
  let c0_i32_861 : BitVec 32 := 0#32
  let c0_i32_862 : BitVec 32 := 0#32
  ![v1190.toNat, 0, 0, 0]
def k0_off33 (d0 : Dev nD) : Fin 3 → Nat :=
  let c0_i32_851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c0_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_867 : BitVec 32 := 0#32
  let c0_i32_868 : BitVec 32 := 0#32
  ![v1190.toNat, 0, 0]
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_795 : BitVec 32 := 1#32
  let v1138 : BitVec 1 := Scalar.cmpi .ne v2 c1_i32_795
  let v1139 : BitVec 32 := Scalar.extui v1138
  let c0_i32_796 : BitVec 32 := 0#32
  let v1140 : BitVec 1 := Scalar.cmpi .ne v1139 c0_i32_796
  v1140

def k0_off34 (d0 : Dev nD) : Fin 1 → Nat :=
  let c1_i32_851 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c1_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off35 (d0 : Dev nD) : Fin 4 → Nat :=
  let c1_i32_851 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c1_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_860 : BitVec 32 := 0#32
  let c0_i32_861 : BitVec 32 := 0#32
  let c0_i32_862 : BitVec 32 := 0#32
  ![v1190.toNat, 0, 0, 0]
def k0_off36 (d0 : Dev nD) : Fin 3 → Nat :=
  let c1_i32_851 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c1_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_867 : BitVec 32 := 0#32
  let c0_i32_868 : BitVec 32 := 0#32
  ![v1190.toNat, 0, 0]
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_797 : BitVec 32 := 2#32
  let v1141 : BitVec 1 := Scalar.cmpi .ne v2 c2_i32_797
  let v1142 : BitVec 32 := Scalar.extui v1141
  let c0_i32_798 : BitVec 32 := 0#32
  let v1143 : BitVec 1 := Scalar.cmpi .ne v1142 c0_i32_798
  v1143

def k0_off37 (d0 : Dev nD) : Fin 1 → Nat :=
  let c2_i32_851 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c2_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off38 (d0 : Dev nD) : Fin 4 → Nat :=
  let c2_i32_851 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c2_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_860 : BitVec 32 := 0#32
  let c0_i32_861 : BitVec 32 := 0#32
  let c0_i32_862 : BitVec 32 := 0#32
  ![v1190.toNat, 0, 0, 0]
def k0_off39 (d0 : Dev nD) : Fin 3 → Nat :=
  let c2_i32_851 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c2_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_867 : BitVec 32 := 0#32
  let c0_i32_868 : BitVec 32 := 0#32
  ![v1190.toNat, 0, 0]
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_799 : BitVec 32 := 3#32
  let v1144 : BitVec 1 := Scalar.cmpi .ne v2 c3_i32_799
  let v1145 : BitVec 32 := Scalar.extui v1144
  let c0_i32_800 : BitVec 32 := 0#32
  let v1146 : BitVec 1 := Scalar.cmpi .ne v1145 c0_i32_800
  v1146

def k0_off40 (d0 : Dev nD) : Fin 1 → Nat :=
  let c3_i32_851 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c3_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off41 (d0 : Dev nD) : Fin 4 → Nat :=
  let c3_i32_851 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c3_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_859 : BitVec 32 := 0#32
  let c0_i32_860 : BitVec 32 := 0#32
  let c0_i32_861 : BitVec 32 := 0#32
  ![v1190.toNat, 0, 0, 0]
def k0_off42 (d0 : Dev nD) : Fin 3 → Nat :=
  let c3_i32_851 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c3_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_866 : BitVec 32 := 0#32
  let c0_i32_867 : BitVec 32 := 0#32
  ![v1190.toNat, 0, 0]
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_801 : BitVec 32 := 4#32
  let v1147 : BitVec 1 := Scalar.cmpi .ne v2 c4_i32_801
  let v1148 : BitVec 32 := Scalar.extui v1147
  let c0_i32_802 : BitVec 32 := 0#32
  let v1149 : BitVec 1 := Scalar.cmpi .ne v1148 c0_i32_802
  v1149

def k0_off43 (d0 : Dev nD) : Fin 1 → Nat :=
  let c4_i32_851 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c4_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off44 (d0 : Dev nD) : Fin 4 → Nat :=
  let c4_i32_851 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c4_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_859 : BitVec 32 := 0#32
  let c0_i32_860 : BitVec 32 := 0#32
  let c0_i32_861 : BitVec 32 := 0#32
  ![v1190.toNat, 0, 0, 0]
def k0_off45 (d0 : Dev nD) : Fin 3 → Nat :=
  let c4_i32_851 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c4_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_866 : BitVec 32 := 0#32
  let c0_i32_867 : BitVec 32 := 0#32
  ![v1190.toNat, 0, 0]
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_803 : BitVec 32 := 5#32
  let v1150 : BitVec 1 := Scalar.cmpi .ne v2 c5_i32_803
  let v1151 : BitVec 32 := Scalar.extui v1150
  let c0_i32_804 : BitVec 32 := 0#32
  let v1152 : BitVec 1 := Scalar.cmpi .ne v1151 c0_i32_804
  v1152

def k0_off46 (d0 : Dev nD) : Fin 1 → Nat :=
  let c5_i32_851 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c5_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off47 (d0 : Dev nD) : Fin 4 → Nat :=
  let c5_i32_851 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c5_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_859 : BitVec 32 := 0#32
  let c0_i32_860 : BitVec 32 := 0#32
  let c0_i32_861 : BitVec 32 := 0#32
  ![v1190.toNat, 0, 0, 0]
def k0_off48 (d0 : Dev nD) : Fin 3 → Nat :=
  let c5_i32_851 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c5_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_866 : BitVec 32 := 0#32
  let c0_i32_867 : BitVec 32 := 0#32
  ![v1190.toNat, 0, 0]
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_805 : BitVec 32 := 6#32
  let v1153 : BitVec 1 := Scalar.cmpi .ne v2 c6_i32_805
  let v1154 : BitVec 32 := Scalar.extui v1153
  let c0_i32_806 : BitVec 32 := 0#32
  let v1155 : BitVec 1 := Scalar.cmpi .ne v1154 c0_i32_806
  v1155

def k0_off49 (d0 : Dev nD) : Fin 1 → Nat :=
  let c6_i32_851 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c6_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off50 (d0 : Dev nD) : Fin 4 → Nat :=
  let c6_i32_851 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c6_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_859 : BitVec 32 := 0#32
  let c0_i32_860 : BitVec 32 := 0#32
  let c0_i32_861 : BitVec 32 := 0#32
  ![v1190.toNat, 0, 0, 0]
def k0_off51 (d0 : Dev nD) : Fin 3 → Nat :=
  let c6_i32_851 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c6_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_866 : BitVec 32 := 0#32
  let c0_i32_867 : BitVec 32 := 0#32
  ![v1190.toNat, 0, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_807 : BitVec 32 := 7#32
  let v1156 : BitVec 1 := Scalar.cmpi .ne v2 c7_i32_807
  let v1157 : BitVec 32 := Scalar.extui v1156
  let c0_i32_808 : BitVec 32 := 0#32
  let v1158 : BitVec 1 := Scalar.cmpi .ne v1157 c0_i32_808
  v1158

def k0_off52 (d0 : Dev nD) : Fin 1 → Nat :=
  let c7_i32_851 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c7_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  ![v1190.toNat]
def k0_off53 (d0 : Dev nD) : Fin 4 → Nat :=
  let c7_i32_851 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c7_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_859 : BitVec 32 := 0#32
  let c0_i32_860 : BitVec 32 := 0#32
  let c0_i32_861 : BitVec 32 := 0#32
  ![v1190.toNat, 0, 0, 0]
def k0_off54 (d0 : Dev nD) : Fin 3 → Nat :=
  let c7_i32_851 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1187 : BitVec 32 := Scalar.subi c7_i32_851 v2
  let c1_i32_852 : BitVec 32 := 1#32
  let v1188 : BitVec 32 := Scalar.subi v1187 c1_i32_852
  let c8_i32_853 : BitVec 32 := 8#32
  let v1189 : BitVec 32 := Scalar.addi v1188 c8_i32_853
  let c8_i32_854 : BitVec 32 := 8#32
  let v1190 : BitVec 32 := Scalar.remsi v1189 c8_i32_854
  let c0_i32_866 : BitVec 32 := 0#32
  let c0_i32_867 : BitVec 32 := 0#32
  ![v1190.toNat, 0, 0]
def k0_dev31 (d0 : Dev nD) : Nat :=
  let c0_i32_855_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_851_r0 : BitVec 32 := 1#32
  let v1188_r0 : BitVec 32 := Scalar.addi v2 c1_i32_851_r0
  let c8_i32_852_r0 : BitVec 32 := 8#32
  let v1189_r0 : BitVec 32 := Scalar.remsi v1188_r0 c8_i32_852_r0
  let c1_i32_854_r0 : BitVec 32 := 1#32
  let v1190_r0 : BitVec 32 := Scalar.muli v1189_r0 c1_i32_854_r0
  let v1191_r0 : BitVec 32 := Scalar.addi c0_i32_855_r0 v1190_r0
  v1191_r0.toNat
def k0_dev32 (d0 : Dev nD) : Nat :=
  let c0_i32_860_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_856_r0 : BitVec 32 := 2#32
  let v1192_r0 : BitVec 32 := Scalar.addi v2 c2_i32_856_r0
  let c8_i32_857_r0 : BitVec 32 := 8#32
  let v1193_r0 : BitVec 32 := Scalar.remsi v1192_r0 c8_i32_857_r0
  let c1_i32_859_r0 : BitVec 32 := 1#32
  let v1194_r0 : BitVec 32 := Scalar.muli v1193_r0 c1_i32_859_r0
  let v1195_r0 : BitVec 32 := Scalar.addi c0_i32_860_r0 v1194_r0
  v1195_r0.toNat
def k0_dev33 (d0 : Dev nD) : Nat :=
  let c0_i32_865_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_861_r0 : BitVec 32 := 3#32
  let v1196_r0 : BitVec 32 := Scalar.addi v2 c3_i32_861_r0
  let c8_i32_862_r0 : BitVec 32 := 8#32
  let v1197_r0 : BitVec 32 := Scalar.remsi v1196_r0 c8_i32_862_r0
  let c1_i32_864_r0 : BitVec 32 := 1#32
  let v1198_r0 : BitVec 32 := Scalar.muli v1197_r0 c1_i32_864_r0
  let v1199_r0 : BitVec 32 := Scalar.addi c0_i32_865_r0 v1198_r0
  v1199_r0.toNat
def k0_dev34 (d0 : Dev nD) : Nat :=
  let c0_i32_870_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_866_r0 : BitVec 32 := 4#32
  let v1200_r0 : BitVec 32 := Scalar.addi v2 c4_i32_866_r0
  let c8_i32_867_r0 : BitVec 32 := 8#32
  let v1201_r0 : BitVec 32 := Scalar.remsi v1200_r0 c8_i32_867_r0
  let c1_i32_869_r0 : BitVec 32 := 1#32
  let v1202_r0 : BitVec 32 := Scalar.muli v1201_r0 c1_i32_869_r0
  let v1203_r0 : BitVec 32 := Scalar.addi c0_i32_870_r0 v1202_r0
  v1203_r0.toNat
def k0_dev35 (d0 : Dev nD) : Nat :=
  let c0_i32_875_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_871_r0 : BitVec 32 := 5#32
  let v1204_r0 : BitVec 32 := Scalar.addi v2 c5_i32_871_r0
  let c8_i32_872_r0 : BitVec 32 := 8#32
  let v1205_r0 : BitVec 32 := Scalar.remsi v1204_r0 c8_i32_872_r0
  let c1_i32_874_r0 : BitVec 32 := 1#32
  let v1206_r0 : BitVec 32 := Scalar.muli v1205_r0 c1_i32_874_r0
  let v1207_r0 : BitVec 32 := Scalar.addi c0_i32_875_r0 v1206_r0
  v1207_r0.toNat
def k0_dev36 (d0 : Dev nD) : Nat :=
  let c0_i32_880_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_876_r0 : BitVec 32 := 6#32
  let v1208_r0 : BitVec 32 := Scalar.addi v2 c6_i32_876_r0
  let c8_i32_877_r0 : BitVec 32 := 8#32
  let v1209_r0 : BitVec 32 := Scalar.remsi v1208_r0 c8_i32_877_r0
  let c1_i32_879_r0 : BitVec 32 := 1#32
  let v1210_r0 : BitVec 32 := Scalar.muli v1209_r0 c1_i32_879_r0
  let v1211_r0 : BitVec 32 := Scalar.addi c0_i32_880_r0 v1210_r0
  v1211_r0.toNat
def k0_dev37 (d0 : Dev nD) : Nat :=
  let c0_i32_885_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_881_r0 : BitVec 32 := 7#32
  let v1212_r0 : BitVec 32 := Scalar.addi v2 c7_i32_881_r0
  let c8_i32_882_r0 : BitVec 32 := 8#32
  let v1213_r0 : BitVec 32 := Scalar.remsi v1212_r0 c8_i32_882_r0
  let c1_i32_884_r0 : BitVec 32 := 1#32
  let v1214_r0 : BitVec 32 := Scalar.muli v1213_r0 c1_i32_884_r0
  let v1215_r0 : BitVec 32 := Scalar.addi c0_i32_885_r0 v1214_r0
  v1215_r0.toNat
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x1024 : Shape := ⟨2, ![1024, 1024]⟩
abbrev S1x8192x8x128 : Shape := ⟨4, ![1, 8192, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S8192 : Shape := ⟨1, ![8192]⟩
abbrev S1x8192 : Shape := ⟨2, ![1, 8192]⟩
abbrev S1024x8192 : Shape := ⟨2, ![1024, 8192]⟩
abbrev S1x8x1024x8192 : Shape := ⟨4, ![1, 8, 1024, 8192]⟩
abbrev S1x1x1024x8192 : Shape := ⟨4, ![1, 1, 1024, 8192]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 140
  | .vmem => 0
  | .smem => 0
  | _ => 0

abbrev hbmTy0_0 (i : Nat) : BufTy := match i % 128 with
  | 0 => ⟨S1x1024x1024, .bf16⟩
  | 1 => ⟨S1024x1024, .bf16⟩
  | 2 => ⟨S1x8192x8x128, .bf16⟩
  | 3 => ⟨S1x8192x8x128, .bf16⟩
  | 4 => ⟨S1024x1024, .bf16⟩
  | 5 => ⟨S1x1024x1024, .f32⟩
  | 6 => ⟨S1x1024x1024, .bf16⟩
  | 7 => ⟨S1x1024x8x128, .bf16⟩
  | 8 => ⟨S1024, .i32⟩
  | 9 => ⟨S_, .i32⟩
  | 10 => ⟨S_, .i32⟩
  | 11 => ⟨S1024, .i32⟩
  | 12 => ⟨S1024, .i32⟩
  | 13 => ⟨S1024, .i32⟩
  | 14 => ⟨S_, .i32⟩
  | 15 => ⟨S1024, .i32⟩
  | 16 => ⟨S1024, .i1⟩
  | 17 => ⟨S1024, .i32⟩
  | 18 => ⟨S1024, .i32⟩
  | 19 => ⟨S_, .i32⟩
  | 20 => ⟨S1024, .i32⟩
  | 21 => ⟨S1024, .i1⟩
  | 22 => ⟨S1024, .i1⟩
  | 23 => ⟨S_, .i32⟩
  | 24 => ⟨S1024, .i32⟩
  | 25 => ⟨S1024, .i32⟩
  | 26 => ⟨S1024, .i32⟩
  | 27 => ⟨S1024x1, .i32⟩
  | 28 => ⟨S8192, .i32⟩
  | 29 => ⟨S_, .i32⟩
  | 30 => ⟨S_, .i32⟩
  | 31 => ⟨S8192, .i32⟩
  | 32 => ⟨S8192, .i32⟩
  | 33 => ⟨S8192, .i32⟩
  | 34 => ⟨S_, .i32⟩
  | 35 => ⟨S8192, .i32⟩
  | 36 => ⟨S8192, .i1⟩
  | 37 => ⟨S8192, .i32⟩
  | 38 => ⟨S8192, .i32⟩
  | 39 => ⟨S_, .i32⟩
  | 40 => ⟨S8192, .i32⟩
  | 41 => ⟨S8192, .i1⟩
  | 42 => ⟨S8192, .i1⟩
  | 43 => ⟨S_, .i32⟩
  | 44 => ⟨S8192, .i32⟩
  | 45 => ⟨S8192, .i32⟩
  | 46 => ⟨S8192, .i32⟩
  | 47 => ⟨S1x8192, .i32⟩
  | 48 => ⟨S1024x8192, .i32⟩
  | 49 => ⟨S1024x8192, .i32⟩
  | 50 => ⟨S1024x8192, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x8192, .i32⟩
  | 58 => ⟨S1x8192, .i32⟩
  | 59 => ⟨S_, .i32⟩
  | 60 => ⟨S1x8192, .i32⟩
  | 61 => ⟨S1x8192, .i1⟩
  | 62 => ⟨S_, .i32⟩
  | 63 => ⟨S1x8192, .i32⟩
  | 64 => ⟨S1x8192, .i1⟩
  | 65 => ⟨S_, .i32⟩
  | 66 => ⟨S_, .i1⟩
  | 67 => ⟨S1x8192, .i1⟩
  | 68 => ⟨S1x8192, .i1⟩
  | 69 => ⟨S1x8192, .i1⟩
  | 70 => ⟨S1x8192, .i32⟩
  | 71 => ⟨S1x8192, .i32⟩
  | 72 => ⟨S1x8192, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S1024x1, .i32⟩
  | 80 => ⟨S1024x1, .i32⟩
  | 81 => ⟨S_, .i32⟩
  | 82 => ⟨S1024x1, .i32⟩
  | 83 => ⟨S1024x1, .i1⟩
  | 84 => ⟨S_, .i32⟩
  | 85 => ⟨S1024x1, .i32⟩
  | 86 => ⟨S1024x1, .i1⟩
  | 87 => ⟨S_, .i32⟩
  | 88 => ⟨S_, .i1⟩
  | 89 => ⟨S1024x1, .i1⟩
  | 90 => ⟨S1024x1, .i1⟩
  | 91 => ⟨S1024x1, .i1⟩
  | 92 => ⟨S1024x1, .i32⟩
  | 93 => ⟨S1024x1, .i32⟩
  | 94 => ⟨S1024x1, .i32⟩
  | 95 => ⟨S1024x8192, .i32⟩
  | 96 => ⟨S1024x8192, .i32⟩
  | 97 => ⟨S1024x8192, .i1⟩
  | 98 => ⟨S1024x8192, .i1⟩
  | 99 => ⟨S1x8x1024x8192, .f32⟩
  | 100 => ⟨S1x8x1024x8192, .bf16⟩
  | 101 => ⟨S1x8x1024x8192, .f32⟩
  | 102 => ⟨S_, .f32⟩
  | 103 => ⟨S1x8x1024x8192, .f32⟩
  | 104 => ⟨S1x8x1024x8192, .f32⟩
  | 105 => ⟨S1x1x1024x8192, .i1⟩
  | 106 => ⟨S_, .f32⟩
  | 107 => ⟨S_, .f32⟩
  | 108 => ⟨S1x8x1024x8192, .i1⟩
  | 109 => ⟨S1x8x1024x8192, .f32⟩
  | 110 => ⟨S1x8x1024x8192, .f32⟩
  | 111 => ⟨S_, .f32⟩
  | 112 => ⟨S1x8x1024, .f32⟩
  | 113 => ⟨S1x8x1024x1, .f32⟩
  | 114 => ⟨S1x8x1024x8192, .f32⟩
  | 115 => ⟨S1x8x1024x8192, .f32⟩
  | 116 => ⟨S1x8x1024x8192, .f32⟩
  | 117 => ⟨S_, .i1⟩
  | 118 => ⟨S1024, .i1⟩
  | 119 => ⟨S1x1x1024x1, .i1⟩
  | 120 => ⟨S_, .f32⟩
  | 121 => ⟨S1x8x1024, .f32⟩
  | 122 => ⟨S1x8x1024x1, .f32⟩
  | 123 => ⟨S_, .f32⟩
  | 124 => ⟨S_, .f32⟩
  | 125 => ⟨S1x8x1024x1, .i1⟩
  | 126 => ⟨S1x8x1024x1, .f32⟩
  | 127 => ⟨S1x8x1024x1, .f32⟩
  | _ => ⟨S1x1024x1024, .bf16⟩

abbrev hbmTy0_1 (i : Nat) : BufTy := match i % 128 with
  | 0 => ⟨S1x8x1024x8192, .f32⟩
  | 1 => ⟨S1x8x1024x8192, .f32⟩
  | 2 => ⟨S1x1x1024x1, .i1⟩
  | 3 => ⟨S_, .f32⟩
  | 4 => ⟨S_, .f32⟩
  | 5 => ⟨S1x8x1024x8192, .i1⟩
  | 6 => ⟨S1x8x1024x8192, .f32⟩
  | 7 => ⟨S1x8x1024x8192, .f32⟩
  | 8 => ⟨S1x8x128x1024, .f32⟩
  | 9 => ⟨S1x1024x8x128, .f32⟩
  | 10 => ⟨S1x1024x1024, .f32⟩
  | 11 => ⟨S1x1024x1024, .f32⟩
  | _ => ⟨S1x1024x1024, .bf16⟩

abbrev hbmTy (i : Nat) : BufTy := match i / 128 with
  | 0 => hbmTy0_0 i
  | 1 => hbmTy0_1 i
  | _ => ⟨S1x1024x1024, .bf16⟩

abbrev bufTy : (tb : Table) → Fin (tcTables nBuf tb) → BufTy
  | .hbm, ⟨i, _⟩ => hbmTy i
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩

abbrev nD : Nat := 1
abbrev τ : Topo := Topo.v7x

variable {F : FTy → Type} [FloatOps F]
-- ==== Proof.KernelIdealRun.Vals.lean ====
/- The arrays the exchange carries, as functions of the arrays the eight devices start from. -/
module

public import proofs.«01_k».proof.Proof.Gen.KernelIdeal.Skeleton

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F]

/-- The five arrays each device starts from. -/
structure Ins (F : FTy → Type) where
  x : Dev nD → Vec F S1x1024x1024 .bf16
  wq : Dev nD → Vec F S1024x1024 .bf16
  k : Dev nD → Vec F S1x1024x8x128 .bf16
  v : Dev nD → Vec F S1x1024x8x128 .bf16
  wo : Dev nD → Vec F S1024x1024 .bf16

/-! ## Peers and slots -/

/-- The peer that `c` sends its partial sums to through slot `j`. -/
def nxt (c : Dev nD) (j : Fin 7) : Dev nD := ⟨(c.val + 1 + j.val) % 8, Nat.mod_lt _ (by decide)⟩
/-- The peer whose partial sums land in slot `j` of `c`. -/
def prv (c : Dev nD) (j : Fin 7) : Dev nD := ⟨(c.val + 7 - j.val) % 8, Nat.mod_lt _ (by decide)⟩
/-- The slot `c` reaches `t` through. -/
def sl (c t : Dev nD) : Fin 7 := ⟨(t.val + 7 - c.val) % 8 % 7, Nat.mod_lt _ (by decide)⟩

theorem sl_nxt (c : Dev nD) (j : Fin 7) : sl c (nxt c j) = j := by revert c j; decide
theorem sl_prv (c : Dev nD) (j : Fin 7) : sl (prv c j) c = j := by revert c j; decide
theorem nxt_sl {c t : Dev nD} (h : t ≠ c) : nxt c (sl c t) = t := by revert c t; decide
theorem prv_sl {c t : Dev nD} (h : t ≠ c) : prv c (sl t c) = t := by revert c t; decide
theorem nxt_ne (c : Dev nD) (j : Fin 7) : nxt c j ≠ c := by revert c j; decide
theorem prv_ne (c : Dev nD) (j : Fin 7) : prv c j ≠ c := by revert c j; decide
theorem nxt_prv (c : Dev nD) (j : Fin 7) : nxt (prv c j) j = c := by revert c j; decide
theorem prv_nxt (c : Dev nD) (j : Fin 7) : prv (nxt c j) j = c := by revert c j; decide

/-! ## The partial sums of one device -/

/-- The scaled and permuted queries of device `c`. -/
def qV (I : Ins F) (c : Dev nD) : FVec F S4x256x1024 .bf16 := k0_pay1 (I.x c) (I.wq c)
/-- The permuted keys of device `c`. -/
def kV (I : Ins F) (c : Dev nD) : FVec F S4x256x8x128 .bf16 := k0_pay2 (I.k c)
/-- The permuted values of device `c`. -/
def vV (I : Ins F) (c : Dev nD) : FVec F S4x256x8x128 .bf16 := k0_pay3 (I.v c)

theorem qSlices (r : Fin 4) (h : Fin 8) : S4x256x1024.Slices ![r.val, 0, 128 * h.val] S1x256x128 := by revert r h; decide
theorem kSlices (r : Fin 4) (h : Fin 8) : S4x256x8x128.Slices ![r.val, 0, h.val, 0] S1x256x1x128 := by revert r h; decide

/-- The exponentials of the scores of row group `r` and head `h`. -/
def pB (q : FVec F S4x256x1024 .bf16) (k : FVec F S4x256x8x128 .bf16) (r : Fin 4) (h : Fin 8) : FVec F S256x256 .f32 :=
  exp (matmul dot_S256x128_S256x128_S256x256_1_1_0_0_n_n none
    (shapeCast S256x128 (extractStridedSlice S1x256x128 ![r.val, 0, 128 * h.val] q (qSlices r h)) shapeCasts_S1x256x128_S256x128)
    (shapeCast S256x128 (extractStridedSlice S1x256x1x128 ![r.val, 0, h.val, 0] k (kSlices r h)) shapeCasts_S1x256x1x128_S256x128)
    (constant S256x256 .f32 0x00000000#32))

/-- Their row sums. -/
def lB (q : FVec F S4x256x1024 .bf16) (k : FVec F S4x256x8x128 .bf16) (r : Fin 4) (h : Fin 8) : FVec F S256x1 .f32 :=
  shapeCast S256x1 (multiReduction .add [1] S256 (pB q k r h) 0x00000000#32 reduces_S256x256_S256 (.inl rfl) rfl) shapeCasts_S256_S256x1

/-- Their product with the values. -/
def aB (q : FVec F S4x256x1024 .bf16) (k v : FVec F S4x256x8x128 .bf16) (r : Fin 4) (h : Fin 8) : FVec F S256x1x128 .f32 :=
  shapeCast S256x1x128 (matmul dot_S256x256_S256x128_S256x128_1_0_0_1_n_n none (truncf .bf16 (pB q k r h) bitsLt_bf16_f32)
    (shapeCast S256x128 (extractStridedSlice S1x256x1x128 ![r.val, 0, h.val, 0] v (kSlices r h)) shapeCasts_S1x256x1x128_S256x128)
    (constant S256x128 .f32 0x00000000#32)) shapeCasts_S256x128_S256x1x128

/-- The row group of a row. -/
def grp (n : Fin 1024) : Fin 4 := ⟨n.val / 256, by omega⟩
/-- A row's place in its group. -/
def inGrp (n : Fin 1024) : Fin 256 := ⟨n.val % 256, Nat.mod_lt _ (by decide)⟩

/-- All row sums of device `c`. -/
def lF (I : Ins F) (c : Dev nD) : Vec F S1024x8 .f32 := fun i => lB (qV I c) (kV I c) (grp (i 0)) (i 1) (fun | 0 => inGrp (i 0) | 1 => (0 : Fin 1))
/-- All products of device `c`. -/
def aF (I : Ins F) (c : Dev nD) : Vec F S1024x8x128 .f32 := fun i => aB (qV I c) (kV I c) (vV I c) (grp (i 0)) (i 1) (fun | 0 => inGrp (i 0) | 1 => (0 : Fin 1) | 2 => (i 2 : Fin 128))

/-- The rounded row sums. -/
def lH (I : Ins F) (c : Dev nD) : Vec F S1024x8 .bf16 := truncf .bf16 (lF I c) bitsLt_bf16_f32
/-- The rounded products. -/
def aH (I : Ins F) (c : Dev nD) : Vec F S1024x8x128 .bf16 := truncf .bf16 (aF I c) bitsLt_bf16_f32

/-- A row of the 128 rows meant for device `t`. -/
def rowOf (t : Dev nD) (n : Fin 128) : Fin 1024 := ⟨128 * t.val + n.val, by have := t.isLt; simp only [nD] at this; omega⟩

/-- The rows of the row sums meant for `t`. -/
def rows2 {α : Type} (X : S1024x8.Idx → α) (t : Dev nD) : S128x8.Idx → α := fun i => X (fun | 0 => rowOf t (i 0) | 1 => (i 1 : Fin 8))
/-- The rows of the products meant for `t`. -/
def rows3 {α : Type} (X : S1024x8x128.Idx → α) (t : Dev nD) : S128x8x128.Idx → α := fun i => X (fun | 0 => rowOf t (i 0) | 1 => (i 1 : Fin 8) | 2 => (i 2 : Fin 128))

/-- What `p` sends `t` of its products. -/
def aS (I : Ins F) (p t : Dev nD) : Vec F S128x8x128 .bf16 := rows3 (aH I p) t
/-- What `p` sends `t` of its row sums. -/
def lS (I : Ins F) (p t : Dev nD) : Vec F S128x8 .bf16 := rows2 (lH I p) t

theorem cast4 : S128x8x128.ShapeCasts S1x128x8x128 := by decide
theorem cast3 : S128x8.ShapeCasts S1x128x8 := by decide
theorem castG : S128x1024.ShapeCasts S1x128x1024 := by decide

/-- The products landed in slot `j` of `c`. -/
def aU (I : Ins F) (c : Dev nD) (j : Fin 7) : Vec F S1x128x8x128 .bf16 := shapeCast S1x128x8x128 (aS I (prv c j) c) cast4
/-- The row sums landed in slot `j` of `c`. -/
def lU (I : Ins F) (c : Dev nD) (j : Fin 7) : Vec F S1x128x8 .bf16 := shapeCast S1x128x8 (lS I (prv c j) c) cast3

/-! ## The block of the result that device `c` computes -/

/-- The normalised sum over all devices of the rows of `c`. -/
def ctxV (I : Ins F) (c : Dev nD) : FVec F S128x8x128 .bf16 :=
  k0_pay127 (k0_pay125 (rows3 (aF I c) c) (aU I c 0) (aU I c 1) (aU I c 2)) (k0_pay126 (rows2 (lF I c) c) (lU I c 0) (lU I c 1) (lU I c 2))
    (aU I c 3) (lU I c 3) (aU I c 4) (lU I c 4) (aU I c 5) (lU I c 5) (aU I c 6) (lU I c 6)

/-- The projected rows of `c`. -/
def gF (I : Ins F) (c : Dev nD) : FVec F S128x1024 .f32 := k0_pay128 (ctxV I c) (I.wo c)
/-- The projected rows of `c`, rounded: what `c` sends every other device. -/
def gH (I : Ins F) (c : Dev nD) : FVec F S128x1024 .bf16 := k0_pay129 (ctxV I c) (I.wo c)

/-- The projected rows of `p` as device `c` writes them into its result. -/
def gO (I : Ins F) (c p : Dev nD) : FVec F S128x1024 .f32 := if p = c then gF I c else extf .f32 (gH I p) bitsLt_bf16_f32

/-- The device whose block holds row `n` of the result. -/
def own (n : Fin 1024) : Dev nD := ⟨2 * (n.val / 64 % 4) + n.val / 512, by simp only [nD]; omega⟩
/-- The row of that block. -/
def ownRow (n : Fin 1024) : Fin 128 := ⟨64 * (n.val / 256 % 2) + n.val % 64, by omega⟩

/-- The result on device `c`. -/
def outF (I : Ins F) (c : Dev nD) : Vec F S1x1024x1024 .f32 := fun i => gO I c (own (i 1)) (fun | 0 => ownRow (i 1) | 1 => (i 2 : Fin 1024))

end Cert.KernelIdeal.Run
-- ==== Proof.KernelIdealRun.Common.lean ====
/- The exchange's buffers, semaphore cells and schedule: who pays each cell, how much, and what each payment hands over. -/
module

public import proofs.«01_k».proof.Proof.KernelIdealRun.Vals
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Transfers
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers and their parts -/

abbrev accM : Memref sig .tc .vmem S1024x8x128 .f32 := Memref.whole cc0_scratch0
abbrev lM : Memref sig .tc .vmem S1024x8 .f32 := Memref.whole cc0_scratch1
abbrev accH : Memref sig .tc .vmem S1024x8x128 .bf16 := Memref.whole cc0_scratch2
abbrev lHM : Memref sig .tc .vmem S1024x8 .bf16 := Memref.whole cc0_scratch3
abbrev rsA : Memref sig .tc .vmem S7x128x8x128 .bf16 := Memref.whole cc0_scratch4
abbrev rsL : Memref sig .tc .vmem S7x128x8 .bf16 := Memref.whole cc0_scratch5
abbrev agS : Memref sig .tc .vmem S128x1024 .bf16 := Memref.whole cc0_scratch6
abbrev agR : Memref sig .tc .vmem S7x128x1024 .bf16 := Memref.whole cc0_scratch7

theorem inb_srcA (t : Fin 8) : ∀ a, (![128 * t.val, 0, 0] : Fin 3 → ℕ) a + S128x8x128.size a ≤ S1024x8x128.size a := by revert t; decide
theorem inb_srcL (t : Fin 8) : ∀ a, (![128 * t.val, 0] : Fin 2 → ℕ) a + S128x8.size a ≤ S1024x8.size a := by revert t; decide
theorem inb_slotA (j : Fin 7) : ∀ a, (![j.val, 0, 0, 0] : Fin 4 → ℕ) a + S1x128x8x128.size a ≤ S7x128x8x128.size a := by revert j; decide
theorem inb_slotL (j : Fin 7) : ∀ a, (![j.val, 0, 0] : Fin 3 → ℕ) a + S1x128x8.size a ≤ S7x128x8.size a := by revert j; decide
theorem inb_slotG (j : Fin 7) : ∀ a, (![j.val, 0, 0] : Fin 3 → ℕ) a + S1x128x1024.size a ≤ S7x128x1024.size a := by revert j; decide

abbrev recA (t : Fin 8) : Rect S1024x8x128 := Rect.unit ![128 * t.val, 0, 0] S128x8x128.size (inb_srcA t)
abbrev recL (t : Fin 8) : Rect S1024x8 := Rect.unit ![128 * t.val, 0] S128x8.size (inb_srcL t)
abbrev recSA (j : Fin 7) : Rect S7x128x8x128 := Rect.unit ![j.val, 0, 0, 0] S1x128x8x128.size (inb_slotA j)
abbrev recSL (j : Fin 7) : Rect S7x128x8 := Rect.unit ![j.val, 0, 0] S1x128x8.size (inb_slotL j)
abbrev recSG (j : Fin 7) : Rect S7x128x1024 := Rect.unit ![j.val, 0, 0] S1x128x1024.size (inb_slotG j)

/-- The rows of the rounded products meant for `t`. -/
abbrev srcA (t : Fin 8) : Memref sig .tc .vmem S128x8x128 .bf16 := accH.slice (recA t) (fun _ => rfl)
/-- The rows of the rounded sums meant for `t`. -/
abbrev srcL (t : Fin 8) : Memref sig .tc .vmem S128x8 .bf16 := lHM.slice (recL t) (fun _ => rfl)
/-- Landing slot `j` of the products. -/
abbrev slotA (j : Fin 7) : Memref sig .tc .vmem S128x8x128 .bf16 := (rsA.slice (recSA j) (fun _ => rfl)).squeeze S128x8x128 squeezes_S1x128x8x128_S128x8x128
/-- Landing slot `j` of the sums. -/
abbrev slotL (j : Fin 7) : Memref sig .tc .vmem S128x8 .bf16 := (rsL.slice (recSL j) (fun _ => rfl)).squeeze S128x8 squeezes_S1x128x8_S128x8
/-- Landing slot `j` of the projected rows. -/
abbrev slotG (j : Fin 7) : Memref sig .tc .vmem S128x1024 .bf16 := (agR.slice (recSG j) (fun _ => rfl)).squeeze S128x1024 squeezes_S1x128x1024_S128x1024

/-! ## Cells -/

/-- DMA semaphore `j` of array `k`: 0 and 1 the products' send and receive, 2 and 3 the sums', 4 and 5 the projected rows'. -/
def dsem (k : Fin 6) (j : Fin 7) : DmaSem sig := ⟨6 + 7 * k.val + j.val, by have := k.isLt; have := j.isLt; show _ < 48; omega⟩

abbrev Key : Type := Fin 2 ⊕ (Fin 6 × Fin 7)

/-- The semaphore of a key: the two barriers, then the DMA semaphores. -/
def ksem : Key → SemLoc sig
  | .inl i => .reg i
  | .inr (k, j) => .dma (dsem k j)

abbrev kcell (ck : Dev nD × Key) : GSem nD τ sig := ((ck.1 : Thread nD τ), ksem ck.2)

abbrev bC (c : Dev nD) : GSem nD τ sig := kcell (c, .inl 0)
abbrev sC (c : Dev nD) : GSem nD τ sig := kcell (c, .inl 1)
abbrev dC (k : Fin 6) (c : Dev nD) (j : Fin 7) : GSem nD τ sig := kcell (c, .inr (k, j))

theorem ksem_injective : Function.Injective ksem := by
  rintro (i | ⟨k, j⟩) (i' | ⟨k', j'⟩) h
  · exact congrArg Sum.inl (by injection h)
  · cases h
  · cases h
  · have h' : dsem k j = dsem k' j' := by injection h
    have h2 := congrArg Fin.val h'
    simp only [dsem] at h2
    have h3 : k = k' := Fin.ext (by omega)
    have h4 : j = j' := Fin.ext (by omega)
    rw [h3, h4]

theorem kcell_injective : Function.Injective (kcell : Dev nD × Key → GSem nD τ sig) := by
  rintro ⟨c, k⟩ ⟨c', k'⟩ h
  have h1 : c = c' := by have := congrArg (fun g : GSem nD τ sig => g.1.1) h; exact this
  have h2 : k = k' := ksem_injective (congrArg Prod.snd h)
  rw [h1, h2]

abbrev NA : ℕ := (slotA 0).view.dmaCredit
abbrev NL : ℕ := (slotL 0).view.dmaCredit
abbrev NG : ℕ := (slotG 0).view.dmaCredit

/-- The amount of one transfer onto a semaphore of array `k`. -/
def amt (k : Fin 6) : ℕ := if k.val < 2 then NA else if k.val < 4 then NL else NG

theorem amt_pos (k : Fin 6) : 0 < amt k := by
  unfold amt; split
  · exact View.dmaCredit_pos _ (by decide)
  · split <;> exact View.dmaCredit_pos _ (by decide)

/-! ## What the payments hand over -/

def anyA (c : Dev nD) (j : Fin 7) : sProp 𝕄 := iprop(∃ f : Buf (Elt F) ((slotA j).view.loc (c : Thread nD τ)), (slotA j).view.loc (c : Thread nD τ) ↦[(slotA j).view.set]{fullShare} f)
def anyL (c : Dev nD) (j : Fin 7) : sProp 𝕄 := iprop(∃ f : Buf (Elt F) ((slotL j).view.loc (c : Thread nD τ)), (slotL j).view.loc (c : Thread nD τ) ↦[(slotL j).view.set]{fullShare} f)
def anyG (c : Dev nD) (j : Fin 7) : sProp 𝕄 := iprop(∃ f : Buf (Elt F) ((slotG j).view.loc (c : Thread nD τ)), (slotG j).view.loc (c : Thread nD τ) ↦[(slotG j).view.set]{fullShare} f)

/-- What `p`'s signal hands `c`: the slots of `p` that `c` writes. -/
def readyPay (c p : Dev nD) : sProp 𝕄 := iprop(anyA p (sl c p) ∗ anyL p (sl c p) ∗ anyG p (sl p c))

/-- The share of the projected rows lent to transfer `j`. -/
abbrev gShare (j : Fin 7) : PosShare TreeShare := Transfers.shareTok fullShare 7 j

variable (I : Ins F)

def pay0 (c : Dev nD) (j : Fin 7) : sProp 𝕄 := ownsTc c (srcA (nxt c j)) fullShare (aS I c (nxt c j))
def pay1 (c : Dev nD) (j : Fin 7) : sProp 𝕄 := ownsTc c (slotA j) fullShare (aS I (prv c j) c)
def pay2 (c : Dev nD) (j : Fin 7) : sProp 𝕄 := ownsTc c (srcL (nxt c j)) fullShare (lS I c (nxt c j))
def pay3 (c : Dev nD) (j : Fin 7) : sProp 𝕄 := ownsTc c (slotL j) fullShare (lS I (prv c j) c)
def pay4 (c : Dev nD) (j : Fin 7) : sProp 𝕄 := (agS.view.loc (c : Thread nD τ) ↦[agS.view.set]{gShare j} gH I c)
def pay5 (c : Dev nD) (j : Fin 7) : sProp 𝕄 := ownsTc c (slotG j) fullShare (gH I (nxt c j))

/-- What a transfer onto semaphore `j` of array `k` of device `c` hands `c`. -/
def dPay (k : Fin 6) (c : Dev nD) (j : Fin 7) : sProp 𝕄 :=
  match k with
  | 0 => pay0 I c j
  | 1 => pay1 I c j
  | 2 => pay2 I c j
  | 3 => pay3 I c j
  | 4 => pay4 I c j
  | 5 => pay5 I c j

instance anyA_storable (c : Dev nD) (j : Fin 7) : BI.Storable (upEmb : UEmb _ 𝕄) (anyA (F := F) c j) := by unfold anyA; infer_instance
instance anyL_storable (c : Dev nD) (j : Fin 7) : BI.Storable (upEmb : UEmb _ 𝕄) (anyL (F := F) c j) := by unfold anyL; infer_instance
instance anyG_storable (c : Dev nD) (j : Fin 7) : BI.Storable (upEmb : UEmb _ 𝕄) (anyG (F := F) c j) := by unfold anyG; infer_instance
instance readyPay_storable (c p : Dev nD) : BI.Storable (upEmb : UEmb _ 𝕄) (readyPay (F := F) c p) := by unfold readyPay; infer_instance
instance dPay_storable (k : Fin 6) (c : Dev nD) (j : Fin 7) : BI.Storable (upEmb : UEmb _ 𝕄) (dPay I k c j) := by
  unfold dPay
  split
  · unfold pay0; infer_instance
  · unfold pay1; infer_instance
  · unfold pay2; infer_instance
  · unfold pay3; infer_instance
  · unfold pay4; infer_instance
  · unfold pay5; infer_instance

/-- The array of a DMA semaphore. -/
def kOf (s : ℕ) : Fin 6 := ⟨(s - 6) / 7 % 6, Nat.mod_lt _ (by decide)⟩
/-- Its place in the array. -/
def jOf (s : ℕ) : Fin 7 := ⟨(s - 6) % 7, Nat.mod_lt _ (by decide)⟩

theorem kOf_dsem (k : Fin 6) (j : Fin 7) : kOf (dsem k j).val = k := by revert k j; decide
theorem jOf_dsem (k : Fin 6) (j : Fin 7) : jOf (dsem k j).val = j := by revert k j; decide
theorem le_dsem (k : Fin 6) (j : Fin 7) : 6 ≤ (dsem k j).val := by revert k j; decide

/-- The exchange's schedule: one round, in which every peer pays each barrier one unit and one transfer pays each DMA semaphore. -/
def rd : Rounds.Schedule (GSem nD τ sig) (Dev nD) 𝕄 where
  duties g r := if r = 0 ∧ g.1.2 = .tc then (match g.2 with
    | .reg _ => Finset.univ.erase g.1.1
    | .dma s => if 6 ≤ s.val then {0} else ∅) else ∅
  unitless _ := False
  amount g _ _ := match g.2 with
    | .reg _ => 1
    | .dma s => amt (kOf s.val)
  payload g _ p := match g.2 with
    | .reg s => if s = 0 then readyPay g.1.1 p else iprop(emp)
    | .dma s => dPay I (kOf s.val) g.1.1 (jOf s.val)
  amount_pos g _ _ _ := by
    dsimp only; split
    · exact Nat.one_pos
    · exact amt_pos _

instance rd_payload_storable (g : GSem nD τ sig) (r : ℕ) (p : Dev nD) : BI.Storable (upEmb : UEmb _ 𝕄) ((rd I).payload g r p) := by
  dsimp only [rd]
  split
  · split <;> infer_instance
  · infer_instance

section Sched
variable (c : Dev nD) (k : Fin 6) (j : Fin 7)

theorem duties_b : (rd I).duties (bC c) 0 = Finset.univ.erase c := by dsimp only [rd]; rw [if_pos ⟨rfl, rfl⟩]; rfl
theorem duties_s : (rd I).duties (sC c) 0 = Finset.univ.erase c := by dsimp only [rd]; rw [if_pos ⟨rfl, rfl⟩]; rfl
theorem duties_d : (rd I).duties (dC k c j) 0 = {0} := by
  dsimp only [rd]; rw [if_pos ⟨rfl, rfl⟩]; exact if_pos (le_dsem k j)
theorem duties_later (g : GSem nD τ sig) : ∀ r, 1 ≤ r → (rd I).duties g r = ∅ :=
  fun r hr => by dsimp only [rd]; exact if_neg fun h => by omega

theorem amount_b (p : Dev nD) : (rd I).amount (bC c) 0 p = 1 := rfl
theorem amount_s (p : Dev nD) : (rd I).amount (sC c) 0 p = 1 := rfl
theorem amount_d (p : Dev nD) : (rd I).amount (dC k c j) 0 p = amt k := by
  show amt (kOf (dsem k j).val) = _; rw [kOf_dsem]

theorem expect_b : (rd I).expect (bC c) 0 = 7 := by
  unfold Schedule.expect Schedule.amountOf
  rw [duties_b, Finset.sum_congr rfl fun p _ => amount_b I c p, Finset.sum_const, Finset.card_erase_of_mem (Finset.mem_univ _)]; rfl
theorem expect_s : (rd I).expect (sC c) 0 = 7 := by
  unfold Schedule.expect Schedule.amountOf
  rw [duties_s, Finset.sum_congr rfl fun p _ => amount_s I c p, Finset.sum_const, Finset.card_erase_of_mem (Finset.mem_univ _)]; rfl
theorem expect_d : (rd I).expect (dC k c j) 0 = amt k := by
  unfold Schedule.expect Schedule.amountOf; rw [duties_d, Finset.sum_singleton, amount_d]

theorem payload_b (p : Dev nD) : (rd I).payload (bC c) 0 p = readyPay c p := rfl
theorem payload_s (p : Dev nD) : (rd I).payload (sC c) 0 p = iprop(emp) := rfl
theorem payload_d (p : Dev nD) : (rd I).payload (dC k c j) 0 p = dPay I k c j := by
  show dPay I (kOf (dsem k j).val) c (jOf (dsem k j).val) = _; rw [kOf_dsem, jOf_dsem]

theorem rest_b : bigSep ((rd I).duties (bC c) 0 \ ∅) (fun p => (rd I).payload (bC c) 0 p) = bigSep (Finset.univ.erase c) fun p => readyPay c p := by
  rw [Finset.sdiff_empty, duties_b]; rfl
theorem rest_d : bigSep ((rd I).duties (dC k c j) 0 \ ∅) (fun p => (rd I).payload (dC k c j) 0 p) = dPay I k c j := by
  rw [Finset.sdiff_empty, duties_d, bigSep_singleton, payload_d]

end Sched

/-! ## Debts and levels -/

abbrev CT : Type := CellTallies nD τ sig Unit

/-- What is still owed to the first barrier of the peers in `l`. -/
def oB (c : Dev nD) (l : List (Fin 7)) : CT := (l.map fun j => tallyAt (bC (nxt c j)) () 1).sum
/-- What is still owed to the second barrier of the peers in `l`. -/
def oS (c : Dev nD) (l : List (Fin 7)) : CT := (l.map fun j => tallyAt (sC (nxt c j)) () 1).sum
/-- The transfers of the projected rows still owed. -/
def oG (c : Dev nD) (l : List (Fin 7)) : CT := (l.map fun j => tallyAt (dC 5 (prv c j) j) () NG).sum
/-- The two transfers owed to device `t`. -/
def oRt (c t : Dev nD) : CT := if t = c then 0 else tallyAt (dC 1 t (sl c t)) () NA + tallyAt (dC 3 t (sl c t)) () NL
/-- The transfers of the partial sums still owed. -/
def oR (c : Dev nD) (l : List (Dev nD)) : CT := (l.map fun t => oRt c t).sum

/-- Everything device `c` owes at launch. -/
def O₀ (c : Dev nD) : CT := oB c [0, 1, 2, 3, 4, 5, 6] + (oR c [0, 1, 2, 3, 4, 5, 6, 7] + (oG c [6, 5, 4, 3, 2, 1, 0] + oS c [0, 1, 2, 3, 4, 5, 6]))

def L (g : GSem nD τ sig) : Finset Unit := if g.1.2 = .tc then {()} else ∅
def lv (g : GSem nD τ sig) (_ : Unit) : ℕ := match g.2 with
  | .reg s => if s = 0 then 1 else 4
  | .dma s => if s.val < 6 then 0 else match kOf s.val with
    | 1 => 2
    | 3 => 2
    | 5 => 3
    | _ => 0
theorem L_of_ne (g : GSem nD τ sig) (h : g.1.2 ≠ .tc) : L g = ∅ := if_neg h
theorem L_tc (c : Dev nD) (sm : SemLoc sig) : L ((c : Thread nD τ), sm) = {()} := if_pos rfl

/-- Everything owed lies above level `n`. -/
def Above (n : ℕ) (O : CT) : Prop := ∀ g u, 0 < O g u → u ∈ L g ∧ n < lv g u

theorem above_zero (n : ℕ) : Above n 0 := fun g u h => absurd h (Nat.lt_irrefl 0)
theorem above_add {n : ℕ} {O O' : CT} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} {ck : Dev nD × Key} {N : ℕ} (h : n < lv (kcell ck) ()) : Above n (tallyAt (kcell ck) () N) := fun g u hg => by
  rw [tallyAt_apply] at hg
  by_cases e : g = kcell ck ∧ u = ()
  · rw [e.1]; exact ⟨Finset.mem_singleton_self _, h⟩
  · rw [if_neg e] at hg; exact absurd hg (Nat.lt_irrefl 0)
theorem above_sum {α : Type} {n : ℕ} (f : α → CT) (h : ∀ a, Above n (f a)) (l : List α) : Above n (l.map f).sum := by
  induction l with
  | nil => exact above_zero n
  | cons a l ih => rw [List.map_cons, List.sum_cons]; exact above_add (h a) ih

theorem lv_b (c : Dev nD) : lv (bC c) () = 1 := rfl
theorem lv_s (c : Dev nD) : lv (sC c) () = 4 := rfl
theorem lv_d (k : Fin 6) (c : Dev nD) (j : Fin 7) : lv (dC k c j) () = (match k with | 1 => 2 | 3 => 2 | 5 => 3 | _ => 0) := by
  revert k j; decide +revert

theorem above_oB (c : Dev nD) (l) : Above 0 (oB c l) := above_sum _ (fun j => above_tally (by rw [lv_b]; decide)) l
theorem above_oS (c : Dev nD) (l) : Above 3 (oS c l) := above_sum _ (fun j => above_tally (by rw [lv_s]; decide)) l
theorem above_oG (c : Dev nD) (l) : Above 2 (oG c l) := above_sum _ (fun j => above_tally (by rw [lv_d]; decide)) l
theorem above_oR (c : Dev nD) (l) : Above 1 (oR c l) := above_sum _ (fun t => by
  unfold oRt; split
  · exact above_zero _
  · exact above_add (above_tally (by rw [lv_d]; decide)) (above_tally (by rw [lv_d]; decide))) l
theorem Above.mono {n m : ℕ} (h : n ≤ m) {O : CT} (H : Above m O) : Above n O := fun g u hg => ⟨(H g u hg).1, lt_of_le_of_lt h (H g u hg).2⟩

theorem mayWait (n : ℕ) (c : Dev nD) (sm : SemLoc sig) (O : CT) (h : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact h) (fun g u hg => (hO g u hg).2)

end Cert.KernelIdeal.Run
-- ==== Proof.KernelIdealRun.Steps.lean ====
/- One lemma per kind of step the kernel takes: waits, signals, transfers. -/
module

public import proofs.«01_k».proof.Proof.KernelIdealRun.Common

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

abbrev Pr (F : FTy → Type) (α : Type) : Type 1 := Prog (TpuEff nD τ sig (Elt F) Λ₀ .tc) α

/-- The weakest precondition of a program on device `c`. -/
abbrev WP {α : Type} (c : Dev nD) (p : Pr F α) (Q : α → sProp 𝕄) : sProp 𝕄 :=
  wp frame (wpE (defs₀ (F := F)) 𝒱₀ (c : Thread nD τ) none) Set.univ p Q

variable (I : Ins F) (K : Dev nD × Key → ℕ)

/-- The invariants of all cells, that every cell has reached its round, and the levels. -/
def recs : sProp 𝕄 :=
  iprop((bigSep Finset.univ fun ck : Dev nD × Key => cellInv ER (rd I) (K ck) (kcell ck))
    ∗ (bigSep Finset.univ fun ck : Dev nD × Key => reached ER (kcell ck) 0) ∗ levAts L lv)
instance recs_persistent : BI.Persistent (recs I K) := by unfold recs; infer_instance

theorem inv_at (ck : Dev nD × Key) :
    (bigSep Finset.univ fun ck : Dev nD × Key => (cellInv ER (rd I) (K ck) (kcell ck) : sProp 𝕄)) ⊢ cellInv ER (rd I) (K ck) (kcell ck) :=
  bigSep_elim (Finset.mem_univ ck)
omit [FloatOps F] in
theorem reached_at (ck : Dev nD × Key) :
    (bigSep Finset.univ fun ck : Dev nD × Key => (reached ER (kcell ck) 0 : sProp 𝕄)) ⊢ reached ER (kcell ck) 0 :=
  bigSep_elim (Finset.mem_univ ck)
theorem recs_inv (ck : Dev nD × Key) : recs I K ⊢ cellInv ER (rd I) (K ck) (kcell ck) := by
  unfold recs; iintro ⟨H, -, -⟩; iapply (inv_at I K ck); iexact H
theorem recs_reached (ck : Dev nD × Key) : recs I K ⊢ reached ER (kcell ck) 0 := by
  unfold recs; iintro ⟨-, H, -⟩; iapply (reached_at ck); iexact H
theorem recs_lev : recs I K ⊢ levAts L lv := by
  unfold recs; iintro ⟨-, -, H⟩; iexact H

/-- What device `c` owes, whatever it has waited on. -/
def ow (c : Dev nD) (O : CT) : sProp 𝕄 := iprop(∃ W, owes (c : Thread nD τ) O W)

/-- A wait on a cell of `c` consumes its credit, closes the cell and yields everything the cell's round was paid. -/
theorem wait_any (c : Dev nD) (key : Key) (n : ℕ) (O : CT) {N : ℕ} (hN : N = (rd I).expect (kcell (c, key)) 0)
    (hn : lv (kcell (c, key)) () ≤ n) (hO : Above n O)
    {w : TpuEff nD τ sig (Elt F) Λ₀ .tc PUnit} {sm : SemLoc sig} {k' : ℕ}
    (hw : ∀ K : PUnit → sProp 𝕄, wpE (defs₀ (F := F)) 𝒱₀ (c : Thread nD τ) none Set.univ w K = waitSpec (c : Thread nD τ) Set.univ sm k' K)
    (hsm : sm = ksem key) (hk : k' = N) {α : Type} {k : PUnit.{1} → Pr F α} {Q : α → sProp 𝕄} :
    iprop(recs I K ∗ cred (tallyAt (kcell (c, key)) () N) ∗ ow c O ∗ atPos ER (kcell (c, key)) 0 ∅ 0)
      ⊢ iprop(((ow c O ∗ semVal (kcell (c, key)) 0 ∗ bigSep ((rd I).duties (kcell (c, key)) 0 \ ∅) (fun p => (rd I).payload (kcell (c, key)) 0 p)) -∗ WP c (k ⟨⟩) Q)
          -∗ WP c (Prog.op w k) Q) := by
  subst hsm hk
  unfold ow
  iintro ⟨#HR, Hc, ⟨%W, HO⟩, Hat⟩ Hk
  iapply (Rounds.wp_wait_rest_token 𝒱₀ ER (rd I) (c : Thread nD τ) none (κ := K (c, key)) hw (Set.mem_univ _) () (O := O) (W := W) (R := 0) (m := 0) (T := ∅)
      (by rw [Nat.zero_add]; exact hN)) $$ [Hc HO Hat]
  · isplitr; · iapply (recs_inv I K (c, key)); iexact HR
    isplitl [Hc]; · iexact Hc
    isplitl [HO]; · iexact HO
    isplitr; · iapply (mayWait n c (ksem key) O hn hO); iapply (recs_lev I K); iexact HR
    iexact Hat
  iintro ⟨HO, Hat, -, Hpay⟩
  imod (Rounds.cell_close ER (rd I) (Set.mem_univ (K (c, key))) (fun h => h) (R := 0 + 1) (duties_later I (kcell (c, key)))) $$ [Hat] with Hz
  · isplitr; · iapply (recs_inv I K (c, key)); iexact HR
    iexact Hat
  iapply Hk
  isplitl [HO]; · iexists _; iexact HO
  isplitl [Hz]; · iexact Hz
  iexact Hpay

/-- A wait on a DMA semaphore. -/
theorem wait_d (k : Fin 6) (c : Dev nD) (j : Fin 7) (n : ℕ) (O : CT) (hn : lv (dC k c j) () ≤ n) (hO : Above n O)
    {w : TpuEff nD τ sig (Elt F) Λ₀ .tc PUnit} {sm : SemLoc sig} {k' : ℕ}
    (hw : ∀ K : PUnit → sProp 𝕄, wpE (defs₀ (F := F)) 𝒱₀ (c : Thread nD τ) none Set.univ w K = waitSpec (c : Thread nD τ) Set.univ sm k' K)
    (hsm : sm = ksem (.inr (k, j))) (hk : k' = amt k) {α : Type} {f : PUnit.{1} → Pr F α} {Q : α → sProp 𝕄} :
    iprop(recs I K ∗ cred (tallyAt (dC k c j) () (amt k)) ∗ ow c O ∗ atPos ER (dC k c j) 0 ∅ 0)
      ⊢ iprop(((ow c O ∗ semVal (dC k c j) 0 ∗ dPay I k c j) -∗ WP c (f ⟨⟩) Q) -∗ WP c (Prog.op w f) Q) := by
  have h := wait_any I K c (.inr (k, j)) n O (expect_d I c k j).symm hn hO hw hsm hk (k := f) (Q := Q)
  rw [rest_d] at h
  exact h

/-! ## Signals -/

/-- The signal to the first barrier of `nxt c j`. -/
theorem signal_b (c : Dev nD) (j : Fin 7) (l : List (Fin 7)) (O : CT) {d : Dev nD} (hd : d = nxt c j) {sem : Sem sig} (hs : sem = (0 : Fin 2)) {k' : ℕ} (hk : k' = 1)
    {α : Type} {f : PUnit.{1} → Pr F α} {Q : α → sProp 𝕄} :
    iprop(recs I K ∗ ow c (oB c (j :: l) + O) ∗ dutyTok ER (bC (nxt c j)) 0 c ∗ readyPay (nxt c j) c)
      ⊢ iprop((ow c (oB c l + O) -∗ WP c (f ⟨⟩) Q) -∗ WP c (Prog.op (.semSignal (d : Thread nD τ) sem k') f) Q) := by
  subst hd hs hk
  have H (W : Waits sig Unit) : iprop(cellInv ER (rd I) (K (nxt c j, .inl 0)) (bC (nxt c j)) ∗ owes (c : Thread nD τ) (oB c (j :: l) + O) W ∗ dutyTok ER (bC (nxt c j)) 0 c
        ∗ readyPay (nxt c j) c ∗ reached ER (bC (nxt c j)) 0)
      ⊢ iprop((owes (c : Thread nD τ) (oB c l + O) W -∗ WP c (f ⟨⟩) Q) -∗ WP c (Prog.op (.semSignal (nxt c j : Thread nD τ) (0 : Fin 2) 1) f) Q) :=
    Rounds.wp_signal 𝒱₀ ER (rd I) (c : Thread nD τ) none (dst := (nxt c j : Thread nD τ)) (κ := K (nxt c j, .inl 0)) (d := c)
      (Eq.mpr (congrArg (c ∈ ·) (duties_b I (nxt c j))) (Finset.mem_erase.mpr ⟨(nxt_ne c j).symm, Finset.mem_univ _⟩))
      (amount_b I (nxt c j) c) () (oB c l + O) (by simp only [oB, List.map_cons, List.sum_cons]; rw [add_assoc, add_comm]; rfl)
  unfold ow
  iintro ⟨#HR, ⟨%W, HO⟩, Ht, Hp⟩ Hk
  iapply (H W) $$ [HO Ht Hp]
  · isplitr; · iapply (recs_inv I K (nxt c j, .inl 0)); iexact HR
    isplitl [HO]; · iexact HO
    isplitl [Ht]; · iexact Ht
    isplitl [Hp]; · iexact Hp
    iapply (recs_reached I K (nxt c j, .inl 0)); iexact HR
  iintro HO
  iapply Hk
  iexists W; iexact HO

/-- The signal to the second barrier of `nxt c j`. -/
theorem signal_s (c : Dev nD) (j : Fin 7) (l : List (Fin 7)) {d : Dev nD} (hd : d = nxt c j) {sem : Sem sig} (hs : sem = (1 : Fin 2)) {k' : ℕ} (hk : k' = 1)
    {α : Type} {f : PUnit.{1} → Pr F α} {Q : α → sProp 𝕄} :
    iprop(recs I K ∗ ow c (oS c (j :: l)) ∗ dutyTok ER (sC (nxt c j)) 0 c)
      ⊢ iprop((ow c (oS c l) -∗ WP c (f ⟨⟩) Q) -∗ WP c (Prog.op (.semSignal (d : Thread nD τ) sem k') f) Q) := by
  subst hd hs hk
  have H (W : Waits sig Unit) : iprop(cellInv ER (rd I) (K (nxt c j, .inl 1)) (sC (nxt c j)) ∗ owes (c : Thread nD τ) (oS c (j :: l)) W ∗ dutyTok ER (sC (nxt c j)) 0 c
        ∗ emp ∗ reached ER (sC (nxt c j)) 0)
      ⊢ iprop((owes (c : Thread nD τ) (oS c l) W -∗ WP c (f ⟨⟩) Q) -∗ WP c (Prog.op (.semSignal (nxt c j : Thread nD τ) (1 : Fin 2) 1) f) Q) :=
    Rounds.wp_signal 𝒱₀ ER (rd I) (c : Thread nD τ) none (dst := (nxt c j : Thread nD τ)) (κ := K (nxt c j, .inl 1)) (d := c)
      (Eq.mpr (congrArg (c ∈ ·) (duties_s I (nxt c j))) (Finset.mem_erase.mpr ⟨(nxt_ne c j).symm, Finset.mem_univ _⟩))
      (amount_s I (nxt c j) c) () (oS c l) (by simp only [oS, List.map_cons, List.sum_cons]; rw [add_comm]; rfl)
  unfold ow
  iintro ⟨#HR, ⟨%W, HO⟩, Ht⟩ Hk
  iapply (H W) $$ [HO Ht]
  · isplitr; · iapply (recs_inv I K (nxt c j, .inl 1)); iexact HR
    isplitl [HO]; · iexact HO
    isplitl [Ht]; · iexact Ht
    isplitr; · iempintro
    iapply (recs_reached I K (nxt c j, .inl 1)); iexact HR
  iintro HO
  iapply Hk
  iexists W; iexact HO

/-! ## Semaphores of the arrays -/

theorem inb_sem (j : Fin 7) : ∀ a, (![j.val] : Fin 1 → ℕ) a + S1.size a ≤ S7.size a := by revert j; decide

theorem sem0_all : ∀ j : Fin 7, ((cc0_scratch8.slice (Rect.unit (s := S7) ![j.val] S1.size (inb_sem j))).squeeze S_ squeezes_S1_S_).sem = dsem 0 j := by decide +kernel
theorem sem1_all : ∀ j : Fin 7, ((cc0_scratch9.slice (Rect.unit (s := S7) ![j.val] S1.size (inb_sem j))).squeeze S_ squeezes_S1_S_).sem = dsem 1 j := by decide +kernel
theorem sem2_all : ∀ j : Fin 7, ((cc0_scratch10.slice (Rect.unit (s := S7) ![j.val] S1.size (inb_sem j))).squeeze S_ squeezes_S1_S_).sem = dsem 2 j := by decide +kernel
theorem sem3_all : ∀ j : Fin 7, ((cc0_scratch11.slice (Rect.unit (s := S7) ![j.val] S1.size (inb_sem j))).squeeze S_ squeezes_S1_S_).sem = dsem 3 j := by decide +kernel
theorem sem4_all : ∀ j : Fin 7, ((cc0_scratch12.slice (Rect.unit (s := S7) ![j.val] S1.size (inb_sem j))).squeeze S_ squeezes_S1_S_).sem = dsem 4 j := by decide +kernel
theorem sem5_all : ∀ j : Fin 7, ((cc0_scratch13.slice (Rect.unit (s := S7) ![j.val] S1.size (inb_sem j))).squeeze S_ squeezes_S1_S_).sem = dsem 5 j := by decide +kernel
theorem sem0_eq {off : Fin 1 → ℕ} (j : Fin 7) (h : off = ![j.val]) (inb) : ((cc0_scratch8.slice (Rect.unit (s := S7) off S1.size inb)).squeeze S_ squeezes_S1_S_).sem = dsem 0 j := by
  subst h; exact sem0_all j
theorem sem1_eq {off : Fin 1 → ℕ} (j : Fin 7) (h : off = ![j.val]) (inb) : ((cc0_scratch9.slice (Rect.unit (s := S7) off S1.size inb)).squeeze S_ squeezes_S1_S_).sem = dsem 1 j := by
  subst h; exact sem1_all j
theorem sem2_eq {off : Fin 1 → ℕ} (j : Fin 7) (h : off = ![j.val]) (inb) : ((cc0_scratch10.slice (Rect.unit (s := S7) off S1.size inb)).squeeze S_ squeezes_S1_S_).sem = dsem 2 j := by
  subst h; exact sem2_all j
theorem sem3_eq {off : Fin 1 → ℕ} (j : Fin 7) (h : off = ![j.val]) (inb) : ((cc0_scratch11.slice (Rect.unit (s := S7) off S1.size inb)).squeeze S_ squeezes_S1_S_).sem = dsem 3 j := by
  subst h; exact sem3_all j
theorem sem4_eq {off : Fin 1 → ℕ} (j : Fin 7) (h : off = ![j.val]) (inb) : ((cc0_scratch12.slice (Rect.unit (s := S7) off S1.size inb)).squeeze S_ squeezes_S1_S_).sem = dsem 4 j := by
  subst h; exact sem4_all j
theorem sem5_eq {off : Fin 1 → ℕ} (j : Fin 7) (h : off = ![j.val]) (inb) : ((cc0_scratch13.slice (Rect.unit (s := S7) off S1.size inb)).squeeze S_ squeezes_S1_S_).sem = dsem 5 j := by
  subst h; exact sem5_all j

/-! ## Transfers -/

abbrev vA (off : Fin 4 → ℕ) (inb : ∀ a, off a + S1x128x8x128.size a ≤ S7x128x8x128.size a) : Memref sig .tc .vmem S128x8x128 .bf16 :=
  (rsA.slice (Rect.unit (s := S7x128x8x128) off S1x128x8x128.size inb) (fun _ => rfl)).squeeze S128x8x128 squeezes_S1x128x8x128_S128x8x128
abbrev vL (off : Fin 3 → ℕ) (inb : ∀ a, off a + S1x128x8.size a ≤ S7x128x8.size a) : Memref sig .tc .vmem S128x8 .bf16 :=
  (rsL.slice (Rect.unit (s := S7x128x8) off S1x128x8.size inb) (fun _ => rfl)).squeeze S128x8 squeezes_S1x128x8_S128x8
abbrev vA' (off : Fin 3 → ℕ) (inb : ∀ a, off a + S128x8x128.size a ≤ S1024x8x128.size a) : Memref sig .tc .vmem S128x8x128 .bf16 :=
  accH.slice (Rect.unit (s := S1024x8x128) off S128x8x128.size inb) (fun _ => rfl)
abbrev vL' (off : Fin 2 → ℕ) (inb : ∀ a, off a + S128x8.size a ≤ S1024x8.size a) : Memref sig .tc .vmem S128x8 .bf16 :=
  lHM.slice (Rect.unit (s := S1024x8) off S128x8.size inb) (fun _ => rfl)
abbrev s0 (off : Fin 1 → ℕ) (inb : ∀ a, off a + S1.size a ≤ S7.size a) : DmaSem sig := ((cc0_scratch8.slice (Rect.unit (s := S7) off S1.size inb)).squeeze S_ squeezes_S1_S_).sem
abbrev s1 (off : Fin 1 → ℕ) (inb : ∀ a, off a + S1.size a ≤ S7.size a) : DmaSem sig := ((cc0_scratch9.slice (Rect.unit (s := S7) off S1.size inb)).squeeze S_ squeezes_S1_S_).sem
abbrev s2 (off : Fin 1 → ℕ) (inb : ∀ a, off a + S1.size a ≤ S7.size a) : DmaSem sig := ((cc0_scratch10.slice (Rect.unit (s := S7) off S1.size inb)).squeeze S_ squeezes_S1_S_).sem
abbrev s3 (off : Fin 1 → ℕ) (inb : ∀ a, off a + S1.size a ≤ S7.size a) : DmaSem sig := ((cc0_scratch11.slice (Rect.unit (s := S7) off S1.size inb)).squeeze S_ squeezes_S1_S_).sem

/-- A transfer from `c` to `t` through the semaphores `j` of arrays `kS` and `kR`: the source's elements come back with the
    send semaphore, the destination's go to `t` with the landed contents. -/
theorem send_any (c t : Dev nD) (kS kR : Fin 6) (j : Fin 7) (O : CT) {sh : Shape} {e : EltTy} {src dst : Memref sig .tc .vmem sh e}
    {q : PosShare TreeShare} {X : sh.Idx → Elt F e}
    {sS sR : DmaSem sig} (hS : sS = dsem kS j) (hR : sR = dsem kR j) (hN : dst.view.dmaCredit = amt kS) (hN' : dst.view.dmaCredit = amt kR)
    {fs : Buf (Elt F) (src.view.loc (c : Thread nD τ))} {fd : Buf (Elt F) (dst.view.loc (t : Thread nD τ))} (hX : src.view.read (Elt F) fs = X)
    (hpS : (src.view.loc (c : Thread nD τ) ↦[src.view.set]{q} fs) ⊢ dPay I kS c j) (hpR : ownsTc t dst fullShare X ⊢ dPay I kR t j)
    {hsc : dst.view.ref.isScScratch = false} {hw : src.view.WordExact} {hw' : dst.view.WordExact}
    {hty : DmaTarget.Typed .vmem (.dma sR) (.remote (Dev.tc t : Thread nD τ) dst (.dma sS) hsc)}
    {α : Type} {f : PUnit.{1} → Pr F α} {Q : α → sProp 𝕄} :
    iprop(recs I K ∗ (src.view.loc (c : Thread nD τ) ↦[src.view.set]{q} fs) ∗ (dst.view.loc (t : Thread nD τ) ↦[dst.view.set]{fullShare} fd)
        ∗ ow c (tallyAt (dC kR t j) () (amt kR) + O) ∗ dutyTok ER (dC kS c j) 0 0 ∗ dutyTok ER (dC kR t j) 0 0)
      ⊢ iprop(((cred (tallyAt (dC kS c j) () (amt kS)) ∗ ow c O) -∗ WP c (f ⟨⟩) Q)
          -∗ WP c (Prog.op (.enqueueDma src (.remote (Dev.tc t : Thread nD τ) dst (.dma sS) hsc) (.dma sR) hw hw' hty) f) Q) := by
  subst hS hR
  unfold ow
  iintro ⟨#HR, Hs, Hd, ⟨%W, HO⟩, HtS, HtR⟩ Hk
  iapply (Rounds.wp_send_pointsTo 𝒱₀ ER (rd I) (c : Thread nD τ) none (κ₁ := K (c, .inr (kS, j))) (κ₂ := K (t, .inr (kR, j)))
    (r₁ := 0) (r₂ := 0) (d₁ := (0 : Dev nD)) (d₂ := (0 : Dev nD)) (fs := fs) (fd := fd)
    (Eq.mpr (congrArg ((0 : Dev nD) ∈ ·) (duties_d I c kS j)) (Finset.mem_singleton_self _))
    (Eq.mpr (congrArg ((0 : Dev nD) ∈ ·) (duties_d I t kR j)) (Finset.mem_singleton_self _))
    () () (dst.view.dmaCredit) rfl ((amount_d I c kS j 0).trans hN.symm) ((amount_d I t kR j 0).trans hN'.symm) O (by rw [hN', add_comm]) (W := W)
    (hpS.trans (Entails.of_eq (payload_d I c kS j 0).symm))
    (((owns_intro _ _ _ _).trans (Entails.of_eq (by rw [View.read_write_univ, hX]))).trans (hpR.trans (Entails.of_eq (payload_d I t kR j 0).symm)))) $$ [Hs Hd HO HtS HtR]
  · isplitr; · iapply (recs_inv I K (c, .inr (kS, j))); iexact HR
    isplitr; · iapply (recs_inv I K (t, .inr (kR, j))); iexact HR
    isplitl [Hs]; · iexact Hs
    isplitl [Hd]; · iexact Hd
    isplitl [HO]; · iexact HO
    isplitl [HtS]; · iexact HtS
    isplitr; · iapply (recs_reached I K (c, .inr (kS, j))); iexact HR
    isplitl [HtR]; · iexact HtR
    iapply (recs_reached I K (t, .inr (kR, j))); iexact HR
  rw [hN]
  iintro ⟨Hc, HO⟩
  iapply Hk
  isplitl [Hc]; · iexact Hc
  iexists W; iexact HO

theorem credA (j : Fin 7) : (slotA j).view.dmaCredit = NA := rfl
theorem credL (j : Fin 7) : (slotL j).view.dmaCredit = NL := rfl
theorem credG (j : Fin 7) : (slotG j).view.dmaCredit = NG := rfl

theorem send_A (c t : Dev nD) (hne : t ≠ c) (O : CT) {src dst : Memref sig .tc .vmem S128x8x128 .bf16} {sS sR : DmaSem sig}
    (hs : src = srcA t) (hd : dst = slotA (sl c t)) (hS : sS = dsem 0 (sl c t)) (hR : sR = dsem 1 (sl c t))
    {hsc : dst.view.ref.isScScratch = false} {hw : src.view.WordExact} {hw' : dst.view.WordExact}
    {hty : DmaTarget.Typed .vmem (.dma sR) (.remote (Dev.tc t : Thread nD τ) dst (.dma sS) hsc)}
    {α : Type} {f : PUnit.{1} → Pr F α} {Q : α → sProp 𝕄} :
    iprop(recs I K ∗ ownsTc c (srcA t) fullShare (aS I c t) ∗ anyA t (sl c t)
        ∗ ow c (tallyAt (dC 1 t (sl c t)) () NA + O) ∗ dutyTok ER (dC 0 c (sl c t)) 0 0 ∗ dutyTok ER (dC 1 t (sl c t)) 0 0)
      ⊢ iprop(((cred (tallyAt (dC 0 c (sl c t)) () (amt 0)) ∗ ow c O) -∗ WP c (f ⟨⟩) Q)
          -∗ WP c (Prog.op (.enqueueDma src (.remote (Dev.tc t : Thread nD τ) dst (.dma sS) hsc) (.dma sR) hw hw' hty) f) Q) := by
  subst hs hd
  unfold anyA ownsTc owns
  iintro ⟨#HR, ⟨%fa, %ha, Ha⟩, ⟨%ga, Hga⟩, HO, Ht0, Ht1⟩
  iapply (send_any I K c t 0 1 (sl c t) O (src := srcA t) (dst := slotA (sl c t)) hS hR (credA _) (credA _) (fs := fa) (fd := ga) ha
    (by show _ ⊢ pay0 I c (sl c t); unfold pay0; rw [nxt_sl hne, ← ha]; exact owns_intro _ _ _ _)
    (by show _ ⊢ pay1 I t (sl c t); unfold pay1; rw [prv_sl (Ne.symm hne)]))
  isplitr; · iexact HR
  isplitl [Ha]; · iexact Ha
  isplitl [Hga]; · iexact Hga
  isplitl [HO]; · iexact HO
  isplitl [Ht0] <;> iassumption

theorem send_L (c t : Dev nD) (hne : t ≠ c) (O : CT) {src dst : Memref sig .tc .vmem S128x8 .bf16} {sS sR : DmaSem sig}
    (hs : src = srcL t) (hd : dst = slotL (sl c t)) (hS : sS = dsem 2 (sl c t)) (hR : sR = dsem 3 (sl c t))
    {hsc : dst.view.ref.isScScratch = false} {hw : src.view.WordExact} {hw' : dst.view.WordExact}
    {hty : DmaTarget.Typed .vmem (.dma sR) (.remote (Dev.tc t : Thread nD τ) dst (.dma sS) hsc)}
    {α : Type} {f : PUnit.{1} → Pr F α} {Q : α → sProp 𝕄} :
    iprop(recs I K ∗ ownsTc c (srcL t) fullShare (lS I c t) ∗ anyL t (sl c t)
        ∗ ow c (tallyAt (dC 3 t (sl c t)) () NL + O) ∗ dutyTok ER (dC 2 c (sl c t)) 0 0 ∗ dutyTok ER (dC 3 t (sl c t)) 0 0)
      ⊢ iprop(((cred (tallyAt (dC 2 c (sl c t)) () (amt 2)) ∗ ow c O) -∗ WP c (f ⟨⟩) Q)
          -∗ WP c (Prog.op (.enqueueDma src (.remote (Dev.tc t : Thread nD τ) dst (.dma sS) hsc) (.dma sR) hw hw' hty) f) Q) := by
  subst hs hd
  unfold anyL ownsTc owns
  iintro ⟨#HR, ⟨%fa, %ha, Ha⟩, ⟨%ga, Hga⟩, HO, Ht0, Ht1⟩
  iapply (send_any I K c t 2 3 (sl c t) O (src := srcL t) (dst := slotL (sl c t)) hS hR (credL _) (credL _) (fs := fa) (fd := ga) ha
    (by show _ ⊢ pay2 I c (sl c t); unfold pay2; rw [nxt_sl hne, ← ha]; exact owns_intro _ _ _ _)
    (by show _ ⊢ pay3 I t (sl c t); unfold pay3; rw [prv_sl (Ne.symm hne)]))
  isplitr; · iexact HR
  isplitl [Ha]; · iexact Ha
  isplitl [Hga]; · iexact Hga
  isplitl [HO]; · iexact HO
  isplitl [Ht0] <;> iassumption

/-- What `c` needs to send `t` its partial sums: `t`'s two slots and the right to pay the four cells. -/
def sendRes (c t : Dev nD) : sProp 𝕄 :=
  if t = c then iprop(emp) else iprop((anyA t (sl c t) ∗ anyL t (sl c t))
    ∗ (dutyTok ER (dC 0 c (sl c t)) 0 0 ∗ dutyTok ER (dC 1 t (sl c t)) 0 0 ∗ dutyTok ER (dC 2 c (sl c t)) 0 0 ∗ dutyTok ER (dC 3 t (sl c t)) 0 0)
    ∗ atPos ER (dC 0 c (sl c t)) 0 ∅ 0 ∗ atPos ER (dC 2 c (sl c t)) 0 ∅ 0)

/-- The rows for `t` before they are sent. -/
def held (c t : Dev nD) : sProp 𝕄 := iprop(ownsTc c (srcA t) fullShare (aS I c t) ∗ ownsTc c (srcL t) fullShare (lS I c t))

/-- The rows for `t` once sent: the credit to get them back, or the rows themselves if they are `c`'s own. -/
def sent (c t : Dev nD) : sProp 𝕄 :=
  if t = c then held I c t else iprop((cred (tallyAt (dC 0 c (sl c t)) () (amt 0)) ∗ cred (tallyAt (dC 2 c (sl c t)) () (amt 2)))
    ∗ atPos ER (dC 0 c (sl c t)) 0 ∅ 0 ∗ atPos ER (dC 2 c (sl c t)) 0 ∅ 0)

/-- The rows for `t` after the transfer was waited for. -/
def back (c t : Dev nD) : sProp 𝕄 :=
  iprop(held I c t ∗ (if t = c then iprop(emp) else iprop(semVal (dC 0 c (sl c t)) 0 ∗ semVal (dC 2 c (sl c t)) 0)))

theorem ret_intro (c : Dev nD) {α : Type} {a : α} {Q : α → sProp 𝕄} : Q a ⊢ WP c (Prog.ret a : Pr F α) Q := by
  show _ ⊢ wp _ _ _ _ _
  rw [wp_ret]; iintro H; imodintro; iexact H

/-- The guarded transfers to `t`. -/
theorem cond_send (c t : Dev nD) (O : CT) {cnd : BitVec 1} {n₁ n₂ : ℕ}
    {hn₁ : cnd = 1#1 → n₁ < nD} {hn₂ : cnd = 1#1 → n₂ < nD} {sa ra sb rb : cnd = 1#1 → DmaSem sig}
    {srA : Memref sig .tc .vmem S128x8x128 .bf16} {srL : Memref sig .tc .vmem S128x8 .bf16}
    {dsA : cnd = 1#1 → Memref sig .tc .vmem S128x8x128 .bf16} {dsL : cnd = 1#1 → Memref sig .tc .vmem S128x8 .bf16}
    {sc₁ : ∀ h, (dsA h).view.ref.isScScratch = false} {sc₂ : ∀ h, (dsL h).view.ref.isScScratch = false}
    {w₁ : srA.view.WordExact} {w₂ : ∀ h, (dsA h).view.WordExact}
    {w₃ : ∀ h, DmaTarget.Typed .vmem (.dma (ra h)) (.remote (Dev.tc (⟨n₁, hn₁ h⟩ : Dev nD)) (dsA h) (.dma (sa h)) (sc₁ h))}
    {w₄ : srL.view.WordExact} {w₅ : ∀ h, (dsL h).view.WordExact}
    {w₆ : ∀ h, DmaTarget.Typed .vmem (.dma (rb h)) (.remote (Dev.tc (⟨n₂, hn₂ h⟩ : Dev nD)) (dsL h) (.dma (sb h)) (sc₂ h))}
    (hc : cnd = 1#1 ↔ t ≠ c) (h₁ : n₁ = t.val) (h₂ : n₂ = t.val)
    (hsa : ∀ h, sa h = dsem 0 (sl c t)) (hra : ∀ h, ra h = dsem 1 (sl c t)) (hsb : ∀ h, sb h = dsem 2 (sl c t)) (hrb : ∀ h, rb h = dsem 3 (sl c t))
    (hA : srA = srcA t) (hL : srL = srcL t) (hdA : ∀ h, dsA h = slotA (sl c t)) (hdL : ∀ h, dsL h = slotL (sl c t)) {Q : PUnit.{1} → sProp 𝕄} :
    iprop(recs I K ∗ held I c t ∗ sendRes c t ∗ ow c (oRt c t + O))
      ⊢ iprop(((sent I c t ∗ ow c O) -∗ Q ⟨⟩)
          -∗ WP c (if h : cnd = 1#1 then
              Prog.op (.enqueueDma srA (.remote (Dev.tc (⟨n₁, hn₁ h⟩ : Dev nD)) (dsA h) (.dma (sa h)) (sc₁ h)) (.dma (ra h)) w₁ (w₂ h) (w₃ h)) fun _ =>
              Prog.op (.enqueueDma srL (.remote (Dev.tc (⟨n₂, hn₂ h⟩ : Dev nD)) (dsL h) (.dma (sb h)) (sc₂ h)) (.dma (rb h)) w₄ (w₅ h) (w₆ h)) fun _ =>
              Prog.ret ⟨⟩
            else Prog.ret ⟨⟩) Q) := by
  subst h₁ h₂
  by_cases hne : t = c
  · subst hne
    rw [dif_neg (fun h => (hc.mp h) rfl)]
    unfold sent sendRes oRt
    rw [if_pos rfl, if_pos rfl, if_pos rfl, zero_add]
    iintro ⟨-, Hh, -, HO⟩ Hk
    iapply (ret_intro (F := F) t)
    iapply Hk
    isplitl [Hh] <;> iassumption
  · have h := hc.mpr hne
    rw [dif_pos h]
    unfold sent sendRes oRt held
    rw [if_neg hne, if_neg hne, if_neg hne, add_assoc]
    iintro ⟨#HR, ⟨Ha, Hl⟩, ⟨⟨Hga, Hgl⟩, ⟨Ht0, Ht1, Ht2, Ht3⟩, Hat0, Hat2⟩, HO⟩ Hk
    iapply (send_A I K c t hne (tallyAt (dC 3 t (sl c t)) () NL + O) hA (hdA h) (hsa h) (hra h)) $$ [Ha Hga HO Ht0 Ht1]
    · isplitr; · iexact HR
      isplitl [Ha]; · iexact Ha
      isplitl [Hga]; · iexact Hga
      isplitl [HO]; · iexact HO
      isplitl [Ht0] <;> iassumption
    iintro ⟨Hc0, HO⟩
    iapply (send_L I K c t hne O hL (hdL h) (hsb h) (hrb h)) $$ [Hl Hgl HO Ht2 Ht3]
    · isplitr; · iexact HR
      isplitl [Hl]; · iexact Hl
      isplitl [Hgl]; · iexact Hgl
      isplitl [HO]; · iexact HO
      isplitl [Ht2] <;> iassumption
    iintro ⟨Hc2, HO⟩
    iapply (ret_intro (F := F) c)
    iapply Hk
    isplitr [HO]
    · isplitl [Hc0 Hc2]
      · isplitl [Hc0] <;> iassumption
      · isplitl [Hat0] <;> iassumption
    · iexact HO

/-- The guarded waits for the transfers to `t`. -/
theorem cond_wait (c t : Dev nD) (O : CT) (hO : Above 0 O) {cnd : BitVec 1} {sa sb : cnd = 1#1 → DmaSem sig}
    {srA : Memref sig .tc .vmem S128x8x128 .bf16} {srL : Memref sig .tc .vmem S128x8 .bf16}
    {dsA : cnd = 1#1 → Memref sig .tc .vmem S128x8x128 .bf16} {dsL : cnd = 1#1 → Memref sig .tc .vmem S128x8 .bf16}
    {w₁ : ∀ h, (dsA h).view.WordExact} {w₂ : srA.view.WordExact} {w₃ : ∀ h, (dsL h).view.WordExact} {w₄ : srL.view.WordExact}
    (hc : cnd = 1#1 ↔ t ≠ c) (hsa : ∀ h, sa h = dsem 0 (sl c t)) (hsb : ∀ h, sb h = dsem 2 (sl c t))
    (hA : srA.view.dmaCredit = NA) (hL : srL.view.dmaCredit = NL) {Q : PUnit.{1} → sProp 𝕄} :
    iprop(recs I K ∗ sent I c t ∗ ow c O)
      ⊢ iprop(((back I c t ∗ ow c O) -∗ Q ⟨⟩)
          -∗ WP c (if h : cnd = 1#1 then
              Prog.op (.waitDma2 (sa h) (dsA h) srA (w₁ h) w₂) fun _ =>
              Prog.op (.waitDma2 (sb h) (dsL h) srL (w₃ h) w₄) fun _ =>
              Prog.ret ⟨⟩
            else Prog.ret ⟨⟩) Q) := by
  by_cases hne : t = c
  · subst hne
    rw [dif_neg (fun h => (hc.mp h) rfl)]
    unfold sent back
    rw [if_pos rfl, if_pos rfl]
    iintro ⟨-, Hh, HO⟩ Hk
    iapply (ret_intro (F := F) t)
    iapply Hk
    isplitl [Hh]
    · isplitl; · iexact Hh
      iempintro
    · iexact HO
  · have h := hc.mpr hne
    rw [dif_pos h]
    unfold sent back
    rw [if_neg hne, if_neg hne]
    iintro ⟨#HR, ⟨⟨Hc0, Hc2⟩, Hat0, Hat2⟩, HO⟩ Hk
    iapply (wait_d I K 0 c (sl c t) 0 O (by rw [lv_d]; exact Nat.le_refl 0) hO (wpE_waitDma2_eq 𝒱₀ (c : Thread nD τ) none Set.univ)
      (congrArg SemLoc.dma (hsa h)) hA) $$ [Hc0 HO Hat0]
    · isplitr; · iexact HR
      isplitl [Hc0]; · iexact Hc0
      isplitl [HO] <;> iassumption
    iintro ⟨HO, Hz0, Hp0⟩
    iapply (wait_d I K 2 c (sl c t) 0 O (by rw [lv_d]; exact Nat.le_refl 0) hO (wpE_waitDma2_eq 𝒱₀ (c : Thread nD τ) none Set.univ)
      (congrArg SemLoc.dma (hsb h)) hL) $$ [Hc2 HO Hat2]
    · isplitr; · iexact HR
      isplitl [Hc2]; · iexact Hc2
      isplitl [HO] <;> iassumption
    iintro ⟨HO, Hz2, Hp2⟩
    iapply (ret_intro (F := F) c)
    iapply Hk
    isplitr [HO]
    · isplitl [Hp0 Hp2]
      · unfold held
        isplitl [Hp0]
        · iapply (show dPay I 0 c (sl c t) ⊢ ownsTc c (srcA t) fullShare (aS I c t) from by
            show pay0 I c (sl c t) ⊢ _; unfold pay0; rw [nxt_sl hne]); iexact Hp0
        · iapply (show dPay I 2 c (sl c t) ⊢ ownsTc c (srcL t) fullShare (lS I c t) from by
            show pay2 I c (sl c t) ⊢ _; unfold pay2; rw [nxt_sl hne]); iexact Hp2
      · isplitl [Hz0] <;> iassumption
    · iexact HO

end Cert.KernelIdeal.Run
-- ==== Proof.KernelIdealRun.Bufs.lean ====
/- The kernel's loads and stores: what each leaves in the buffers. -/
module

public import proofs.«01_k».proof.Proof.KernelIdealRun.Steps

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (c : Dev nD)

omit [FloatOps F] in
/-- What a store through a rectangle leaves at an element inside it. -/
theorem write_in (b : Ref sig .tc) (r : Rect b.ty.shape) (f : b.ty.Contents (Elt F)) (w : r.shape.Idx → Elt F b.ty.elt) (x : r.shape.Idx) :
    ((Memref.whole b).access r).write (Elt F) f w Finset.univ (r.idx x) = w x :=
  ((Memref.whole b).access r).write_emb_of_mem f w (M := Finset.univ) (x := x) (Finset.mem_univ _)

omit [FloatOps F] in
/-- What a store through a rectangle leaves at an element outside it. -/
theorem write_out (b : Ref sig .tc) (r : Rect b.ty.shape) (f : b.ty.Contents (Elt F)) (w : r.shape.Idx → Elt F b.ty.elt) (i : b.ty.shape.Idx) (h : i ∉ r.set) :
    ((Memref.whole b).access r).write (Elt F) f w Finset.univ i = f i :=
  ((Memref.whole b).access r).write_of_not_mem f w Finset.univ (by
    have : ((Memref.whole b).access r).setOn Finset.univ = r.set := View.set_slice_whole b r
    rw [this]; exact h)

/-! ## The accumulators -/

/-- The first `n` blocks of the products are in place. -/
def accAt (n : ℕ) : sProp 𝕄 :=
  iprop(∃ f : Buf (Elt F) ((c : Thread nD τ).loc cc0_scratch0), ⌜∀ i : S1024x8x128.Idx, 8 * ((i 0).val / 256) + (i 1).val < n → f i = aF I c i⌝
    ∗ ((c : Thread nD τ).loc cc0_scratch0 ↦{fullShare} f))
/-- The first `n` blocks of the row sums are in place. -/
def lAt (n : ℕ) : sProp 𝕄 :=
  iprop(∃ f : Buf (Elt F) ((c : Thread nD τ).loc cc0_scratch1), ⌜∀ i : S1024x8.Idx, 8 * ((i 0).val / 256) + (i 1).val < n → f i = lF I c i⌝
    ∗ ((c : Thread nD τ).loc cc0_scratch1 ↦{fullShare} f))

theorem load_acc (n : ℕ) {r : LoadRect S1024x8x128} {hl : accM.view.LoadsAt r} {α : Type} {k : (r.shape.Idx → Elt F .f32) → Pr F α} {Q : α → sProp 𝕄} :
    accAt I c n ⊢ iprop((∀ v, accAt I c n -∗ WP c (k v) Q) -∗ WP c (Prog.op (.load accM r hl) k) Q) := by
  unfold accAt
  iintro ⟨%f, %hf, H⟩ Hk
  iapply (wp_load 𝒱₀ (c : Thread nD τ) none Set.univ (m := accM) (Finset.subset_univ _)) $$ H; iintro H
  iapply Hk; iexists f; isplitr
  · ipureintro; exact hf
  · iexact H

theorem load_l (n : ℕ) {r : LoadRect S1024x8} {hl : lM.view.LoadsAt r} {α : Type} {k : (r.shape.Idx → Elt F .f32) → Pr F α} {Q : α → sProp 𝕄} :
    lAt I c n ⊢ iprop((∀ v, lAt I c n -∗ WP c (k v) Q) -∗ WP c (Prog.op (.load lM r hl) k) Q) := by
  unfold lAt
  iintro ⟨%f, %hf, H⟩ Hk
  iapply (wp_load 𝒱₀ (c : Thread nD τ) none Set.univ (m := lM) (Finset.subset_univ _)) $$ H; iintro H
  iapply Hk; iexists f; isplitr
  · ipureintro; exact hf
  · iexact H

theorem aF_at (i : S1024x8x128.Idx) (r : Fin 4) (h : Fin 8) (x : S256x1x128.Idx) (h0 : (i 0).val = 256 * r.val + (x 0).val) (h1 : (i 1).val = h.val)
    (h2 : (i 2).val = (x 2).val) : aF I c i = aB (qV I c) (kV I c) (vV I c) r h x := by
  have hx0 : (x 0).val < 256 := (x 0).isLt
  have e0 : grp (i 0) = r := Fin.ext (by show (i 0).val / 256 = r.val; omega)
  have e1 : (i 1 : Fin 8) = h := Fin.ext h1
  unfold aF
  rw [e0, e1]
  congr 1
  funext a
  have hx1 : (x 1).val < 1 := (x 1).isLt
  match a with
  | 0 => exact Fin.ext (by show (i 0).val % 256 = (x 0).val; omega)
  | 1 => exact Fin.ext (by show 0 = (x 1).val; omega)
  | 2 => exact Fin.ext h2

theorem lF_at (i : S1024x8.Idx) (r : Fin 4) (h : Fin 8) (x : S256x1.Idx) (h0 : (i 0).val = 256 * r.val + (x 0).val) (h1 : (i 1).val = h.val) :
    lF I c i = lB (qV I c) (kV I c) r h x := by
  have hx0 : (x 0).val < 256 := (x 0).isLt
  have e0 : grp (i 0) = r := Fin.ext (by show (i 0).val / 256 = r.val; omega)
  have e1 : (i 1 : Fin 8) = h := Fin.ext h1
  unfold lF
  rw [e0, e1]
  congr 1
  funext a
  have hx1 : (x 1).val < 1 := (x 1).isLt
  match a with
  | 0 => exact Fin.ext (by show (i 0).val % 256 = (x 0).val; omega)
  | 1 => exact Fin.ext (by show 0 = (x 1).val; omega)

/-- Storing block `n` of the products. -/
theorem store_acc (n : ℕ) (hn : n / 8 < 4) {off : Fin 3 → ℕ} {inb : ∀ a, off a + S256x1x128.size a ≤ S1024x8x128.size a} {w : Vec F S256x1x128 .f32}
    (ho : off = ![256 * (n / 8), n % 8, 0]) (hw : w = aB (qV I c) (kV I c) (vV I c) ⟨n / 8, hn⟩ ⟨n % 8, Nat.mod_lt _ (by decide)⟩)
    {hx : (accM.access (Rect.unit (s := S1024x8x128) off S256x1x128.size inb)).Stores Finset.univ} {hm : (Finset.univ : Finset S256x1x128.Idx) = Finset.univ ∨ ∀ a, (Rect.unit (s := S1024x8x128) off S256x1x128.size inb).stride a = 1}
    {α : Type} {k : PUnit.{1} → Pr F α} {Q : α → sProp 𝕄} :
    accAt I c n ⊢ iprop((accAt I c (n + 1) -∗ WP c (k ⟨⟩) Q) -∗ WP c (Prog.op (.store accM (Rect.unit (s := S1024x8x128) off S256x1x128.size inb) w Finset.univ hx hm) k) Q) := by
  subst ho hw
  unfold accAt
  iintro ⟨%f, %hf, H⟩ Hk
  iapply (wp_store 𝒱₀ (c : Thread nD τ) none Set.univ (m := accM) (r := Rect.unit (s := S1024x8x128) ![256 * (n / 8), n % 8, 0] S256x1x128.size inb) (Mk := Finset.univ) (Finset.subset_univ _)) $$ H; iintro H
  iapply Hk; iexists _; isplitr
  rotate_left
  · iexact H
  · ipureintro
    intro i hi
    by_cases hmem : i ∈ (Rect.unit (s := S1024x8x128) ![256 * (n / 8), n % 8, 0] S256x1x128.size inb).set
    · obtain ⟨x, rfl⟩ := (Rect.unit (s := S1024x8x128) ![256 * (n / 8), n % 8, 0] S256x1x128.size inb).exists_idx_of_mem hmem
      refine (write_in cc0_scratch0 _ f _ x).trans (aF_at I c _ ⟨n / 8, hn⟩ ⟨n % 8, _⟩ x ?_ ?_ ?_).symm
      · show 256 * (n / 8) + 1 * (x 0).val = 256 * (n / 8) + (x 0).val; omega
      · have : (x 1).val < 1 := (x 1).isLt
        show n % 8 + 1 * (x 1).val = n % 8; omega
      · show 0 + 1 * (x 2).val = (x 2).val; omega
    · refine (write_out cc0_scratch0 _ f _ i hmem).trans (hf i ?_)
      rw [Rect.mem_set_unit] at hmem
      by_contra hlt
      refine hmem fun a => ?_
      have h1 : (i 1).val < 8 := (i 1).isLt
      have h2 : (i 2).val < 128 := (i 2).isLt
      match a with
      | 0 => show 256 * (n / 8) ≤ (i 0).val ∧ (i 0).val < 256 * (n / 8) + 256; omega
      | 1 => show n % 8 ≤ (i 1).val ∧ (i 1).val < n % 8 + 1; omega
      | 2 => show 0 ≤ (i 2).val ∧ (i 2).val < 0 + 128; omega

/-- Storing block `n` of the row sums. -/
theorem store_l (n : ℕ) (hn : n / 8 < 4) {off : Fin 2 → ℕ} {inb : ∀ a, off a + S256x1.size a ≤ S1024x8.size a} {w : Vec F S256x1 .f32}
    (ho : off = ![256 * (n / 8), n % 8]) (hw : w = lB (qV I c) (kV I c) ⟨n / 8, hn⟩ ⟨n % 8, Nat.mod_lt _ (by decide)⟩)
    {hx : (lM.access (Rect.unit (s := S1024x8) off S256x1.size inb)).Stores Finset.univ} {hm : (Finset.univ : Finset S256x1.Idx) = Finset.univ ∨ ∀ a, (Rect.unit (s := S1024x8) off S256x1.size inb).stride a = 1}
    {α : Type} {k : PUnit.{1} → Pr F α} {Q : α → sProp 𝕄} :
    lAt I c n ⊢ iprop((lAt I c (n + 1) -∗ WP c (k ⟨⟩) Q) -∗ WP c (Prog.op (.store lM (Rect.unit (s := S1024x8) off S256x1.size inb) w Finset.univ hx hm) k) Q) := by
  subst ho hw
  unfold lAt
  iintro ⟨%f, %hf, H⟩ Hk
  iapply (wp_store 𝒱₀ (c : Thread nD τ) none Set.univ (m := lM) (r := Rect.unit (s := S1024x8) ![256 * (n / 8), n % 8] S256x1.size inb) (Mk := Finset.univ) (Finset.subset_univ _)) $$ H; iintro H
  iapply Hk; iexists _; isplitr
  rotate_left
  · iexact H
  · ipureintro
    intro i hi
    by_cases hmem : i ∈ (Rect.unit (s := S1024x8) ![256 * (n / 8), n % 8] S256x1.size inb).set
    · obtain ⟨x, rfl⟩ := (Rect.unit (s := S1024x8) ![256 * (n / 8), n % 8] S256x1.size inb).exists_idx_of_mem hmem
      refine (write_in cc0_scratch1 _ f _ x).trans (lF_at I c _ ⟨n / 8, hn⟩ ⟨n % 8, _⟩ x ?_ ?_).symm
      · show 256 * (n / 8) + 1 * (x 0).val = 256 * (n / 8) + (x 0).val; omega
      · have : (x 1).val < 1 := (x 1).isLt
        show n % 8 + 1 * (x 1).val = n % 8; omega
    · refine (write_out cc0_scratch1 _ f _ i hmem).trans (hf i ?_)
      rw [Rect.mem_set_unit] at hmem
      by_contra hlt
      refine hmem fun a => ?_
      have h1 : (i 1).val < 8 := (i 1).isLt
      match a with
      | 0 => show 256 * (n / 8) ≤ (i 0).val ∧ (i 0).val < 256 * (n / 8) + 256; omega
      | 1 => show n % 8 ≤ (i 1).val ∧ (i 1).val < n % 8 + 1; omega

/-! ## The rounded copies -/

theorem rowG_lt (r : Fin 4) (n : Fin 256) : 256 * r.val + n.val < 1024 := by omega
/-- Row `n` of group `r`. -/
def rowG (r : Fin 4) (n : Fin 256) : Fin 1024 := ⟨256 * r.val + n.val, rowG_lt r n⟩
/-- The rows of group `r`. -/
def grp3 {α : Type} (X : S1024x8x128.Idx → α) (r : Fin 4) : S256x8x128.Idx → α := fun i => X (fun | 0 => rowG r (i 0) | 1 => (i 1 : Fin 8) | 2 => (i 2 : Fin 128))
def grp2 {α : Type} (X : S1024x8.Idx → α) (r : Fin 4) : S256x8.Idx → α := fun i => X (fun | 0 => rowG r (i 0) | 1 => (i 1 : Fin 8))

/-- Reading back the rows of a finished group. -/
theorem read_acc (n : ℕ) (r : Fin 4) (hn : 8 * (r.val + 1) ≤ n) {off : Fin 3 → ℕ} {inb : ∀ a, off a + S256x8x128.size a ≤ S1024x8x128.size a}
    (ho : off = ![256 * r.val, 0, 0]) {hl : accM.view.LoadsAt (Rect.unit (s := S1024x8x128) off S256x8x128.size inb).toLoadRect}
    {α : Type} {k : (S256x8x128.Idx → Elt F .f32) → Pr F α} {Q : α → sProp 𝕄} :
    accAt I c n ⊢ iprop((accAt I c n -∗ WP c (k (grp3 (aF I c) r)) Q) -∗ WP c (Prog.op (.load accM (Rect.unit (s := S1024x8x128) off S256x8x128.size inb).toLoadRect hl) k) Q) := by
  subst ho
  unfold accAt
  iintro ⟨%f, %hf, H⟩ Hk
  have hv : accM.view.readAt (Elt F) (Rect.unit (s := S1024x8x128) ![256 * r.val, 0, 0] S256x8x128.size inb).toLoadRect f = grp3 (aF I c) r := by
    funext x
    have hx0 : (x 0).val < 256 := (x 0).isLt
    have hx1 : (x 1).val < 8 := (x 1).isLt
    refine Eq.trans (b := f ((Rect.unit (s := S1024x8x128) ![256 * r.val, 0, 0] S256x8x128.size inb).idx x)) rfl ?_
    have e : (Rect.unit (s := S1024x8x128) ![256 * r.val, 0, 0] S256x8x128.size inb).idx x = (fun | 0 => rowG r (x 0) | 1 => (x 1 : Fin 8) | 2 => (x 2 : Fin 128)) := by
      funext a
      match a with
      | 0 => exact Fin.ext (by show 256 * r.val + 1 * (x 0).val = 256 * r.val + (x 0).val; omega)
      | 1 => exact Fin.ext (by show 0 + 1 * (x 1).val = (x 1).val; omega)
      | 2 => exact Fin.ext (by show 0 + 1 * (x 2).val = (x 2).val; omega)
    rw [e]
    exact hf _ (by show 8 * ((256 * r.val + (x 0).val) / 256) + (x 1).val < n; omega)
  iapply (wp_load 𝒱₀ (c : Thread nD τ) none Set.univ (m := accM) (Finset.subset_univ _)) $$ H; iintro H
  rw [hv]
  iapply Hk; iexists f; isplitr
  · ipureintro; exact hf
  · iexact H

theorem read_l (n : ℕ) (r : Fin 4) (hn : 8 * (r.val + 1) ≤ n) {off : Fin 2 → ℕ} {inb : ∀ a, off a + S256x8.size a ≤ S1024x8.size a}
    (ho : off = ![256 * r.val, 0]) {hl : lM.view.LoadsAt (Rect.unit (s := S1024x8) off S256x8.size inb).toLoadRect}
    {α : Type} {k : (S256x8.Idx → Elt F .f32) → Pr F α} {Q : α → sProp 𝕄} :
    lAt I c n ⊢ iprop((lAt I c n -∗ WP c (k (grp2 (lF I c) r)) Q) -∗ WP c (Prog.op (.load lM (Rect.unit (s := S1024x8) off S256x8.size inb).toLoadRect hl) k) Q) := by
  subst ho
  unfold lAt
  iintro ⟨%f, %hf, H⟩ Hk
  have hv : lM.view.readAt (Elt F) (Rect.unit (s := S1024x8) ![256 * r.val, 0] S256x8.size inb).toLoadRect f = grp2 (lF I c) r := by
    funext x
    have hx0 : (x 0).val < 256 := (x 0).isLt
    have hx1 : (x 1).val < 8 := (x 1).isLt
    refine Eq.trans (b := f ((Rect.unit (s := S1024x8) ![256 * r.val, 0] S256x8.size inb).idx x)) rfl ?_
    have e : (Rect.unit (s := S1024x8) ![256 * r.val, 0] S256x8.size inb).idx x = (fun | 0 => rowG r (x 0) | 1 => (x 1 : Fin 8)) := by
      funext a
      match a with
      | 0 => exact Fin.ext (by show 256 * r.val + 1 * (x 0).val = 256 * r.val + (x 0).val; omega)
      | 1 => exact Fin.ext (by show 0 + 1 * (x 1).val = (x 1).val; omega)
    rw [e]
    exact hf _ (by show 8 * ((256 * r.val + (x 0).val) / 256) + (x 1).val < n; omega)
  iapply (wp_load 𝒱₀ (c : Thread nD τ) none Set.univ (m := lM) (Finset.subset_univ _)) $$ H; iintro H
  rw [hv]
  iapply Hk; iexists f; isplitr
  · ipureintro; exact hf
  · iexact H

/-- Reading back the rows the device keeps. -/
theorem read_own {off : Fin 3 → ℕ} {inb : ∀ a, off a + S128x8x128.size a ≤ S1024x8x128.size a} (t : Dev nD)
    (ho : off = ![128 * t.val, 0, 0]) {hl : accM.view.LoadsAt (Rect.unit (s := S1024x8x128) off S128x8x128.size inb).toLoadRect}
    {α : Type} {k : (S128x8x128.Idx → Elt F .f32) → Pr F α} {Q : α → sProp 𝕄} :
    accAt I c 32 ⊢ iprop((accAt I c 32 -∗ WP c (k (rows3 (aF I c) t)) Q) -∗ WP c (Prog.op (.load accM (Rect.unit (s := S1024x8x128) off S128x8x128.size inb).toLoadRect hl) k) Q) := by
  subst ho
  unfold accAt
  iintro ⟨%f, %hf, H⟩ Hk
  have hv : accM.view.readAt (Elt F) (Rect.unit (s := S1024x8x128) ![128 * t.val, 0, 0] S128x8x128.size inb).toLoadRect f = rows3 (aF I c) t := by
    funext x
    have hx0 : (x 0).val < 128 := (x 0).isLt
    have hx1 : (x 1).val < 8 := (x 1).isLt
    have ht : t.val < 8 := t.isLt
    refine Eq.trans (b := f ((Rect.unit (s := S1024x8x128) ![128 * t.val, 0, 0] S128x8x128.size inb).idx x)) rfl ?_
    have e : (Rect.unit (s := S1024x8x128) ![128 * t.val, 0, 0] S128x8x128.size inb).idx x = (fun | 0 => rowOf t (x 0) | 1 => (x 1 : Fin 8) | 2 => (x 2 : Fin 128)) := by
      funext a
      match a with
      | 0 => exact Fin.ext (by show 128 * t.val + 1 * (x 0).val = 128 * t.val + (x 0).val; omega)
      | 1 => exact Fin.ext (by show 0 + 1 * (x 1).val = (x 1).val; omega)
      | 2 => exact Fin.ext (by show 0 + 1 * (x 2).val = (x 2).val; omega)
    rw [e]
    exact hf _ (by show 8 * ((128 * t.val + (x 0).val) / 256) + (x 1).val < 32; omega)
  iapply (wp_load 𝒱₀ (c : Thread nD τ) none Set.univ (m := accM) (Finset.subset_univ _)) $$ H; iintro H
  rw [hv]
  iapply Hk; iexists f; isplitr
  · ipureintro; exact hf
  · iexact H

theorem read_ownL {off : Fin 2 → ℕ} {inb : ∀ a, off a + S128x8.size a ≤ S1024x8.size a} (t : Dev nD)
    (ho : off = ![128 * t.val, 0]) {hl : lM.view.LoadsAt (Rect.unit (s := S1024x8) off S128x8.size inb).toLoadRect}
    {α : Type} {k : (S128x8.Idx → Elt F .f32) → Pr F α} {Q : α → sProp 𝕄} :
    lAt I c 32 ⊢ iprop((lAt I c 32 -∗ WP c (k (rows2 (lF I c) t)) Q) -∗ WP c (Prog.op (.load lM (Rect.unit (s := S1024x8) off S128x8.size inb).toLoadRect hl) k) Q) := by
  subst ho
  unfold lAt
  iintro ⟨%f, %hf, H⟩ Hk
  have hv : lM.view.readAt (Elt F) (Rect.unit (s := S1024x8) ![128 * t.val, 0] S128x8.size inb).toLoadRect f = rows2 (lF I c) t := by
    funext x
    have hx0 : (x 0).val < 128 := (x 0).isLt
    have hx1 : (x 1).val < 8 := (x 1).isLt
    have ht : t.val < 8 := t.isLt
    refine Eq.trans (b := f ((Rect.unit (s := S1024x8) ![128 * t.val, 0] S128x8.size inb).idx x)) rfl ?_
    have e : (Rect.unit (s := S1024x8) ![128 * t.val, 0] S128x8.size inb).idx x = (fun | 0 => rowOf t (x 0) | 1 => (x 1 : Fin 8)) := by
      funext a
      match a with
      | 0 => exact Fin.ext (by show 128 * t.val + 1 * (x 0).val = 128 * t.val + (x 0).val; omega)
      | 1 => exact Fin.ext (by show 0 + 1 * (x 1).val = (x 1).val; omega)
    rw [e]
    exact hf _ (by show 8 * ((128 * t.val + (x 0).val) / 256) + (x 1).val < 32; omega)
  iapply (wp_load 𝒱₀ (c : Thread nD τ) none Set.univ (m := lM) (Finset.subset_univ _)) $$ H; iintro H
  rw [hv]
  iapply Hk; iexists f; isplitr
  · ipureintro; exact hf
  · iexact H

end Cert.KernelIdeal.Run
-- ==== Proof.KernelIdealRun.Slots.lean ====
/- The rounded copies, the landing slots, the projected rows and the result: one lemma per load and store. -/
module

public import proofs.«01_k».proof.Proof.KernelIdealRun.Bufs
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (c : Dev nD)

theorem inb_recH (r : Fin 4) : ∀ a, (![256 * r.val, 0, 0] : Fin 3 → ℕ) a + S256x8x128.size a ≤ S1024x8x128.size a := by revert r; decide
theorem inb_recHL (r : Fin 4) : ∀ a, (![256 * r.val, 0] : Fin 2 → ℕ) a + S256x8.size a ≤ S1024x8.size a := by revert r; decide
abbrev recH (r : Fin 4) : Rect S1024x8x128 := Rect.unit ![256 * r.val, 0, 0] S256x8x128.size (inb_recH r)
abbrev recHL (r : Fin 4) : Rect S1024x8 := Rect.unit ![256 * r.val, 0] S256x8.size (inb_recHL r)

/-- The rounded products' rows of group `r`, with any contents. -/
def freeA (r : Fin 4) : sProp 𝕄 := iprop(∃ f : Buf (Elt F) ((c : Thread nD τ).loc cc0_scratch2), ((c : Thread nD τ).loc cc0_scratch2 ↦[(recH r).set]{fullShare} f))
/-- The rounded sums' rows of group `r`, with any contents. -/
def freeL (r : Fin 4) : sProp 𝕄 := iprop(∃ f : Buf (Elt F) ((c : Thread nD τ).loc cc0_scratch3), ((c : Thread nD τ).loc cc0_scratch3 ↦[(recHL r).set]{fullShare} f))

theorem set_recH (r : Fin 4) (t t' : Fin 8) (ht : t.val = 2 * r.val) (ht' : t'.val = 2 * r.val + 1) :
    (recH r).set = (recA t).set ∪ (recA t').set := by
  ext i
  rw [Finset.mem_union, Rect.mem_set_unit, Rect.mem_set_unit, Rect.mem_set_unit]
  have h1 : (i 1).val < 8 := (i 1).isLt
  have h2 : (i 2).val < 128 := (i 2).isLt
  constructor
  · intro h
    have h0 : 256 * r.val ≤ (i 0).val ∧ (i 0).val < 256 * r.val + 256 := h 0
    by_cases hlt : (i 0).val < 128 * t'.val
    · refine Or.inl fun a => ?_
      match a with
      | 0 => show 128 * t.val ≤ (i 0).val ∧ (i 0).val < 128 * t.val + 128; omega
      | 1 => exact ⟨Nat.zero_le _, by show (i 1).val < 0 + 8; omega⟩
      | 2 => exact ⟨Nat.zero_le _, by show (i 2).val < 0 + 128; omega⟩
    · refine Or.inr fun a => ?_
      match a with
      | 0 => show 128 * t'.val ≤ (i 0).val ∧ (i 0).val < 128 * t'.val + 128; omega
      | 1 => exact ⟨Nat.zero_le _, by show (i 1).val < 0 + 8; omega⟩
      | 2 => exact ⟨Nat.zero_le _, by show (i 2).val < 0 + 128; omega⟩
  · intro h a
    have h0 : (128 * t.val ≤ (i 0).val ∧ (i 0).val < 128 * t.val + 128) ∨ (128 * t'.val ≤ (i 0).val ∧ (i 0).val < 128 * t'.val + 128) := h.imp (fun h => h 0) (fun h => h 0)
    match a with
    | 0 => show 256 * r.val ≤ (i 0).val ∧ (i 0).val < 256 * r.val + 256; omega
    | 1 => exact ⟨Nat.zero_le _, by show (i 1).val < 0 + 8; omega⟩
    | 2 => exact ⟨Nat.zero_le _, by show (i 2).val < 0 + 128; omega⟩

theorem set_recHL (r : Fin 4) (t t' : Fin 8) (ht : t.val = 2 * r.val) (ht' : t'.val = 2 * r.val + 1) :
    (recHL r).set = (recL t).set ∪ (recL t').set := by
  ext i
  rw [Finset.mem_union, Rect.mem_set_unit, Rect.mem_set_unit, Rect.mem_set_unit]
  have h1 : (i 1).val < 8 := (i 1).isLt
  constructor
  · intro h
    have h0 : 256 * r.val ≤ (i 0).val ∧ (i 0).val < 256 * r.val + 256 := h 0
    by_cases hlt : (i 0).val < 128 * t'.val
    · refine Or.inl fun a => ?_
      match a with
      | 0 => show 128 * t.val ≤ (i 0).val ∧ (i 0).val < 128 * t.val + 128; omega
      | 1 => exact ⟨Nat.zero_le _, by show (i 1).val < 0 + 8; omega⟩
    · refine Or.inr fun a => ?_
      match a with
      | 0 => show 128 * t'.val ≤ (i 0).val ∧ (i 0).val < 128 * t'.val + 128; omega
      | 1 => exact ⟨Nat.zero_le _, by show (i 1).val < 0 + 8; omega⟩
  · intro h a
    have h0 : (128 * t.val ≤ (i 0).val ∧ (i 0).val < 128 * t.val + 128) ∨ (128 * t'.val ≤ (i 0).val ∧ (i 0).val < 128 * t'.val + 128) := h.imp (fun h => h 0) (fun h => h 0)
    match a with
    | 0 => show 256 * r.val ≤ (i 0).val ∧ (i 0).val < 256 * r.val + 256; omega
    | 1 => exact ⟨Nat.zero_le _, by show (i 1).val < 0 + 8; omega⟩

theorem disj_recA (t t' : Fin 8) (h : t ≠ t') : Disjoint (recA t).set (recA t').set :=
  Rect.unit_disjoint 0 (by show 128 * t.val + 128 ≤ 128 * t'.val ∨ 128 * t'.val + 128 ≤ 128 * t.val; have := fun e => h (Fin.ext e); omega)
theorem disj_recL (t t' : Fin 8) (h : t ≠ t') : Disjoint (recL t).set (recL t').set :=
  Rect.unit_disjoint 0 (by show 128 * t.val + 128 ≤ 128 * t'.val ∨ 128 * t'.val + 128 ≤ 128 * t.val; have := fun e => h (Fin.ext e); omega)

theorem setOn_whole (b : Ref sig .tc) (r : Rect b.ty.shape) : ((Memref.whole b).access r).setOn Finset.univ = r.set := View.set_slice_whole b r

/-- A load of a group of the rounded products, its value unused. -/
theorem load_accH (r : Fin 4) {off : Fin 3 → ℕ} {inb : ∀ a, off a + S256x8x128.size a ≤ S1024x8x128.size a} (ho : off = ![256 * r.val, 0, 0])
    {hl : accH.view.LoadsAt (Rect.unit (s := S1024x8x128) off S256x8x128.size inb).toLoadRect}
    {α : Type} {k : (S256x8x128.Idx → Elt F .bf16) → Pr F α} {Q : α → sProp 𝕄} :
    freeA (F := F) c r ⊢ iprop((∀ v, freeA c r -∗ WP c (k v) Q) -∗ WP c (Prog.op (.load accH (Rect.unit (s := S1024x8x128) off S256x8x128.size inb).toLoadRect hl) k) Q) := by
  subst ho
  unfold freeA
  iintro ⟨%f, H⟩ Hk
  iapply (wp_load_rect 𝒱₀ (c : Thread nD τ) none Set.univ (m := accH) (r := recH r) (f := f) (by rw [show (accH.access (Rect.unit (s := S1024x8x128) ![256 * r.val, 0, 0] S256x8x128.size inb)).set = (recH r).set from View.set_slice_whole _ _])) $$ H; iintro H
  iapply Hk; iexists f; iexact H

theorem load_lHM (r : Fin 4) {off : Fin 2 → ℕ} {inb : ∀ a, off a + S256x8.size a ≤ S1024x8.size a} (ho : off = ![256 * r.val, 0])
    {hl : lHM.view.LoadsAt (Rect.unit (s := S1024x8) off S256x8.size inb).toLoadRect}
    {α : Type} {k : (S256x8.Idx → Elt F .bf16) → Pr F α} {Q : α → sProp 𝕄} :
    freeL (F := F) c r ⊢ iprop((∀ v, freeL c r -∗ WP c (k v) Q) -∗ WP c (Prog.op (.load lHM (Rect.unit (s := S1024x8) off S256x8.size inb).toLoadRect hl) k) Q) := by
  subst ho
  unfold freeL
  iintro ⟨%f, H⟩ Hk
  iapply (wp_load_rect 𝒱₀ (c : Thread nD τ) none Set.univ (m := lHM) (r := recHL r) (f := f) (by rw [show (lHM.access (Rect.unit (s := S1024x8) ![256 * r.val, 0] S256x8.size inb)).set = (recHL r).set from View.set_slice_whole _ _])) $$ H; iintro H
  iapply Hk; iexists f; iexact H

theorem rows_idx3 (r : Fin 4) (t : Fin 8) (x : S128x8x128.Idx) (h : ∀ n : Fin 128, 256 * r.val ≤ 128 * t.val + n.val ∧ 128 * t.val + n.val < 256 * r.val + 256) :
    ∃ y : S256x8x128.Idx, (recH r).idx y = (recA t).idx x ∧ (fun | 0 => rowG r (y 0) | 1 => (y 1 : Fin 8) | 2 => (y 2 : Fin 128) : S1024x8x128.Idx) = (fun | 0 => rowOf t (x 0) | 1 => (x 1 : Fin 8) | 2 => (x 2 : Fin 128)) := by
  have hx := h (x 0)
  refine ⟨fun | 0 => (⟨128 * t.val + (x 0).val - 256 * r.val, by omega⟩ : Fin 256) | 1 => (x 1 : Fin 8) | 2 => (x 2 : Fin 128), funext fun a => ?_, funext fun a => ?_⟩
  · match a with
    | 0 => exact Fin.ext (by show 256 * r.val + 1 * (128 * t.val + (x 0).val - 256 * r.val) = 128 * t.val + 1 * (x 0).val; omega)
    | 1 => rfl
    | 2 => rfl
  · match a with
    | 0 => exact Fin.ext (by show 256 * r.val + (128 * t.val + (x 0).val - 256 * r.val) = 128 * t.val + (x 0).val; omega)
    | 1 => rfl
    | 2 => rfl

theorem rows_idx2 (r : Fin 4) (t : Fin 8) (x : S128x8.Idx) (h : ∀ n : Fin 128, 256 * r.val ≤ 128 * t.val + n.val ∧ 128 * t.val + n.val < 256 * r.val + 256) :
    ∃ y : S256x8.Idx, (recHL r).idx y = (recL t).idx x ∧ (fun | 0 => rowG r (y 0) | 1 => (y 1 : Fin 8) : S1024x8.Idx) = (fun | 0 => rowOf t (x 0) | 1 => (x 1 : Fin 8)) := by
  have hx := h (x 0)
  refine ⟨fun | 0 => (⟨128 * t.val + (x 0).val - 256 * r.val, by omega⟩ : Fin 256) | 1 => (x 1 : Fin 8), funext fun a => ?_, funext fun a => ?_⟩
  · match a with
    | 0 => exact Fin.ext (by show 256 * r.val + 1 * (128 * t.val + (x 0).val - 256 * r.val) = 128 * t.val + 1 * (x 0).val; omega)
    | 1 => rfl
  · match a with
    | 0 => exact Fin.ext (by show 256 * r.val + (128 * t.val + (x 0).val - 256 * r.val) = 128 * t.val + (x 0).val; omega)
    | 1 => rfl

theorem owns_srcA (t : Fin 8) (f : Buf (Elt F) ((c : Thread nD τ).loc cc0_scratch2)) (h : (srcA t).view.read (Elt F) f = aS I c t) :
    (((c : Thread nD τ).loc cc0_scratch2 ↦[(recA t).set]{fullShare} f) : sProp 𝕄) ⊢ ownsTc c (srcA t) fullShare (aS I c t) := by
  rw [← h, ← show (srcA t).view.set = (recA t).set from View.set_slice_whole _ _]; exact owns_intro (c : Thread nD τ) (srcA t) fullShare f
theorem owns_srcL (t : Fin 8) (f : Buf (Elt F) ((c : Thread nD τ).loc cc0_scratch3)) (h : (srcL t).view.read (Elt F) f = lS I c t) :
    (((c : Thread nD τ).loc cc0_scratch3 ↦[(recL t).set]{fullShare} f) : sProp 𝕄) ⊢ ownsTc c (srcL t) fullShare (lS I c t) := by
  rw [← h, ← show (srcL t).view.set = (recL t).set from View.set_slice_whole _ _]; exact owns_intro (c : Thread nD τ) (srcL t) fullShare f

omit [FloatOps F] in
theorem read_srcA (u : Fin 8) (f : cc0_scratch2.ty.Contents (Elt F)) (x : S128x8x128.Idx) : (srcA u).view.read (Elt F) f x = f ((recA u).idx x) := rfl
omit [FloatOps F] in
theorem read_srcL (u : Fin 8) (f : cc0_scratch3.ty.Contents (Elt F)) (x : S128x8.Idx) : (srcL u).view.read (Elt F) f x = f ((recL u).idx x) := rfl

/-- Storing a group of the rounded products gives the rows for two devices. -/
theorem store_accH (r : Fin 4) (t t' : Fin 8) (ht : t.val = 2 * r.val) (ht' : t'.val = 2 * r.val + 1)
    {off : Fin 3 → ℕ} {inb : ∀ a, off a + S256x8x128.size a ≤ S1024x8x128.size a} (ho : off = ![256 * r.val, 0, 0]) {w : Vec F S256x8x128 .bf16} (hw : w = grp3 (aH I c) r)
    {hx : (accH.access (Rect.unit (s := S1024x8x128) off S256x8x128.size inb)).Stores Finset.univ} {hm : (Finset.univ : Finset S256x8x128.Idx) = Finset.univ ∨ ∀ a, (Rect.unit (s := S1024x8x128) off S256x8x128.size inb).stride a = 1}
    {α : Type} {k : PUnit.{1} → Pr F α} {Q : α → sProp 𝕄} :
    freeA (F := F) c r ⊢ iprop(((ownsTc c (srcA t) fullShare (aS I c t) ∗ ownsTc c (srcA t') fullShare (aS I c t')) -∗ WP c (k ⟨⟩) Q)
      -∗ WP c (Prog.op (.store accH (Rect.unit (s := S1024x8x128) off S256x8x128.size inb) w Finset.univ hx hm) k) Q) := by
  have hne : t ≠ t' := fun e => by rw [e] at ht; omega
  have hT : ∀ n : Fin 128, 256 * r.val ≤ 128 * t.val + n.val ∧ 128 * t.val + n.val < 256 * r.val + 256 := fun n => by omega
  have hT' : ∀ n : Fin 128, 256 * r.val ≤ 128 * t'.val + n.val ∧ 128 * t'.val + n.val < 256 * r.val + 256 := fun n => by omega
  subst ho hw
  unfold freeA
  iintro ⟨%f, H⟩ Hk
  iapply (wp_store 𝒱₀ (c : Thread nD τ) none Set.univ (m := accH) (r := Rect.unit (s := S1024x8x128) ![256 * r.val, 0, 0] S256x8x128.size inb) (Mk := Finset.univ)
    (by rw [setOn_whole])) $$ H; iintro H
  iapply Hk
  have key (u : Fin 8) (h : ∀ n : Fin 128, 256 * r.val ≤ 128 * u.val + n.val ∧ 128 * u.val + n.val < 256 * r.val + 256) :
      (srcA u).view.read (Elt F) ((accH.access (recH r)).write (Elt F) f (grp3 (aH I c) r) Finset.univ) = aS I c u := by
    funext x
    obtain ⟨y, hy, hy'⟩ := rows_idx3 r u x h
    refine (read_srcA u _ x).trans ?_
    rw [← hy]
    refine (write_in cc0_scratch2 (recH r) f (grp3 (aH I c) r) y).trans ?_
    exact congrArg (aH I c) hy'
  rw [set_recH r t t' ht ht']
  ihave H2 := (pointsTo_union (disj_recA t t' hne)).1 $$ H
  icases H2 with ⟨H1, H2⟩
  isplitl [H1]
  · iapply (owns_srcA I c t _ (key t hT))
    iexact H1
  · iapply (owns_srcA I c t' _ (key t' hT'))
    iexact H2

/-- Storing a group of the rounded row sums gives the rows for two devices. -/
theorem store_lHM (r : Fin 4) (t t' : Fin 8) (ht : t.val = 2 * r.val) (ht' : t'.val = 2 * r.val + 1)
    {off : Fin 2 → ℕ} {inb : ∀ a, off a + S256x8.size a ≤ S1024x8.size a} (ho : off = ![256 * r.val, 0]) {w : Vec F S256x8 .bf16} (hw : w = grp2 (lH I c) r)
    {hx : (lHM.access (Rect.unit (s := S1024x8) off S256x8.size inb)).Stores Finset.univ} {hm : (Finset.univ : Finset S256x8.Idx) = Finset.univ ∨ ∀ a, (Rect.unit (s := S1024x8) off S256x8.size inb).stride a = 1}
    {α : Type} {k : PUnit.{1} → Pr F α} {Q : α → sProp 𝕄} :
    freeL (F := F) c r ⊢ iprop(((ownsTc c (srcL t) fullShare (lS I c t) ∗ ownsTc c (srcL t') fullShare (lS I c t')) -∗ WP c (k ⟨⟩) Q)
      -∗ WP c (Prog.op (.store lHM (Rect.unit (s := S1024x8) off S256x8.size inb) w Finset.univ hx hm) k) Q) := by
  have hne : t ≠ t' := fun e => by rw [e] at ht; omega
  have hT : ∀ n : Fin 128, 256 * r.val ≤ 128 * t.val + n.val ∧ 128 * t.val + n.val < 256 * r.val + 256 := fun n => by omega
  have hT' : ∀ n : Fin 128, 256 * r.val ≤ 128 * t'.val + n.val ∧ 128 * t'.val + n.val < 256 * r.val + 256 := fun n => by omega
  subst ho hw
  unfold freeL
  iintro ⟨%f, H⟩ Hk
  iapply (wp_store 𝒱₀ (c : Thread nD τ) none Set.univ (m := lHM) (r := Rect.unit (s := S1024x8) ![256 * r.val, 0] S256x8.size inb) (Mk := Finset.univ)
    (by rw [setOn_whole])) $$ H; iintro H
  iapply Hk
  have key (u : Fin 8) (h : ∀ n : Fin 128, 256 * r.val ≤ 128 * u.val + n.val ∧ 128 * u.val + n.val < 256 * r.val + 256) :
      (srcL u).view.read (Elt F) ((lHM.access (recHL r)).write (Elt F) f (grp2 (lH I c) r) Finset.univ) = lS I c u := by
    funext x
    obtain ⟨y, hy, hy'⟩ := rows_idx2 r u x h
    refine (read_srcL u _ x).trans ?_
    rw [← hy]
    refine (write_in cc0_scratch3 (recHL r) f (grp2 (lH I c) r) y).trans ?_
    exact congrArg (lH I c) hy'
  rw [set_recHL r t t' ht ht']
  ihave H2 := (pointsTo_union (disj_recL t t' hne)).1 $$ H
  icases H2 with ⟨H1, H2⟩
  isplitl [H1]
  · iapply (owns_srcL I c t _ (key t hT))
    iexact H1
  · iapply (owns_srcL I c t' _ (key t' hT'))
    iexact H2

/-! ## The landing slots -/

theorem set_slotA (j : Fin 7) : (slotA j).view.set = (recSA j).set := (View.set_reshape _ _).trans (View.set_slice_whole _ _)
theorem set_slotL (j : Fin 7) : (slotL j).view.set = (recSL j).set := (View.set_reshape _ _).trans (View.set_slice_whole _ _)
theorem set_slotG (j : Fin 7) : (slotG j).view.set = (recSG j).set := (View.set_reshape _ _).trans (View.set_slice_whole _ _)

/-- Reading the products landed in slot `j`. -/
theorem load_slotA (j : Fin 7) (X : Vec F S128x8x128 .bf16) {off : Fin 4 → ℕ} {inb : ∀ a, off a + S1x128x8x128.size a ≤ S7x128x8x128.size a} (ho : off = ![j.val, 0, 0, 0])
    {hl : rsA.view.LoadsAt (Rect.unit (s := S7x128x8x128) off S1x128x8x128.size inb).toLoadRect}
    {α : Type} {k : (S1x128x8x128.Idx → Elt F .bf16) → Pr F α} {Q : α → sProp 𝕄} :
    ownsTc c (slotA j) fullShare X ⊢ iprop((ownsTc c (slotA j) fullShare X -∗ WP c (k (shapeCast S1x128x8x128 X cast4)) Q)
      -∗ WP c (Prog.op (.load rsA (Rect.unit (s := S7x128x8x128) off S1x128x8x128.size inb).toLoadRect hl) k) Q) := by
  subst ho
  unfold ownsTc owns
  iintro ⟨%f, %hf, H⟩ Hk
  rw [set_slotA]
  iapply (wp_load_rect 𝒱₀ (c : Thread nD τ) none Set.univ (m := rsA) (by rw [show (rsA.access (Rect.unit (s := S7x128x8x128) ![j.val, 0, 0, 0] S1x128x8x128.size inb)).set = (recSA j).set from View.set_slice_whole _ _])) $$ H; iintro H
  rw [show (rsA.access (recSA j)).read (Elt F) f = shapeCast S1x128x8x128 X cast4 from by
    rw [← hf]; exact (shapeCast_shapeCast _ shapeCasts_S1x128x8x128_S128x8x128 cast4).symm]
  iapply Hk; iexists f; isplitr
  · ipureintro; exact hf
  · iexact H

theorem load_slotL (j : Fin 7) (X : Vec F S128x8 .bf16) {off : Fin 3 → ℕ} {inb : ∀ a, off a + S1x128x8.size a ≤ S7x128x8.size a} (ho : off = ![j.val, 0, 0])
    {hl : rsL.view.LoadsAt (Rect.unit (s := S7x128x8) off S1x128x8.size inb).toLoadRect}
    {α : Type} {k : (S1x128x8.Idx → Elt F .bf16) → Pr F α} {Q : α → sProp 𝕄} :
    ownsTc c (slotL j) fullShare X ⊢ iprop((ownsTc c (slotL j) fullShare X -∗ WP c (k (shapeCast S1x128x8 X cast3)) Q)
      -∗ WP c (Prog.op (.load rsL (Rect.unit (s := S7x128x8) off S1x128x8.size inb).toLoadRect hl) k) Q) := by
  subst ho
  unfold ownsTc owns
  iintro ⟨%f, %hf, H⟩ Hk
  rw [set_slotL]
  iapply (wp_load_rect 𝒱₀ (c : Thread nD τ) none Set.univ (m := rsL) (by rw [show (rsL.access (Rect.unit (s := S7x128x8) ![j.val, 0, 0] S1x128x8.size inb)).set = (recSL j).set from View.set_slice_whole _ _])) $$ H; iintro H
  rw [show (rsL.access (recSL j)).read (Elt F) f = shapeCast S1x128x8 X cast3 from by
    rw [← hf]; exact (shapeCast_shapeCast _ shapeCasts_S1x128x8_S128x8 cast3).symm]
  iapply Hk; iexists f; isplitr
  · ipureintro; exact hf
  · iexact H

theorem load_slotG (j : Fin 7) (X : Vec F S128x1024 .bf16) {off : Fin 3 → ℕ} {inb : ∀ a, off a + S1x128x1024.size a ≤ S7x128x1024.size a} (ho : off = ![j.val, 0, 0])
    {hl : agR.view.LoadsAt (Rect.unit (s := S7x128x1024) off S1x128x1024.size inb).toLoadRect}
    {α : Type} {k : (S1x128x1024.Idx → Elt F .bf16) → Pr F α} {Q : α → sProp 𝕄} :
    ownsTc c (slotG j) fullShare X ⊢ iprop((ownsTc c (slotG j) fullShare X -∗ WP c (k (shapeCast S1x128x1024 X castG)) Q)
      -∗ WP c (Prog.op (.load agR (Rect.unit (s := S7x128x1024) off S1x128x1024.size inb).toLoadRect hl) k) Q) := by
  subst ho
  unfold ownsTc owns
  iintro ⟨%f, %hf, H⟩ Hk
  rw [set_slotG]
  iapply (wp_load_rect 𝒱₀ (c : Thread nD τ) none Set.univ (m := agR) (by rw [show (agR.access (Rect.unit (s := S7x128x1024) ![j.val, 0, 0] S1x128x1024.size inb)).set = (recSG j).set from View.set_slice_whole _ _])) $$ H; iintro H
  rw [show (agR.access (recSG j)).read (Elt F) f = shapeCast S1x128x1024 X castG from by
    rw [← hf]; exact (shapeCast_shapeCast _ shapeCasts_S1x128x1024_S128x1024 castG).symm]
  iapply Hk; iexists f; isplitr
  · ipureintro; exact hf
  · iexact H

/-! ## The result -/

abbrev outM : Memref sig .tc .vmem S1x1024x1024 .f32 := Memref.whole cc0_stg5_0

/-- How far around the ring from `c` the device of row `n` of the result lies. -/
def rel (n : Fin 1024) : ℕ := ((own n).val + 8 - c.val) % 8
/-- The first `n` half blocks of the result are in place. -/
def outAt (n : ℕ) : sProp 𝕄 :=
  iprop(∃ f : Buf (Elt F) ((c : Thread nD τ).loc cc0_stg5_0), ⌜∀ i : S1x1024x1024.Idx, 2 * rel c (i 1) + (i 1).val / 256 % 2 < n → f i = outF I c i⌝
    ∗ ((c : Thread nD τ).loc cc0_stg5_0 ↦{fullShare} f))

theorem load_out (n : ℕ) {r : LoadRect S1x1024x1024} {hl : outM.view.LoadsAt r} {α : Type} {k : (r.shape.Idx → Elt F .f32) → Pr F α} {Q : α → sProp 𝕄} :
    outAt I c n ⊢ iprop((∀ v, outAt I c n -∗ WP c (k v) Q) -∗ WP c (Prog.op (.load outM r hl) k) Q) := by
  unfold outAt
  iintro ⟨%f, %hf, H⟩ Hk
  iapply (wp_load 𝒱₀ (c : Thread nD τ) none Set.univ (m := outM) (Finset.subset_univ _)) $$ H; iintro H
  iapply Hk; iexists f; isplitr
  · ipureintro; exact hf
  · iexact H

theorem halfRow_lt (h : Fin 2) (n : Fin 64) : 64 * h.val + n.val < 128 := by omega
/-- Half `h` of a device's projected rows. -/
def half (g : FVec F S128x1024 .f32) (h : Fin 2) : FVec F S1x64x1024 .f32 := fun x => g (fun | 0 => (⟨64 * h.val + (x 1).val, halfRow_lt h (x 1)⟩ : Fin 128) | 1 => (x 2 : Fin 1024))

theorem half0 (g : FVec F S128x1024 .f32) :
    shapeCast S1x64x1024 (extractStridedSlice S64x1024 ![0, 0] g slices_S128x1024_o0_0_S64x1024) shapeCasts_S64x1024_S1x64x1024 = half g 0 := by
  funext x
  idx_vars x
  pointwise [half]
  exact congrArg g (funext fun a => by match a with | 0 => rfl | 1 => rfl)
theorem half1 (g : FVec F S128x1024 .f32) :
    shapeCast S1x64x1024 (extractStridedSlice S64x1024 ![64, 0] g slices_S128x1024_o64_0_S64x1024) shapeCasts_S64x1024_S1x64x1024 = half g 1 := by
  funext x
  idx_vars x
  pointwise [half]
  exact congrArg g (funext fun a => by match a with | 0 => rfl | 1 => rfl)

theorem digits (a b h y m : ℕ) (ha : a < 2) (hb : b < 4) (hh : h < 2) (hy : y < 64) (hm : m = 512 * a + 64 * b + 256 * h + y) :
    m / 64 % 4 = b ∧ m / 512 = a ∧ m / 256 % 2 = h ∧ m % 64 = y := by
  have h1 : m / 64 = 8 * a + 4 * h + b := by omega
  have h2 : m / 256 = 2 * a + h := by omega
  refine ⟨?_, ?_, ?_, ?_⟩
  · rw [h1]; omega
  · omega
  · rw [h2]; omega
  · omega

/-- Storing half block `n`. -/
theorem store_out (n : ℕ) (p : Dev nD) (h : Fin 2) (hp : p.val = (c.val + n / 2) % 8) (hh : h.val = n % 2) (hn : n < 16)
    {off : Fin 3 → ℕ} {inb : ∀ a, off a + S1x64x1024.size a ≤ S1x1024x1024.size a} {w : Vec F S1x64x1024 .f32}
    (ho : off = ![0, 512 * (p.val % 2) + 64 * (p.val / 2) + 256 * h.val, 0]) (hw : w = half (gO I c p) h)
    {hx : (outM.access (Rect.unit (s := S1x1024x1024) off S1x64x1024.size inb)).Stores Finset.univ} {hm : (Finset.univ : Finset S1x64x1024.Idx) = Finset.univ ∨ ∀ a, (Rect.unit (s := S1x1024x1024) off S1x64x1024.size inb).stride a = 1}
    {α : Type} {k : PUnit.{1} → Pr F α} {Q : α → sProp 𝕄} :
    outAt I c n ⊢ iprop((outAt I c (n + 1) -∗ WP c (k ⟨⟩) Q) -∗ WP c (Prog.op (.store outM (Rect.unit (s := S1x1024x1024) off S1x64x1024.size inb) w Finset.univ hx hm) k) Q) := by
  subst ho hw
  unfold outAt
  iintro ⟨%f, %hf, H⟩ Hk
  iapply (wp_store 𝒱₀ (c : Thread nD τ) none Set.univ (m := outM) (r := Rect.unit (s := S1x1024x1024) ![0, 512 * (p.val % 2) + 64 * (p.val / 2) + 256 * h.val, 0] S1x64x1024.size inb) (Mk := Finset.univ) (Finset.subset_univ _)) $$ H; iintro H
  iapply Hk; iexists _; isplitr
  rotate_left
  · iexact H
  · ipureintro
    have hc : c.val < 8 := c.isLt
    have hp8 : p.val < 8 := p.isLt
    intro i hi
    by_cases hmem : i ∈ (Rect.unit (s := S1x1024x1024) ![0, 512 * (p.val % 2) + 64 * (p.val / 2) + 256 * h.val, 0] S1x64x1024.size inb).set
    · obtain ⟨x, rfl⟩ := (Rect.unit (s := S1x1024x1024) ![0, 512 * (p.val % 2) + 64 * (p.val / 2) + 256 * h.val, 0] S1x64x1024.size inb).exists_idx_of_mem hmem
      refine (write_in cc0_stg5_0 _ f _ x).trans ?_
      have hx1 : (x 1).val < 64 := (x 1).isLt
      have e1 : ∀ m : Fin 1024, m.val = 512 * (p.val % 2) + 64 * (p.val / 2) + 256 * h.val + (x 1).val → own m = p ∧ ownRow m = (⟨64 * h.val + (x 1).val, halfRow_lt h (x 1)⟩ : Fin 128) := fun m hm =>
        have g := digits (p.val % 2) (p.val / 2) h.val (x 1).val m.val (by omega) (by omega) h.isLt hx1 (by omega)
        ⟨Fin.ext (by show 2 * (m.val / 64 % 4) + m.val / 512 = p.val; omega), Fin.ext (by show 64 * (m.val / 256 % 2) + m.val % 64 = 64 * h.val + (x 1).val; omega)⟩
      obtain ⟨e2, e3⟩ := e1 ((Rect.unit (s := S1x1024x1024) ![0, 512 * (p.val % 2) + 64 * (p.val / 2) + 256 * h.val, 0] S1x64x1024.size inb).idx x 1)
        (by show 512 * (p.val % 2) + 64 * (p.val / 2) + 256 * h.val + 1 * (x 1).val = _; omega)
      unfold outF half
      rw [e2, e3]
      congr 1
      funext a
      match a with
      | 0 => rfl
      | 1 => exact Fin.ext (by show (x 2).val = 0 + 1 * (x 2).val; omega)
    · refine (write_out cc0_stg5_0 _ f _ i hmem).trans (hf i ?_)
      rw [Rect.mem_set_unit] at hmem
      by_contra hlt
      refine hmem fun a => ?_
      have h0 : (i 0).val < 1 := (i 0).isLt
      have h1 : (i 1).val < 1024 := (i 1).isLt
      have h2 : (i 2).val < 1024 := (i 2).isLt
      have hi' : 2 * ((2 * ((i 1).val / 64 % 4) + (i 1).val / 512 + 8 - c.val) % 8) + (i 1).val / 256 % 2 < n + 1 := hi
      have hlt' : ¬ 2 * ((2 * ((i 1).val / 64 % 4) + (i 1).val / 512 + 8 - c.val) % 8) + (i 1).val / 256 % 2 < n := hlt
      clear hi hlt
      have q1 : ((2 * ((i 1).val / 64 % 4) + (i 1).val / 512 + 8 - c.val) % 8) = n / 2 := by omega
      have q2 : (i 1).val / 256 % 2 = h.val := by omega
      have q3 : 2 * ((i 1).val / 64 % 4) + (i 1).val / 512 = p.val := by omega
      clear hi' hlt' q1
      have q4 : p.val / 2 = (i 1).val / 64 % 4 := by omega
      have q5 : p.val % 2 = (i 1).val / 512 := by omega
      have q6 : (i 1).val / 64 = 4 * ((i 1).val / 256) + (i 1).val / 64 % 4 := by omega
      have q7 : (i 1).val / 256 = 2 * ((i 1).val / 512) + (i 1).val / 256 % 2 := by omega
      match a with
      | 0 => show 0 ≤ (i 0).val ∧ (i 0).val < 0 + 1; omega
      | 1 =>
        have q8 : (i 1).val / 64 = 8 * (p.val % 2) + 4 * h.val + p.val / 2 := by omega
        clear q2 q3 q4 q5 q6 q7 hp
        show 512 * (p.val % 2) + 64 * (p.val / 2) + 256 * h.val ≤ (i 1).val ∧ (i 1).val < 512 * (p.val % 2) + 64 * (p.val / 2) + 256 * h.val + 64; omega
      | 2 => show 0 ≤ (i 2).val ∧ (i 2).val < 0 + 1024; omega

end Cert.KernelIdeal.Run
-- ==== Proof.KernelIdealRun.Sync.lean ====
/- Families of resources used up one at a time, and one lemma per step on such a family. -/
module

public import proofs.«01_k».proof.Proof.KernelIdealRun.Slots

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families used up one at a time -/

omit [FloatOps F] in
theorem pick {A : Type} [DecidableEq A] {s : Finset A} {a : A} (h : a ∈ s) {Φ : A → sProp 𝕄} : bigSep s Φ = iprop(Φ a ∗ bigSep (s.erase a) Φ) := bigSep_erase h

/-- The members before `k` are as in `P`, the others still as in `Q`. -/
def seqAt {n : ℕ} (P Q : Fin n → sProp 𝕄) (k : ℕ) : sProp 𝕄 := bigSep Finset.univ fun j : Fin n => if j.val < k then P j else Q j

omit [FloatOps F] in
theorem seq_zero {n : ℕ} (P Q : Fin n → sProp 𝕄) : bigSep Finset.univ Q ⊢ seqAt P Q 0 := by
  unfold seqAt
  exact Entails.of_eq (bigSep_congr fun j _ => (if_neg (Nat.not_lt_zero _)).symm)
omit [FloatOps F] in
theorem seq_end {n k : ℕ} (hk : k = n) (P Q : Fin n → sProp 𝕄) : seqAt P Q k ⊢ bigSep Finset.univ P := by
  subst hk
  unfold seqAt
  exact Entails.of_eq (bigSep_congr fun j _ => if_pos j.isLt)
omit [FloatOps F] in
theorem seq_step {n : ℕ} (P Q : Fin n → sProp 𝕄) (j : Fin n) : seqAt P Q j.val ⊢ iprop(Q j ∗ (P j -∗ seqAt P Q (j.val + 1))) := by
  unfold seqAt
  rw [pick (Finset.mem_univ j), pick (Finset.mem_univ j), if_neg (Nat.lt_irrefl _), if_pos (Nat.lt_succ_self _),
    bigSep_congr (s := Finset.univ.erase j) (Φ := fun i : Fin n => if i.val < j.val then P i else Q i) (Ψ := fun i : Fin n => if i.val < j.val + 1 then P i else Q i)
      (fun i hi => by
        have hne : i.val ≠ j.val := fun e => (Finset.mem_erase.mp hi).1 (Fin.ext e)
        by_cases h : i.val < j.val
        · rw [if_pos h, if_pos (by omega)]
        · rw [if_neg h, if_neg (by omega)])]
  iintro ⟨H1, H2⟩
  isplitl [H1]; · iexact H1
  iintro H1
  isplitl [H1] <;> iassumption

/-! ## Reindexing by peers -/

omit [FloatOps F] in
theorem univ_erase_nxt (c : Dev nD) : Finset.univ.erase c = (Finset.univ : Finset (Fin 7)).map ⟨nxt c, fun j j' h => by have h' := congrArg (sl c) h; rwa [sl_nxt, sl_nxt] at h'⟩ := by
  revert c; decide
omit [FloatOps F] in
theorem univ_erase_prv (c : Dev nD) : Finset.univ.erase c = (Finset.univ : Finset (Fin 7)).map ⟨prv c, fun j j' h => by
    have h' : sl (prv c j) c = sl (prv c j') c := congrArg (fun p => sl p c) h
    rwa [sl_prv, sl_prv] at h'⟩ := by
  revert c; decide
omit [FloatOps F] in
theorem around_nxt (c : Dev nD) (Φ : Dev nD → sProp 𝕄) : bigSep (Finset.univ.erase c) Φ = bigSep Finset.univ fun j : Fin 7 => Φ (nxt c j) := by
  rw [univ_erase_nxt, bigSep_map]; rfl
omit [FloatOps F] in
theorem around_prv (c : Dev nD) (Φ : Dev nD → sProp 𝕄) : bigSep (Finset.univ.erase c) Φ = bigSep Finset.univ fun j : Fin 7 => Φ (prv c j) := by
  rw [univ_erase_prv, bigSep_map]; rfl
omit [FloatOps F] in
theorem but_self (c : Dev nD) (Φ : Dev nD → sProp 𝕄) : bigSep (Finset.univ.erase c) Φ ⊢ bigSep Finset.univ fun t : Dev nD => if t = c then iprop(emp) else Φ t := by
  rw [pick (Finset.mem_univ c), if_pos rfl,
    bigSep_congr (s := Finset.univ.erase c) (Φ := fun t => if t = c then iprop(emp) else Φ t) (Ψ := Φ) (fun t ht => if_neg (Finset.mem_erase.mp ht).1)]
  iintro H
  isplitr; · iempintro
  iexact H

variable (I : Ins F) (K : Dev nD × Key → ℕ) (c : Dev nD)

/-! ## The first barrier -/

/-- What the signal to `nxt c j` spends. -/
def bQ (j : Fin 7) : sProp 𝕄 := iprop(dutyTok ER (bC (nxt c j)) 0 c ∗ readyPay (nxt c j) c)
abbrev nil7 : Fin 7 → sProp 𝕄 := fun _ => iprop(emp)

theorem step_b (j : Fin 7) (l : List (Fin 7)) (O : CT) {n : ℕ} (hn : n = j.val) {d : Dev nD} (hd : d = nxt c j) {sem : Sem sig} (hs : sem = (0 : Fin 2)) {k' : ℕ} (hk : k' = 1)
    {α : Type} {f : PUnit.{1} → Pr F α} {Q : α → sProp 𝕄} :
    iprop(recs I K ∗ ow c (oB c (j :: l) + O) ∗ seqAt nil7 (bQ (F := F) c) n)
      ⊢ iprop(((ow c (oB c l + O) ∗ seqAt nil7 (bQ (F := F) c) (n + 1)) -∗ WP c (f ⟨⟩) Q) -∗ WP c (Prog.op (.semSignal (d : Thread nD τ) sem k') f) Q) := by
  subst hn
  iintro ⟨#HR, HO, Hs⟩ Hk
  ihave Hs := (seq_step nil7 (bQ (F := F) c) j) $$ Hs
  icases Hs with ⟨Hq, Hs⟩
  unfold bQ
  icases Hq with ⟨Ht, Hp⟩
  iapply (signal_b I K c j l O hd hs hk) $$ [HO Ht Hp]
  · isplitr; · iexact HR
    isplitl [HO]; · iexact HO
    isplitl [Ht] <;> iassumption
  iintro HO
  iapply Hk
  isplitl [HO]; · iexact HO
  iapply Hs
  iempintro

/-- The rights of the transfers through slot `j`, and the two cells that give their sources back. -/
def sendTok (j : Fin 7) : sProp 𝕄 :=
  iprop((dutyTok ER (dC 0 c j) 0 0 ∗ dutyTok ER (dC 1 (nxt c j) j) 0 0 ∗ dutyTok ER (dC 2 c j) 0 0 ∗ dutyTok ER (dC 3 (nxt c j) j) 0 0)
    ∗ atPos ER (dC 0 c j) 0 ∅ 0 ∗ atPos ER (dC 2 c j) 0 ∅ 0)

def sendTokAt (t : Dev nD) : sProp 𝕄 :=
  iprop((dutyTok ER (dC 0 c (sl c t)) 0 0 ∗ dutyTok ER (dC 1 t (sl c t)) 0 0 ∗ dutyTok ER (dC 2 c (sl c t)) 0 0 ∗ dutyTok ER (dC 3 t (sl c t)) 0 0)
    ∗ atPos ER (dC 0 c (sl c t)) 0 ∅ 0 ∗ atPos ER (dC 2 c (sl c t)) 0 ∅ 0)

theorem sendRes_intro : iprop((bigSep (Finset.univ.erase c) fun p => iprop(anyA (F := F) p (sl c p) ∗ anyL p (sl c p))) ∗ bigSep Finset.univ (sendTok (F := F) c)) ⊢ bigSep Finset.univ (sendRes (F := F) c) := by
  rw [show bigSep Finset.univ (sendTok (F := F) c) = bigSep Finset.univ (fun j : Fin 7 => sendTokAt (F := F) c (nxt c j)) from
      bigSep_congr fun j _ => by unfold sendTok sendTokAt; rw [sl_nxt], ← around_nxt c (sendTokAt (F := F) c), ← bigSep_sep']
  refine (but_self c _).trans (Entails.of_eq (bigSep_congr fun t _ => ?_))
  unfold sendRes sendTokAt
  rfl

/-- The wait on the first barrier: every peer's slots for the two exchanges. -/
theorem wait_b (O : CT) (hO : Above 1 O) {sem : Sem sig} (hs : sem = (0 : Fin 2)) {k' : ℕ} (hk : k' = 7) {α : Type} {f : PUnit.{1} → Pr F α} {Q : α → sProp 𝕄} :
    iprop(recs I K ∗ cred (tallyAt (bC c) () 7) ∗ ow c O ∗ atPos ER (bC c) 0 ∅ 0 ∗ bigSep Finset.univ (sendTok (F := F) c))
      ⊢ iprop(((ow c O ∗ semVal (bC c) 0 ∗ bigSep Finset.univ (sendRes (F := F) c) ∗ bigSep Finset.univ fun j : Fin 7 => anyG (F := F) (prv c j) j) -∗ WP c (f ⟨⟩) Q)
          -∗ WP c (Prog.op (.semWait sem k') f) Q) := by
  iintro ⟨#HR, Hc, HO, Hat, Ht⟩ Hk
  iapply (wait_any I K c (.inl 0) 1 O (expect_b I c).symm (by rw [lv_b]) hO (wpE_semWait_eq 𝒱₀ (c : Thread nD τ) none Set.univ) (by rw [hs]; rfl) hk) $$ [Hc HO Hat]
  · isplitr; · iexact HR
    isplitl [Hc]; · iexact Hc
    isplitl [HO] <;> iassumption
  iintro ⟨HO, Hz, Hp⟩
  iapply Hk
  isplitl [HO]; · iexact HO
  isplitl [Hz]; · iexact Hz
  ihave Hp := (show bigSep ((rd I).duties (bC c) 0 \ ∅) (fun p => (rd I).payload (bC c) 0 p)
      ⊢ iprop((bigSep (Finset.univ.erase c) fun p => iprop(anyA (F := F) p (sl c p) ∗ anyL p (sl c p))) ∗ bigSep Finset.univ fun j : Fin 7 => anyG (F := F) (prv c j) j) from by
    rw [rest_b, show (bigSep Finset.univ fun j : Fin 7 => anyG (F := F) (prv c j) j) = bigSep Finset.univ fun j : Fin 7 => (fun p : Dev nD => anyG (F := F) p (sl p c)) (prv c j) from
      bigSep_congr fun j _ => by dsimp only; rw [sl_prv], ← around_prv c (fun p : Dev nD => anyG (F := F) p (sl p c)), ← bigSep_sep']
    refine bigSep_mono fun p _ => ?_
    show readyPay c p ⊢ _
    unfold readyPay
    iintro ⟨Ha, Hl, Hg⟩
    isplitr [Hg]
    · isplitl [Ha] <;> iassumption
    · iexact Hg) $$ Hp
  icases Hp with ⟨Hp, Hg⟩
  isplitr [Hg]
  · iapply (sendRes_intro (F := F) c)
    isplitl [Hp] <;> iassumption
  · iexact Hg

/-! ## The partial sums -/

/-- The guarded transfers to `t`, in the order of the program. -/
theorem step_send (t : Dev nD) (l : List (Dev nD)) (O : CT) {n : ℕ} (hn : n = t.val) {cnd : BitVec 1} {n₁ n₂ : ℕ}
    {hn₁ : cnd = 1#1 → n₁ < nD} {hn₂ : cnd = 1#1 → n₂ < nD} {sa ra sb rb : cnd = 1#1 → DmaSem sig}
    {srA : Memref sig .tc .vmem S128x8x128 .bf16} {srL : Memref sig .tc .vmem S128x8 .bf16}
    {dsA : cnd = 1#1 → Memref sig .tc .vmem S128x8x128 .bf16} {dsL : cnd = 1#1 → Memref sig .tc .vmem S128x8 .bf16}
    {sc₁ : ∀ h, (dsA h).view.ref.isScScratch = false} {sc₂ : ∀ h, (dsL h).view.ref.isScScratch = false}
    {w₁ : srA.view.WordExact} {w₂ : ∀ h, (dsA h).view.WordExact}
    {w₃ : ∀ h, DmaTarget.Typed .vmem (.dma (ra h)) (.remote (Dev.tc (⟨n₁, hn₁ h⟩ : Dev nD)) (dsA h) (.dma (sa h)) (sc₁ h))}
    {w₄ : srL.view.WordExact} {w₅ : ∀ h, (dsL h).view.WordExact}
    {w₆ : ∀ h, DmaTarget.Typed .vmem (.dma (rb h)) (.remote (Dev.tc (⟨n₂, hn₂ h⟩ : Dev nD)) (dsL h) (.dma (sb h)) (sc₂ h))}
    (hc : cnd = 1#1 ↔ t ≠ c) (h₁ : n₁ = t.val) (h₂ : n₂ = t.val)
    (hsa : ∀ h, sa h = dsem 0 (sl c t)) (hra : ∀ h, ra h = dsem 1 (sl c t)) (hsb : ∀ h, sb h = dsem 2 (sl c t)) (hrb : ∀ h, rb h = dsem 3 (sl c t))
    (hA : srA = srcA t) (hL : srL = srcL t) (hdA : ∀ h, dsA h = slotA (sl c t)) (hdL : ∀ h, dsL h = slotL (sl c t)) {Q : PUnit.{1} → sProp 𝕄} :
    iprop(recs I K ∗ held I c t ∗ ow c (oR c (t :: l) + O) ∗ seqAt (n := 8) (sent I c) (sendRes (F := F) c) n)
      ⊢ iprop(((ow c (oR c l + O) ∗ seqAt (n := 8) (sent I c) (sendRes (F := F) c) (n + 1)) -∗ Q ⟨⟩)
          -∗ WP c (if h : cnd = 1#1 then
              Prog.op (.enqueueDma srA (.remote (Dev.tc (⟨n₁, hn₁ h⟩ : Dev nD)) (dsA h) (.dma (sa h)) (sc₁ h)) (.dma (ra h)) w₁ (w₂ h) (w₃ h)) fun _ =>
              Prog.op (.enqueueDma srL (.remote (Dev.tc (⟨n₂, hn₂ h⟩ : Dev nD)) (dsL h) (.dma (sb h)) (sc₂ h)) (.dma (rb h)) w₄ (w₅ h) (w₆ h)) fun _ =>
              Prog.ret ⟨⟩
            else Prog.ret ⟨⟩) Q) := by
  subst hn
  iintro ⟨#HR, Hh, HO, Hs⟩ Hk
  ihave Hs := (seq_step (n := 8) (sent I c) (sendRes (F := F) c) t) $$ Hs
  icases Hs with ⟨Hq, Hs⟩
  rw [show oR c (t :: l) + O = oRt c t + (oR c l + O) from by unfold oR; rw [List.map_cons, List.sum_cons, add_assoc]]
  iapply (cond_send I K c t (oR c l + O) hc h₁ h₂ hsa hra hsb hrb hA hL hdA hdL) $$ [Hh Hq HO]
  · isplitr; · iexact HR
    isplitl [Hh]; · iexact Hh
    isplitl [Hq] <;> iassumption
  iintro ⟨Hq, HO⟩
  iapply Hk
  isplitl [HO]; · iexact HO
  iapply Hs
  iexact Hq

/-- The guarded waits for the transfers to `t`, in the order of the program. -/
theorem step_back (t : Dev nD) (O : CT) (hO : Above 0 O) {n : ℕ} (hn : n = t.val) {cnd : BitVec 1} {sa sb : cnd = 1#1 → DmaSem sig}
    {srA : Memref sig .tc .vmem S128x8x128 .bf16} {srL : Memref sig .tc .vmem S128x8 .bf16}
    {dsA : cnd = 1#1 → Memref sig .tc .vmem S128x8x128 .bf16} {dsL : cnd = 1#1 → Memref sig .tc .vmem S128x8 .bf16}
    {w₁ : ∀ h, (dsA h).view.WordExact} {w₂ : srA.view.WordExact} {w₃ : ∀ h, (dsL h).view.WordExact} {w₄ : srL.view.WordExact}
    (hc : cnd = 1#1 ↔ t ≠ c) (hsa : ∀ h, sa h = dsem 0 (sl c t)) (hsb : ∀ h, sb h = dsem 2 (sl c t))
    (hA : srA.view.dmaCredit = NA) (hL : srL.view.dmaCredit = NL) {Q : PUnit.{1} → sProp 𝕄} :
    iprop(recs I K ∗ ow c O ∗ seqAt (n := 8) (back I c) (sent I c) n)
      ⊢ iprop(((ow c O ∗ seqAt (n := 8) (back I c) (sent I c) (n + 1)) -∗ Q ⟨⟩)
          -∗ WP c (if h : cnd = 1#1 then
              Prog.op (.waitDma2 (sa h) (dsA h) srA (w₁ h) w₂) fun _ =>
              Prog.op (.waitDma2 (sb h) (dsL h) srL (w₃ h) w₄) fun _ =>
              Prog.ret ⟨⟩
            else Prog.ret ⟨⟩) Q) := by
  subst hn
  iintro ⟨#HR, HO, Hs⟩ Hk
  ihave Hs := (seq_step (n := 8) (back I c) (sent I c) t) $$ Hs
  icases Hs with ⟨Hq, Hs⟩
  iapply (cond_wait I K c t O hO hc hsa hsb hA hL) $$ [Hq HO]
  · isplitr; · iexact HR
    isplitl [Hq] <;> iassumption
  iintro ⟨Hq, HO⟩
  iapply Hk
  isplitl [HO]; · iexact HO
  iapply Hs
  iexact Hq

/-! ## Waits on the semaphores of one array -/

/-- What the wait on semaphore `j` of array `k` spends. -/
def wQ (k : Fin 6) (j : Fin 7) : sProp 𝕄 := iprop(cred (tallyAt (dC k c j) () (amt k)) ∗ atPos ER (dC k c j) 0 ∅ 0)
/-- What it gives. -/
def wP (k : Fin 6) (j : Fin 7) : sProp 𝕄 := iprop(semVal (dC k c j) 0 ∗ dPay I k c j)

theorem step_w (k : Fin 6) (j : Fin 7) (m : ℕ) (O : CT) (hn : lv (dC k c j) () ≤ m) (hO : Above m O) {n : ℕ} (hj : n = j.val)
    {w : TpuEff nD τ sig (Elt F) Λ₀ .tc PUnit} {sm : SemLoc sig} {k' : ℕ}
    (hw : ∀ K : PUnit → sProp 𝕄, wpE (defs₀ (F := F)) 𝒱₀ (c : Thread nD τ) none Set.univ w K = waitSpec (c : Thread nD τ) Set.univ sm k' K)
    (hsm : sm = ksem (.inr (k, j))) (hk : k' = amt k) {α : Type} {f : PUnit.{1} → Pr F α} {Q : α → sProp 𝕄} :
    iprop(recs I K ∗ ow c O ∗ seqAt (wP I c k) (wQ (F := F) c k) n)
      ⊢ iprop(((ow c O ∗ seqAt (wP I c k) (wQ (F := F) c k) (n + 1)) -∗ WP c (f ⟨⟩) Q) -∗ WP c (Prog.op w f) Q) := by
  subst hj
  iintro ⟨#HR, HO, Hs⟩ Hk
  ihave Hs := (seq_step (wP I c k) (wQ (F := F) c k) j) $$ Hs
  icases Hs with ⟨Hq, Hs⟩
  unfold wQ
  icases Hq with ⟨Hc, Hat⟩
  iapply (wait_d I K k c j m O hn hO hw hsm hk) $$ [Hc HO Hat]
  · isplitr; · iexact HR
    isplitl [Hc]; · iexact Hc
    isplitl [HO] <;> iassumption
  iintro ⟨HO, Hz, Hp⟩
  iapply Hk
  isplitl [HO]; · iexact HO
  iapply Hs
  unfold wP
  isplitl [Hz] <;> iassumption

/-- The same in falling order. -/
theorem step_wr (k : Fin 6) (j : Fin 7) (m : ℕ) (O : CT) (hn : lv (dC k c j) () ≤ m) (hO : Above m O) {n : ℕ} (hj : n = (Fin.rev j).val)
    {w : TpuEff nD τ sig (Elt F) Λ₀ .tc PUnit} {sm : SemLoc sig} {k' : ℕ}
    (hw : ∀ K : PUnit → sProp 𝕄, wpE (defs₀ (F := F)) 𝒱₀ (c : Thread nD τ) none Set.univ w K = waitSpec (c : Thread nD τ) Set.univ sm k' K)
    (hsm : sm = ksem (.inr (k, j))) (hk : k' = amt k) {α : Type} {f : PUnit.{1} → Pr F α} {Q : α → sProp 𝕄} :
    iprop(recs I K ∗ ow c O ∗ seqAt (n := 7) (fun i => wP I c k (Fin.rev i)) (fun i => wQ (F := F) c k (Fin.rev i)) n)
      ⊢ iprop(((ow c O ∗ seqAt (n := 7) (fun i => wP I c k (Fin.rev i)) (fun i => wQ (F := F) c k (Fin.rev i)) (n + 1)) -∗ WP c (f ⟨⟩) Q) -∗ WP c (Prog.op w f) Q) := by
  subst hj
  iintro ⟨#HR, HO, Hs⟩ Hk
  ihave Hs := (seq_step (n := 7) (fun i => wP I c k (Fin.rev i)) (fun i => wQ (F := F) c k (Fin.rev i)) (Fin.rev j)) $$ Hs
  icases Hs with ⟨Hq, Hs⟩
  rw [Fin.rev_rev]
  unfold wQ
  icases Hq with ⟨Hc, Hat⟩
  iapply (wait_d I K k c j m O hn hO hw hsm hk) $$ [Hc HO Hat]
  · isplitr; · iexact HR
    isplitl [Hc]; · iexact Hc
    isplitl [HO] <;> iassumption
  iintro ⟨HO, Hz, Hp⟩
  iapply Hk
  isplitl [HO]; · iexact HO
  iapply Hs
  unfold wP
  isplitl [Hz] <;> iassumption

/-! ## The projected rows -/

/-- What the transfer of the projected rows through slot `j` spends. -/
def gQ (j : Fin 7) : sProp 𝕄 :=
  iprop((dutyTok ER (dC 4 c j) 0 0 ∗ dutyTok ER (dC 5 (prv c j) j) 0 0) ∗ anyG (F := F) (prv c j) j ∗ (agS.view.loc (c : Thread nD τ) ↦[agS.view.set]{gShare j} gH I c) ∗ atPos ER (dC 4 c j) 0 ∅ 0)

theorem step_g (j : Fin 7) (l : List (Fin 7)) (O : CT) {n : ℕ} (hn : n = (Fin.rev j).val) {t : Dev nD} (ht : t = prv c j) {src dst : Memref sig .tc .vmem S128x1024 .bf16} {sS sR : DmaSem sig}
    (hs : src = agS) (hd : dst = slotG j) (hS : sS = dsem 4 j) (hR : sR = dsem 5 j)
    {hsc : dst.view.ref.isScScratch = false} {hw : src.view.WordExact} {hw' : dst.view.WordExact}
    {hty : DmaTarget.Typed .vmem (.dma sR) (.remote (Dev.tc t : Thread nD τ) dst (.dma sS) hsc)}
    {α : Type} {f : PUnit.{1} → Pr F α} {Q : α → sProp 𝕄} :
    iprop(recs I K ∗ ow c (oG c (j :: l) + O) ∗ seqAt (n := 7) (fun i => wQ (F := F) c 4 (Fin.rev i)) (fun i => gQ I c (Fin.rev i)) n)
      ⊢ iprop(((ow c (oG c l + O) ∗ seqAt (n := 7) (fun i => wQ (F := F) c 4 (Fin.rev i)) (fun i => gQ I c (Fin.rev i)) (n + 1)) -∗ WP c (f ⟨⟩) Q)
          -∗ WP c (Prog.op (.enqueueDma src (.remote (Dev.tc t : Thread nD τ) dst (.dma sS) hsc) (.dma sR) hw hw' hty) f) Q) := by
  subst hn ht hs hd
  iintro ⟨#HR, HO, Hs⟩ Hk
  ihave Hs := (seq_step (n := 7) (fun i => wQ (F := F) c 4 (Fin.rev i)) (fun i => gQ I c (Fin.rev i)) (Fin.rev j)) $$ Hs
  icases Hs with ⟨Hq, Hs⟩
  rw [Fin.rev_rev, show oG c (j :: l) + O = tallyAt (dC 5 (prv c j) j) () (amt 5) + (oG c l + O) from by unfold oG; rw [List.map_cons, List.sum_cons, add_assoc]; rfl]
  unfold gQ anyG
  icases Hq with ⟨⟨Ht0, Ht1⟩, ⟨%g, Hg⟩, Hsrc, Hat⟩
  iapply (send_any I K c (prv c j) 4 5 j (oG c l + O) (src := agS) (dst := slotG j) hS hR (credG _) (credG _) (fs := gH I c) (fd := g) (X := gH I c) rfl
    .refl (by show _ ⊢ pay5 I (prv c j) j; unfold pay5; rw [nxt_prv])) $$ [HO Hsrc Hg Ht0 Ht1]
  · isplitr; · iexact HR
    isplitl [Hsrc]; · iexact Hsrc
    isplitl [Hg]; · iexact Hg
    isplitl [HO]; · iexact HO
    isplitl [Ht0] <;> iassumption
  iintro ⟨Hc, HO⟩
  iapply Hk
  isplitl [HO]; · iexact HO
  iapply Hs
  unfold wQ
  isplitl [Hc] <;> iassumption

/-! ## The second barrier -/

def sQ (j : Fin 7) : sProp 𝕄 := dutyTok ER (sC (nxt c j)) 0 c

theorem step_s (j : Fin 7) (l : List (Fin 7)) {n : ℕ} (hn : n = j.val) {d : Dev nD} (hd : d = nxt c j) {sem : Sem sig} (hs : sem = (1 : Fin 2)) {k' : ℕ} (hk : k' = 1)
    {α : Type} {f : PUnit.{1} → Pr F α} {Q : α → sProp 𝕄} :
    iprop(recs I K ∗ ow c (oS c (j :: l)) ∗ seqAt nil7 (sQ (F := F) c) n)
      ⊢ iprop(((ow c (oS c l) ∗ seqAt nil7 (sQ (F := F) c) (n + 1)) -∗ WP c (f ⟨⟩) Q) -∗ WP c (Prog.op (.semSignal (d : Thread nD τ) sem k') f) Q) := by
  subst hn
  iintro ⟨#HR, HO, Hs⟩ Hk
  ihave Hs := (seq_step nil7 (sQ (F := F) c) j) $$ Hs
  icases Hs with ⟨Hq, Hs⟩
  unfold sQ
  iapply (signal_s I K c j l hd hs hk) $$ [HO Hq]
  · isplitr; · iexact HR
    isplitl [HO] <;> iassumption
  iintro HO
  iapply Hk
  isplitl [HO]; · iexact HO
  iapply Hs
  iempintro

theorem wait_s {sem : Sem sig} (hs : sem = (1 : Fin 2)) {k' : ℕ} (hk : k' = 7) {α : Type} {f : PUnit.{1} → Pr F α} {Q : α → sProp 𝕄} :
    iprop(recs I K ∗ cred (tallyAt (sC c) () 7) ∗ ow c (oS c []) ∗ atPos ER (sC c) 0 ∅ 0)
      ⊢ iprop(((ow c (oS c []) ∗ semVal (sC c) 0) -∗ WP c (f ⟨⟩) Q) -∗ WP c (Prog.op (.semWait sem k') f) Q) := by
  iintro ⟨#HR, Hc, HO, Hat⟩ Hk
  iapply (wait_any I K c (.inl 1) 4 (oS c []) (expect_s I c).symm (by rw [lv_s]) (above_zero 4) (wpE_semWait_eq 𝒱₀ (c : Thread nD τ) none Set.univ) (by rw [hs]; rfl) hk) $$ [Hc HO Hat]
  · isplitr; · iexact HR
    isplitl [Hc]; · iexact Hc
    isplitl [HO] <;> iassumption
  iintro ⟨HO, Hz, -⟩
  iapply Hk
  isplitl [HO] <;> iassumption

end Cert.KernelIdeal.Run
-- ==== Proof.KernelIdealRun.Ops.lean ====
/- The kernel's body up to the first barrier and the partial sums: what each part of the program does to the device's state. -/
module

public import proofs.«01_k».proof.Proof.KernelIdealRun.Sync
public import proofs.«01_k».proof.Proof.Gen.KernelIdeal.Skeleton

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A part of the body on the buffers and semaphores the launch gives it. -/
abbrev on {β : Type 1}
    (f : (arg0 : Memref sig .tc .vmem S1x1024x1024 .bf16) → (harg0 : arg0.IsWhole) → (arg1 : Memref sig .tc .vmem S1024x1024 .bf16) → (harg1 : arg1.IsWhole) → (arg2 : Memref sig .tc .vmem S1x1024x8x128 .bf16) → (harg2 : arg2.IsWhole) → (arg3 : Memref sig .tc .vmem S1x1024x8x128 .bf16) → (harg3 : arg3.IsWhole) → (arg4 : Memref sig .tc .vmem S1024x1024 .bf16) → (harg4 : arg4.IsWhole) → (arg5 : Memref sig .tc .vmem S1x1024x1024 .f32) → (harg5 : arg5.IsWhole) → (arg6 : Memref sig .tc .vmem S1024x8x128 .f32) → (harg6 : arg6.IsWhole) → (arg7 : Memref sig .tc .vmem S1024x8 .f32) → (harg7 : arg7.IsWhole) → (arg8 : Memref sig .tc .vmem S1024x8x128 .bf16) → (harg8 : arg8.IsWhole) → (arg9 : Memref sig .tc .vmem S1024x8 .bf16) → (harg9 : arg9.IsWhole) → (arg10 : Memref sig .tc .vmem S7x128x8x128 .bf16) → (harg10 : arg10.IsWhole) → (arg11 : Memref sig .tc .vmem S7x128x8 .bf16) → (harg11 : arg11.IsWhole) → (arg12 : Memref sig .tc .vmem S128x1024 .bf16) → (harg12 : arg12.IsWhole) → (arg13 : Memref sig .tc .vmem S7x128x1024 .bf16) → (harg13 : arg13.IsWhole) → (arg14 : DmaSems sig S7) → (arg15 : DmaSems sig S7) → (arg16 : DmaSems sig S7) → (arg17 : DmaSems sig S7) → (arg18 : DmaSems sig S7) → (arg19 : DmaSems sig S7) → (v1187_r0 : Sems sig S_) → β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scoped0

variable (I : Ins F) (K : Dev nD × Key → ℕ) (c : Dev nD)

/-! ## Single operations on the buffers the launch gives -/

theorem load_x {X : Vec F S1x1024x1024 .bf16} {inb : ∀ a, (![0, 0, 0] : Fin 3 → ℕ) a + S1x1024x1024.size a ≤ S1x1024x1024.size a}
    {hl : (Memref.whole cc0_stg0_0).view.LoadsAt (Rect.unit (s := S1x1024x1024) ![0, 0, 0] S1x1024x1024.size inb).toLoadRect} {α : Type} {k : (S1x1024x1024.Idx → Elt F .bf16) → Pr F α} {Q : α → sProp 𝕄} :
    (((c : Thread nD τ).loc cc0_stg0_0 ↦{fullShare} X) : sProp 𝕄) ⊢ iprop((((c : Thread nD τ).loc cc0_stg0_0 ↦{fullShare} X) -∗ WP c (k X) Q)
      -∗ WP c (Prog.op (.load (Memref.whole cc0_stg0_0) (Rect.unit (s := S1x1024x1024) ![0, 0, 0] S1x1024x1024.size inb).toLoadRect hl) k) Q) := by
  have hv : (Memref.whole cc0_stg0_0).view.readAt (Elt F) (Rect.unit (s := S1x1024x1024) ![0, 0, 0] S1x1024x1024.size inb).toLoadRect X = X := Memref.readAt_unit_zero (Elt F) cc0_stg0_0 (funext fun a => by match a with | 0 => rfl | 1 => rfl | 2 => rfl) inb X
  iintro H Hk
  iapply (wp_load 𝒱₀ (c : Thread nD τ) none Set.univ (m := Memref.whole cc0_stg0_0) (Finset.subset_univ _)) $$ H
  rw [hv]
  iexact Hk

theorem load_wq {X : Vec F S1024x1024 .bf16} {inb : ∀ a, (![0, 0] : Fin 2 → ℕ) a + S1024x1024.size a ≤ S1024x1024.size a}
    {hl : (Memref.whole cc0_stg1_0).view.LoadsAt (Rect.unit (s := S1024x1024) ![0, 0] S1024x1024.size inb).toLoadRect} {α : Type} {k : (S1024x1024.Idx → Elt F .bf16) → Pr F α} {Q : α → sProp 𝕄} :
    (((c : Thread nD τ).loc cc0_stg1_0 ↦{fullShare} X) : sProp 𝕄) ⊢ iprop((((c : Thread nD τ).loc cc0_stg1_0 ↦{fullShare} X) -∗ WP c (k X) Q)
      -∗ WP c (Prog.op (.load (Memref.whole cc0_stg1_0) (Rect.unit (s := S1024x1024) ![0, 0] S1024x1024.size inb).toLoadRect hl) k) Q) := by
  have hv : (Memref.whole cc0_stg1_0).view.readAt (Elt F) (Rect.unit (s := S1024x1024) ![0, 0] S1024x1024.size inb).toLoadRect X = X := Memref.readAt_unit_zero (Elt F) cc0_stg1_0 (funext fun a => by match a with | 0 => rfl | 1 => rfl) inb X
  iintro H Hk
  iapply (wp_load 𝒱₀ (c : Thread nD τ) none Set.univ (m := Memref.whole cc0_stg1_0) (Finset.subset_univ _)) $$ H
  rw [hv]
  iexact Hk

theorem load_k {X : Vec F S1x1024x8x128 .bf16} {inb : ∀ a, (![0, 0, 0, 0] : Fin 4 → ℕ) a + S1x1024x8x128.size a ≤ S1x1024x8x128.size a}
    {hl : (Memref.whole cc0_stg2_0).view.LoadsAt (Rect.unit (s := S1x1024x8x128) ![0, 0, 0, 0] S1x1024x8x128.size inb).toLoadRect} {α : Type} {k : (S1x1024x8x128.Idx → Elt F .bf16) → Pr F α} {Q : α → sProp 𝕄} :
    (((c : Thread nD τ).loc cc0_stg2_0 ↦{fullShare} X) : sProp 𝕄) ⊢ iprop((((c : Thread nD τ).loc cc0_stg2_0 ↦{fullShare} X) -∗ WP c (k X) Q)
      -∗ WP c (Prog.op (.load (Memref.whole cc0_stg2_0) (Rect.unit (s := S1x1024x8x128) ![0, 0, 0, 0] S1x1024x8x128.size inb).toLoadRect hl) k) Q) := by
  have hv : (Memref.whole cc0_stg2_0).view.readAt (Elt F) (Rect.unit (s := S1x1024x8x128) ![0, 0, 0, 0] S1x1024x8x128.size inb).toLoadRect X = X := Memref.readAt_unit_zero (Elt F) cc0_stg2_0 (funext fun a => by match a with | 0 => rfl | 1 => rfl | 2 => rfl | 3 => rfl) inb X
  iintro H Hk
  iapply (wp_load 𝒱₀ (c : Thread nD τ) none Set.univ (m := Memref.whole cc0_stg2_0) (Finset.subset_univ _)) $$ H
  rw [hv]
  iexact Hk

theorem load_v {X : Vec F S1x1024x8x128 .bf16} {inb : ∀ a, (![0, 0, 0, 0] : Fin 4 → ℕ) a + S1x1024x8x128.size a ≤ S1x1024x8x128.size a}
    {hl : (Memref.whole cc0_stg3_0).view.LoadsAt (Rect.unit (s := S1x1024x8x128) ![0, 0, 0, 0] S1x1024x8x128.size inb).toLoadRect} {α : Type} {k : (S1x1024x8x128.Idx → Elt F .bf16) → Pr F α} {Q : α → sProp 𝕄} :
    (((c : Thread nD τ).loc cc0_stg3_0 ↦{fullShare} X) : sProp 𝕄) ⊢ iprop((((c : Thread nD τ).loc cc0_stg3_0 ↦{fullShare} X) -∗ WP c (k X) Q)
      -∗ WP c (Prog.op (.load (Memref.whole cc0_stg3_0) (Rect.unit (s := S1x1024x8x128) ![0, 0, 0, 0] S1x1024x8x128.size inb).toLoadRect hl) k) Q) := by
  have hv : (Memref.whole cc0_stg3_0).view.readAt (Elt F) (Rect.unit (s := S1x1024x8x128) ![0, 0, 0, 0] S1x1024x8x128.size inb).toLoadRect X = X := Memref.readAt_unit_zero (Elt F) cc0_stg3_0 (funext fun a => by match a with | 0 => rfl | 1 => rfl | 2 => rfl | 3 => rfl) inb X
  iintro H Hk
  iapply (wp_load 𝒱₀ (c : Thread nD τ) none Set.univ (m := Memref.whole cc0_stg3_0) (Finset.subset_univ _)) $$ H
  rw [hv]
  iexact Hk

theorem load_wo {X : Vec F S1024x1024 .bf16} {inb : ∀ a, (![0, 0] : Fin 2 → ℕ) a + S1024x1024.size a ≤ S1024x1024.size a}
    {hl : (Memref.whole cc0_stg4_0).view.LoadsAt (Rect.unit (s := S1024x1024) ![0, 0] S1024x1024.size inb).toLoadRect} {α : Type} {k : (S1024x1024.Idx → Elt F .bf16) → Pr F α} {Q : α → sProp 𝕄} :
    (((c : Thread nD τ).loc cc0_stg4_0 ↦{fullShare} X) : sProp 𝕄) ⊢ iprop((((c : Thread nD τ).loc cc0_stg4_0 ↦{fullShare} X) -∗ WP c (k X) Q)
      -∗ WP c (Prog.op (.load (Memref.whole cc0_stg4_0) (Rect.unit (s := S1024x1024) ![0, 0] S1024x1024.size inb).toLoadRect hl) k) Q) := by
  have hv : (Memref.whole cc0_stg4_0).view.readAt (Elt F) (Rect.unit (s := S1024x1024) ![0, 0] S1024x1024.size inb).toLoadRect X = X := Memref.readAt_unit_zero (Elt F) cc0_stg4_0 (funext fun a => by match a with | 0 => rfl | 1 => rfl) inb X
  iintro H Hk
  iapply (wp_load 𝒱₀ (c : Thread nD τ) none Set.univ (m := Memref.whole cc0_stg4_0) (Finset.subset_univ _)) $$ H
  rw [hv]
  iexact Hk

theorem put_l (n : ℕ) (hn : n / 8 < 4) {off off' : Fin 2 → ℕ} {inb : ∀ a, off a + S256x1.size a ≤ S1024x8.size a} {inb' : ∀ a, off' a + S256x1.size a ≤ S1024x8.size a} {w : Vec F S256x1 .f32}
    (ho : off = ![256 * (n / 8), n % 8]) (hw : w = lB (qV I c) (kV I c) ⟨n / 8, hn⟩ ⟨n % 8, Nat.mod_lt _ (by decide)⟩)
    {hl : lM.view.LoadsAt (Rect.unit (s := S1024x8) off' S256x1.size inb').toLoadRect}
    {hx : (lM.access (Rect.unit (s := S1024x8) off S256x1.size inb)).Stores Finset.univ} {hm : (Finset.univ : Finset S256x1.Idx) = Finset.univ ∨ ∀ a, (Rect.unit (s := S1024x8) off S256x1.size inb).stride a = 1}
    {α : Type} {k : PUnit.{1} → Pr F α} {Q : α → sProp 𝕄} :
    lAt I c n ⊢ iprop((lAt I c (n + 1) -∗ WP c (k ⟨⟩) Q) -∗ WP c (Prog.op (.load lM (Rect.unit (s := S1024x8) off' S256x1.size inb').toLoadRect hl) fun _ =>
      Prog.op (.store lM (Rect.unit (s := S1024x8) off S256x1.size inb) w Finset.univ hx hm) k) Q) := by
  iintro H Hk
  iapply (load_l I c n) $$ H
  iintro %v H
  iapply (store_l I c n hn ho hw) $$ H
  iexact Hk

theorem put_a (n : ℕ) (hn : n / 8 < 4) {off off' : Fin 3 → ℕ} {inb : ∀ a, off a + S256x1x128.size a ≤ S1024x8x128.size a} {inb' : ∀ a, off' a + S256x1x128.size a ≤ S1024x8x128.size a} {w : Vec F S256x1x128 .f32}
    (ho : off = ![256 * (n / 8), n % 8, 0]) (hw : w = aB (qV I c) (kV I c) (vV I c) ⟨n / 8, hn⟩ ⟨n % 8, Nat.mod_lt _ (by decide)⟩)
    {hl : accM.view.LoadsAt (Rect.unit (s := S1024x8x128) off' S256x1x128.size inb').toLoadRect}
    {hx : (accM.access (Rect.unit (s := S1024x8x128) off S256x1x128.size inb)).Stores Finset.univ} {hm : (Finset.univ : Finset S256x1x128.Idx) = Finset.univ ∨ ∀ a, (Rect.unit (s := S1024x8x128) off S256x1x128.size inb).stride a = 1}
    {α : Type} {k : PUnit.{1} → Pr F α} {Q : α → sProp 𝕄} :
    accAt I c n ⊢ iprop((accAt I c (n + 1) -∗ WP c (k ⟨⟩) Q) -∗ WP c (Prog.op (.load accM (Rect.unit (s := S1024x8x128) off' S256x1x128.size inb').toLoadRect hl) fun _ =>
      Prog.op (.store accM (Rect.unit (s := S1024x8x128) off S256x1x128.size inb) w Finset.univ hx hm) k) Q) := by
  iintro H Hk
  iapply (load_acc I c n) $$ H
  iintro %v H
  iapply (store_acc I c n hn ho hw) $$ H
  iexact Hk

theorem put_aH (r : Fin 4) (t t' : Fin 8) (ht : t.val = 2 * r.val) (ht' : t'.val = 2 * r.val + 1)
    {off off' : Fin 3 → ℕ} {inb : ∀ a, off a + S256x8x128.size a ≤ S1024x8x128.size a} {inb' : ∀ a, off' a + S256x8x128.size a ≤ S1024x8x128.size a}
    (ho : off = ![256 * r.val, 0, 0]) (ho' : off' = ![256 * r.val, 0, 0]) {w : Vec F S256x8x128 .bf16} (hw : w = grp3 (aH I c) r)
    {hl : accH.view.LoadsAt (Rect.unit (s := S1024x8x128) off' S256x8x128.size inb').toLoadRect}
    {hx : (accH.access (Rect.unit (s := S1024x8x128) off S256x8x128.size inb)).Stores Finset.univ} {hm : (Finset.univ : Finset S256x8x128.Idx) = Finset.univ ∨ ∀ a, (Rect.unit (s := S1024x8x128) off S256x8x128.size inb).stride a = 1}
    {α : Type} {k : PUnit.{1} → Pr F α} {Q : α → sProp 𝕄} :
    freeA (F := F) c r ⊢ iprop(((ownsTc c (srcA t) fullShare (aS I c t) ∗ ownsTc c (srcA t') fullShare (aS I c t')) -∗ WP c (k ⟨⟩) Q)
      -∗ WP c (Prog.op (.load accH (Rect.unit (s := S1024x8x128) off' S256x8x128.size inb').toLoadRect hl) fun _ =>
        Prog.op (.store accH (Rect.unit (s := S1024x8x128) off S256x8x128.size inb) w Finset.univ hx hm) k) Q) := by
  iintro H Hk
  iapply (load_accH c r ho') $$ H
  iintro %v H
  iapply (store_accH I c r t t' ht ht' ho hw) $$ H
  iexact Hk

theorem put_lH (r : Fin 4) (t t' : Fin 8) (ht : t.val = 2 * r.val) (ht' : t'.val = 2 * r.val + 1)
    {off off' : Fin 2 → ℕ} {inb : ∀ a, off a + S256x8.size a ≤ S1024x8.size a} {inb' : ∀ a, off' a + S256x8.size a ≤ S1024x8.size a}
    (ho : off = ![256 * r.val, 0]) (ho' : off' = ![256 * r.val, 0]) {w : Vec F S256x8 .bf16} (hw : w = grp2 (lH I c) r)
    {hl : lHM.view.LoadsAt (Rect.unit (s := S1024x8) off' S256x8.size inb').toLoadRect}
    {hx : (lHM.access (Rect.unit (s := S1024x8) off S256x8.size inb)).Stores Finset.univ} {hm : (Finset.univ : Finset S256x8.Idx) = Finset.univ ∨ ∀ a, (Rect.unit (s := S1024x8) off S256x8.size inb).stride a = 1}
    {α : Type} {k : PUnit.{1} → Pr F α} {Q : α → sProp 𝕄} :
    freeL (F := F) c r ⊢ iprop(((ownsTc c (srcL t) fullShare (lS I c t) ∗ ownsTc c (srcL t') fullShare (lS I c t')) -∗ WP c (k ⟨⟩) Q)
      -∗ WP c (Prog.op (.load lHM (Rect.unit (s := S1024x8) off' S256x8.size inb').toLoadRect hl) fun _ =>
        Prog.op (.store lHM (Rect.unit (s := S1024x8) off S256x8.size inb) w Finset.univ hx hm) k) Q) := by
  iintro H Hk
  iapply (load_lHM c r ho') $$ H
  iintro %v H
  iapply (store_lHM I c r t t' ht ht' ho hw) $$ H
  iexact Hk

omit [FloatOps F] in
theorem slotA_eq {off : Fin 4 → ℕ} (j : Fin 7) (h : off = ![j.val, 0, 0, 0]) (inb) : vA off inb = slotA j := by subst h; rfl
omit [FloatOps F] in
theorem slotL_eq {off : Fin 3 → ℕ} (j : Fin 7) (h : off = ![j.val, 0, 0]) (inb) : vL off inb = slotL j := by subst h; rfl
omit [FloatOps F] in
theorem srcA_eq {off : Fin 3 → ℕ} (t : Fin 8) (h : off = ![128 * t.val, 0, 0]) (inb) : vA' off inb = srcA t := by subst h; rfl
omit [FloatOps F] in
theorem srcL_eq {off : Fin 2 → ℕ} (t : Fin 8) (h : off = ![128 * t.val, 0]) (inb) : vL' off inb = srcL t := by subst h; rfl

/-- The three views of a guarded transfer from `c` to `t` name slot `sl c t`. -/
def Named (c t : Dev nD) (cnd : BitVec 1) (o : Fin 1 → ℕ) (oA : Fin 4 → ℕ) (oL : Fin 3 → ℕ) : Prop :=
  (cnd = 1#1 ↔ t ≠ c) ∧ (cnd = 1#1 → o = ![(sl c t).val] ∧ oA = ![(sl c t).val, 0, 0, 0] ∧ oL = ![(sl c t).val, 0, 0])
instance (c t : Dev nD) (cnd : BitVec 1) (o : Fin 1 → ℕ) (oA : Fin 4 → ℕ) (oL : Fin 3 → ℕ) : Decidable (Named c t cnd o oA oL) := inferInstanceAs (Decidable (_ ∧ _))

/-- A guarded pair of operations and the rest of the program. -/
theorem wp_guard {cnd : BitVec 1} {e₁ e₂ : cnd = 1#1 → TpuEff nD τ sig (Elt F) Λ₀ .tc PUnit.{1}} {α : Type} {k : Pr F α} {Q : α → sProp 𝕄} :
    WP c (if h : cnd = 1#1 then Prog.op (e₁ h) fun _ => Prog.op (e₂ h) fun _ => k else k) Q
      = WP c (if h : cnd = 1#1 then Prog.op (e₁ h) fun _ => Prog.op (e₂ h) fun _ => (Prog.ret ⟨⟩ : Pr F PUnit.{1}) else Prog.ret ⟨⟩) (fun _ => WP c k Q) := by
  have h : (if h : cnd = 1#1 then Prog.op (e₁ h) fun _ => Prog.op (e₂ h) fun _ => k else k)
      = (if h : cnd = 1#1 then Prog.op (e₁ h) fun _ => Prog.op (e₂ h) fun _ => (Prog.ret ⟨⟩ : Pr F PUnit.{1}) else Prog.ret ⟨⟩) >>= fun _ => k := by
    split <;> rfl
  rw [h]
  show wp _ _ _ _ _ = wp _ _ _ _ _
  rw [wp_bind]

theorem send_at (t : Dev nD) (l : List (Dev nD)) (O : CT) {n : ℕ} (hn : n = t.val) {cnd : BitVec 1} {o : Fin 1 → ℕ} {oA : Fin 4 → ℕ} {oL : Fin 3 → ℕ} (hN : Named c t cnd o oA oL)
    {n₁ n₂ : ℕ} (h₁ : n₁ = t.val) (h₂ : n₂ = t.val) {hn₁ : cnd = 1#1 → n₁ < nD} {hn₂ : cnd = 1#1 → n₂ < nD}
    {i0 i1 i2 i3 : cnd = 1#1 → ∀ a, o a + S1.size a ≤ S7.size a} {iA : cnd = 1#1 → ∀ a, oA a + S1x128x8x128.size a ≤ S7x128x8x128.size a} {iL : cnd = 1#1 → ∀ a, oL a + S1x128x8.size a ≤ S7x128x8.size a}
    {pA : Fin 3 → ℕ} {pL : Fin 2 → ℕ} (hA : pA = ![128 * t.val, 0, 0]) (hL : pL = ![128 * t.val, 0]) {jA : ∀ a, pA a + S128x8x128.size a ≤ S1024x8x128.size a} {jL : ∀ a, pL a + S128x8.size a ≤ S1024x8.size a}
    {sc₁ : ∀ h, (vA oA (iA h)).view.ref.isScScratch = false} {sc₂ : ∀ h, (vL oL (iL h)).view.ref.isScScratch = false}
    {w₁ : (vA' pA jA).view.WordExact} {w₂ : ∀ h, (vA oA (iA h)).view.WordExact}
    {w₃ : ∀ h, DmaTarget.Typed .vmem (.dma (s1 o (i1 h))) (.remote (Dev.tc (⟨n₁, hn₁ h⟩ : Dev nD)) (vA oA (iA h)) (.dma (s0 o (i0 h))) (sc₁ h))}
    {w₄ : (vL' pL jL).view.WordExact} {w₅ : ∀ h, (vL oL (iL h)).view.WordExact}
    {w₆ : ∀ h, DmaTarget.Typed .vmem (.dma (s3 o (i3 h))) (.remote (Dev.tc (⟨n₂, hn₂ h⟩ : Dev nD)) (vL oL (iL h)) (.dma (s2 o (i2 h))) (sc₂ h))}
    {α : Type} {k : Pr F α} {Q : α → sProp 𝕄} :
    iprop(recs I K ∗ ow c (oR c (t :: l) + O) ∗ seqAt (n := 8) (sent I c) (sendRes (F := F) c) n ∗ ownsTc c (srcA t) fullShare (aS I c t) ∗ ownsTc c (srcL t) fullShare (lS I c t))
      ⊢ iprop(((ow c (oR c l + O) ∗ seqAt (n := 8) (sent I c) (sendRes (F := F) c) (n + 1)) -∗ WP c k Q)
          -∗ WP c (if h : cnd = 1#1 then
              Prog.op (.enqueueDma (vA' pA jA) (.remote (Dev.tc (⟨n₁, hn₁ h⟩ : Dev nD)) (vA oA (iA h)) (.dma (s0 o (i0 h))) (sc₁ h)) (.dma (s1 o (i1 h))) w₁ (w₂ h) (w₃ h)) fun _ =>
              Prog.op (.enqueueDma (vL' pL jL) (.remote (Dev.tc (⟨n₂, hn₂ h⟩ : Dev nD)) (vL oL (iL h)) (.dma (s2 o (i2 h))) (sc₂ h)) (.dma (s3 o (i3 h))) w₄ (w₅ h) (w₆ h)) fun _ =>
              k
            else k) Q) := by
  rw [wp_guard]
  iintro ⟨#HR, HO, Hs, HA, HL⟩ Hk
  iapply (step_send I K c t l O hn hN.1 h₁ h₂ (fun h => sem0_eq _ (hN.2 h).1 _) (fun h => sem1_eq _ (hN.2 h).1 _) (fun h => sem2_eq _ (hN.2 h).1 _) (fun h => sem3_eq _ (hN.2 h).1 _)
    (srcA_eq t hA _) (srcL_eq t hL _) (fun h => slotA_eq _ (hN.2 h).2.1 _) (fun h => slotL_eq _ (hN.2 h).2.2 _)) $$ [HO Hs HA HL]
  · unfold held
    iframe HR HO Hs HA HL
  iexact Hk

theorem names0 : ∀ c : Dev nD, Named c 0 (k0_cond1 c) (k0_off1 c) (k0_off2 c) (k0_off3 c) := by decide +kernel
theorem names1 : ∀ c : Dev nD, Named c 1 (k0_cond2 c) (k0_off4 c) (k0_off5 c) (k0_off6 c) := by decide +kernel
theorem names2 : ∀ c : Dev nD, Named c 2 (k0_cond3 c) (k0_off7 c) (k0_off8 c) (k0_off9 c) := by decide +kernel
theorem names3 : ∀ c : Dev nD, Named c 3 (k0_cond4 c) (k0_off10 c) (k0_off11 c) (k0_off12 c) := by decide +kernel
theorem names4 : ∀ c : Dev nD, Named c 4 (k0_cond5 c) (k0_off13 c) (k0_off14 c) (k0_off15 c) := by decide +kernel
theorem names5 : ∀ c : Dev nD, Named c 5 (k0_cond6 c) (k0_off16 c) (k0_off17 c) (k0_off18 c) := by decide +kernel
theorem names6 : ∀ c : Dev nD, Named c 6 (k0_cond7 c) (k0_off19 c) (k0_off20 c) (k0_off21 c) := by decide +kernel
theorem names7 : ∀ c : Dev nD, Named c 7 (k0_cond8 c) (k0_off22 c) (k0_off23 c) (k0_off24 c) := by decide +kernel

end Cert.KernelIdeal.Run
-- ==== Proof.KernelIdealRun.Waits.lean ====
/- One lemma per kind of wait on a transfer. -/
module

public import proofs.«01_k».proof.Proof.KernelIdealRun.Ops

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Key → ℕ) (c : Dev nD)

abbrev s4 (off : Fin 1 → ℕ) (inb : ∀ a, off a + S1.size a ≤ S7.size a) : DmaSem sig := ((cc0_scratch12.slice (Rect.unit (s := S7) off S1.size inb)).squeeze S_ squeezes_S1_S_).sem
abbrev s5 (off : Fin 1 → ℕ) (inb : ∀ a, off a + S1.size a ≤ S7.size a) : DmaSem sig := ((cc0_scratch13.slice (Rect.unit (s := S7) off S1.size inb)).squeeze S_ squeezes_S1_S_).sem
abbrev vG (off : Fin 3 → ℕ) (inb : ∀ a, off a + S1x128x1024.size a ≤ S7x128x1024.size a) : Memref sig .tc .vmem S128x1024 .bf16 :=
  (agR.slice (Rect.unit (s := S7x128x1024) off S1x128x1024.size inb) (fun _ => rfl)).squeeze S128x1024 squeezes_S1x128x1024_S128x1024

omit [FloatOps F] in
theorem slotG_eq {off : Fin 3 → ℕ} (j : Fin 7) (h : off = ![j.val, 0, 0]) (inb) : vG off inb = slotG j := by subst h; rfl

omit [FloatOps F] in
theorem credSA (t : Fin 8) : (srcA t).view.dmaCredit = NA := rfl
omit [FloatOps F] in
theorem credSL (t : Fin 8) : (srcL t).view.dmaCredit = NL := rfl
omit [FloatOps F] in
theorem credSG : agS.view.dmaCredit = amt 4 := rfl

/-- The wait for the products of `prv c j`. -/
theorem recv_A (j : Fin 7) (O : CT) (hO : Above 2 O) {n : ℕ} (hn : n = j.val) {o : Fin 1 → ℕ} {i : ∀ a, o a + S1.size a ≤ S7.size a} (ho : o = ![j.val])
    {src : Memref sig .tc .vmem S128x8x128 .bf16} {oA : Fin 4 → ℕ} {iA : ∀ a, oA a + S1x128x8x128.size a ≤ S7x128x8x128.size a} (hA : oA = ![j.val, 0, 0, 0])
    {w₁ : src.view.WordExact} {w₂ : (vA oA iA).view.WordExact} {α : Type} {f : PUnit.{1} → Pr F α} {Q : α → sProp 𝕄} :
    iprop(recs I K ∗ ow c O ∗ seqAt (wP I c 1) (wQ (F := F) c 1) n)
      ⊢ iprop(((ow c O ∗ seqAt (wP I c 1) (wQ (F := F) c 1) (n + 1)) -∗ WP c (f ⟨⟩) Q) -∗ WP c (Prog.op (.waitDma2 (s1 o i) src (vA oA iA) w₁ w₂) f) Q) := by
  subst hA
  exact step_w I K c 1 j 2 O (by rw [lv_d]; decide) hO hn (wpE_waitDma2_eq 𝒱₀ (c : Thread nD τ) none Set.univ) (congrArg SemLoc.dma (sem1_eq j ho i)) (credA j)

/-- The wait for the row sums of `prv c j`. -/
theorem recv_L (j : Fin 7) (O : CT) (hO : Above 2 O) {n : ℕ} (hn : n = j.val) {o : Fin 1 → ℕ} {i : ∀ a, o a + S1.size a ≤ S7.size a} (ho : o = ![j.val])
    {src : Memref sig .tc .vmem S128x8 .bf16} {oL : Fin 3 → ℕ} {iL : ∀ a, oL a + S1x128x8.size a ≤ S7x128x8.size a} (hL : oL = ![j.val, 0, 0])
    {w₁ : src.view.WordExact} {w₂ : (vL oL iL).view.WordExact} {α : Type} {f : PUnit.{1} → Pr F α} {Q : α → sProp 𝕄} :
    iprop(recs I K ∗ ow c O ∗ seqAt (wP I c 3) (wQ (F := F) c 3) n)
      ⊢ iprop(((ow c O ∗ seqAt (wP I c 3) (wQ (F := F) c 3) (n + 1)) -∗ WP c (f ⟨⟩) Q) -∗ WP c (Prog.op (.waitDma2 (s3 o i) src (vL oL iL) w₁ w₂) f) Q) := by
  subst hL
  exact step_w I K c 3 j 2 O (by rw [lv_d]; decide) hO hn (wpE_waitDma2_eq 𝒱₀ (c : Thread nD τ) none Set.univ) (congrArg SemLoc.dma (sem3_eq j ho i)) (credL j)

/-- The wait for the projected rows of `nxt c j`. -/
theorem recv_G (j : Fin 7) (O : CT) (hO : Above 3 O) {n : ℕ} (hn : n = j.val) {o : Fin 1 → ℕ} {i : ∀ a, o a + S1.size a ≤ S7.size a} (ho : o = ![j.val])
    {src : Memref sig .tc .vmem S128x1024 .bf16} {oG : Fin 3 → ℕ} {iG : ∀ a, oG a + S1x128x1024.size a ≤ S7x128x1024.size a} (hG : oG = ![j.val, 0, 0])
    {w₁ : src.view.WordExact} {w₂ : (vG oG iG).view.WordExact} {α : Type} {f : PUnit.{1} → Pr F α} {Q : α → sProp 𝕄} :
    iprop(recs I K ∗ ow c O ∗ seqAt (wP I c 5) (wQ (F := F) c 5) n)
      ⊢ iprop(((ow c O ∗ seqAt (wP I c 5) (wQ (F := F) c 5) (n + 1)) -∗ WP c (f ⟨⟩) Q) -∗ WP c (Prog.op (.waitDma2 (s5 o i) src (vG oG iG) w₁ w₂) f) Q) := by
  subst hG
  exact step_w I K c 5 j 3 O (by rw [lv_d]; decide) hO hn (wpE_waitDma2_eq 𝒱₀ (c : Thread nD τ) none Set.univ) (congrArg SemLoc.dma (sem5_eq j ho i)) (credG j)

/-- The wait for the share of the projected rows lent to the transfer to `prv c j`. -/
theorem back_G (j : Fin 7) (O : CT) (hO : Above 0 O) {n : ℕ} (hn : n = (Fin.rev j).val) {o : Fin 1 → ℕ} {i : ∀ a, o a + S1.size a ≤ S7.size a} (ho : o = ![j.val])
    {src : Memref sig .tc .vmem S128x1024 .bf16}
    {w₁ : src.view.WordExact} {w₂ : agS.view.WordExact} {α : Type} {f : PUnit.{1} → Pr F α} {Q : α → sProp 𝕄} :
    iprop(recs I K ∗ ow c O ∗ seqAt (n := 7) (fun i => wP I c 4 (Fin.rev i)) (fun i => wQ (F := F) c 4 (Fin.rev i)) n)
      ⊢ iprop(((ow c O ∗ seqAt (n := 7) (fun i => wP I c 4 (Fin.rev i)) (fun i => wQ (F := F) c 4 (Fin.rev i)) (n + 1)) -∗ WP c (f ⟨⟩) Q)
          -∗ WP c (Prog.op (.waitDma2 (s4 o i) src agS w₁ w₂) f) Q) :=
  step_wr I K c 4 j 0 O (by rw [lv_d]; decide) hO hn (wpE_waitDma2_eq 𝒱₀ (c : Thread nD τ) none Set.univ) (congrArg SemLoc.dma (sem4_eq j ho i)) credSG

/-- The transfer of the projected rows to `prv c j`. -/
theorem send_G (j : Fin 7) (l : List (Fin 7)) (O : CT) {n : ℕ} (hn : n = (Fin.rev j).val) {t : Dev nD} (ht : t = prv c j) {o : Fin 1 → ℕ} {i i' : ∀ a, o a + S1.size a ≤ S7.size a} (ho : o = ![j.val])
    {oD : Fin 3 → ℕ} {iD : ∀ a, oD a + S1x128x1024.size a ≤ S7x128x1024.size a} (hD : oD = ![j.val, 0, 0])
    {hsc : (vG oD iD).view.ref.isScScratch = false} {hw : agS.view.WordExact} {hw' : (vG oD iD).view.WordExact}
    {hty : DmaTarget.Typed .vmem (.dma (s5 o i')) (.remote (Dev.tc t : Thread nD τ) (vG oD iD) (.dma (s4 o i)) hsc)}
    {α : Type} {f : PUnit.{1} → Pr F α} {Q : α → sProp 𝕄} :
    iprop(recs I K ∗ ow c (oG c (j :: l) + O) ∗ seqAt (n := 7) (fun i => wQ (F := F) c 4 (Fin.rev i)) (fun i => gQ I c (Fin.rev i)) n)
      ⊢ iprop(((ow c (oG c l + O) ∗ seqAt (n := 7) (fun i => wQ (F := F) c 4 (Fin.rev i)) (fun i => gQ I c (Fin.rev i)) (n + 1)) -∗ WP c (f ⟨⟩) Q)
          -∗ WP c (Prog.op (.enqueueDma agS (.remote (Dev.tc t : Thread nD τ) (vG oD iD) (.dma (s4 o i)) hsc) (.dma (s5 o i')) hw hw' hty) f) Q) :=
  step_g I K c j l O hn ht rfl (slotG_eq j hD _) (sem4_eq j ho _) (sem5_eq j ho _)

/-- The guarded waits for the transfers to `t`. -/
theorem back_at (t : Dev nD) (O : CT) (hO : Above 0 O) {n : ℕ} (hn : n = t.val) {cnd : BitVec 1} {o : Fin 1 → ℕ} {oA : Fin 4 → ℕ} {oL : Fin 3 → ℕ} (hN : Named c t cnd o oA oL)
    {i0 i2 : cnd = 1#1 → ∀ a, o a + S1.size a ≤ S7.size a} {iA : cnd = 1#1 → ∀ a, oA a + S1x128x8x128.size a ≤ S7x128x8x128.size a} {iL : cnd = 1#1 → ∀ a, oL a + S1x128x8.size a ≤ S7x128x8.size a}
    {pA : Fin 3 → ℕ} {pL : Fin 2 → ℕ} (hA : pA = ![128 * t.val, 0, 0]) (hL : pL = ![128 * t.val, 0]) {jA : ∀ a, pA a + S128x8x128.size a ≤ S1024x8x128.size a} {jL : ∀ a, pL a + S128x8.size a ≤ S1024x8.size a}
    {w₁ : ∀ h, (vA oA (iA h)).view.WordExact} {w₂ : (vA' pA jA).view.WordExact} {w₃ : ∀ h, (vL oL (iL h)).view.WordExact} {w₄ : (vL' pL jL).view.WordExact} {α : Type} {k : Pr F α} {Q : α → sProp 𝕄} :
    iprop(recs I K ∗ ow c O ∗ seqAt (n := 8) (back I c) (sent I c) n)
      ⊢ iprop(((ow c O ∗ seqAt (n := 8) (back I c) (sent I c) (n + 1)) -∗ WP c k Q)
          -∗ WP c (if h : cnd = 1#1 then
              Prog.op (.waitDma2 (s0 o (i0 h)) (vA oA (iA h)) (vA' pA jA) (w₁ h) w₂) fun _ =>
              Prog.op (.waitDma2 (s2 o (i2 h)) (vL oL (iL h)) (vL' pL jL) (w₃ h) w₄) fun _ =>
              k
            else k) Q) := by
  rw [wp_guard]
  subst hA hL
  exact step_back I K c t O hO hn hN.1 (fun h => sem0_eq _ (hN.2 h).1 _) (fun h => sem2_eq _ (hN.2 h).1 _) (srA := srcA t) (srL := srcL t) (credSA t) (credSL t) (Q := fun _ => WP c k Q)

theorem backs0 : ∀ c : Dev nD, Named c 0 (k0_cond9 c) (k0_off31 c) (k0_off32 c) (k0_off33 c) := by decide +kernel
theorem backs1 : ∀ c : Dev nD, Named c 1 (k0_cond10 c) (k0_off34 c) (k0_off35 c) (k0_off36 c) := by decide +kernel
theorem backs2 : ∀ c : Dev nD, Named c 2 (k0_cond11 c) (k0_off37 c) (k0_off38 c) (k0_off39 c) := by decide +kernel
theorem backs3 : ∀ c : Dev nD, Named c 3 (k0_cond12 c) (k0_off40 c) (k0_off41 c) (k0_off42 c) := by decide +kernel
theorem backs4 : ∀ c : Dev nD, Named c 4 (k0_cond13 c) (k0_off43 c) (k0_off44 c) (k0_off45 c) := by decide +kernel
theorem backs5 : ∀ c : Dev nD, Named c 5 (k0_cond14 c) (k0_off46 c) (k0_off47 c) (k0_off48 c) := by decide +kernel
theorem backs6 : ∀ c : Dev nD, Named c 6 (k0_cond15 c) (k0_off49 c) (k0_off50 c) (k0_off51 c) := by decide +kernel
theorem backs7 : ∀ c : Dev nD, Named c 7 (k0_cond16 c) (k0_off52 c) (k0_off53 c) (k0_off54 c) := by decide +kernel

end Cert.KernelIdeal.Run
-- ==== Proof.KernelIdealRun.Parts1.lean ====
/- The kernel's body up to the partial sums' transfers: what each part of the program does to the device's state. -/
module

public import proofs.«01_k».proof.Proof.KernelIdealRun.Waits

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Key → ℕ) (c : Dev nD)

/-- The inputs the body reads at its start. -/
def ins : sProp 𝕄 := iprop(((c : Thread nD τ).loc cc0_stg0_0 ↦{fullShare} I.x c) ∗ ((c : Thread nD τ).loc cc0_stg1_0 ↦{fullShare} I.wq c)
  ∗ ((c : Thread nD τ).loc cc0_stg2_0 ↦{fullShare} I.k c) ∗ ((c : Thread nD τ).loc cc0_stg3_0 ↦{fullShare} I.v c))

/-- What the first barrier gives. -/
def met : sProp 𝕄 := iprop(semVal (bC c) 0 ∗ seqAt (n := 8) (sent I c) (sendRes (F := F) c) 0 ∗ bigSep Finset.univ fun j : Fin 7 => anyG (F := F) (prv c j) j)

/-- The rounded products and row sums for `t`, before they are sent. -/
abbrev hA (t : Fin 8) : sProp 𝕄 := ownsTc c (srcA t) fullShare (aS I c t)
abbrev hL (t : Fin 8) : sProp 𝕄 := ownsTc c (srcL t) fullShare (lS I c t)

theorem roundA (r : Fin 4) (h : S256x8x128.ShapeCasts S256x8x128) : shapeCast S256x8x128 (truncf .bf16 (grp3 (aF I c) r) bitsLt_bf16_f32) h = grp3 (aH I c) r :=
  (shapeCast_self _ h).trans rfl
theorem roundL (r : Fin 4) (h : S256x8.ShapeCasts S256x8) : shapeCast S256x8 (truncf .bf16 (grp2 (lF I c) r) bitsLt_bf16_f32) h = grp2 (lH I c) r :=
  (shapeCast_self _ h).trans rfl

theorem part1 {Q : (Σ' (d0 : Dev nD) (v2 : BitVec 32) (v3 : Sems sig S_) (v24 : BitVec 32), BitVec 32) → sProp 𝕄} (O : CT) :
    iprop(recs I K ∗ ow c (oB c [0, 1, 2, 3, 4, 5, 6] + O) ∗ seqAt nil7 (bQ (F := F) c) 0)
      ⊢ iprop((∀ v2 v24 w, (ow c (oB c [5, 6] + O) ∗ seqAt nil7 (bQ (F := F) c) 5) -∗ Q ⟨c, v2, SemArray.scalar (sig.barrier 0 rfl), v24, w⟩)
          -∗ WP c (on (k0_part1 (F := F))) Q) := by
  rw [k0_part1_eq_skeleton]
  unfold k0_part1_skel
  simp only [semSignalWord, semWaitWord, Prog.lift, Prog.bind_op, Prog.bind_ret, Prog.pure_eq_ret, wp_deviceId]
  iintro ⟨#HR, HO, Hs⟩ Hk
  iapply (step_b I K c 0 [1, 2, 3, 4, 5, 6] O rfl (by revert c; decide) rfl rfl) $$ [HO Hs]
  · iframe HR HO Hs
  iintro ⟨HO, Hs⟩
  iapply (step_b I K c 1 [2, 3, 4, 5, 6] O rfl (by revert c; decide) rfl rfl) $$ [HO Hs]
  · iframe HR HO Hs
  iintro ⟨HO, Hs⟩
  iapply (step_b I K c 2 [3, 4, 5, 6] O rfl (by revert c; decide) rfl rfl) $$ [HO Hs]
  · iframe HR HO Hs
  iintro ⟨HO, Hs⟩
  iapply (step_b I K c 3 [4, 5, 6] O rfl (by revert c; decide) rfl rfl) $$ [HO Hs]
  · iframe HR HO Hs
  iintro ⟨HO, Hs⟩
  iapply (step_b I K c 4 [5, 6] O rfl (by revert c; decide) rfl rfl) $$ [HO Hs]
  · iframe HR HO Hs
  iintro ⟨HO, Hs⟩
  iapply (ret_intro (F := F) c)
  iapply Hk
  iframe HO Hs

theorem part2 {Q : _ → sProp 𝕄} (O : CT) (hO : Above 1 O) {v2 v24 w : BitVec 32} :
    iprop(recs I K ∗ ow c (oB c [5, 6] + O) ∗ seqAt nil7 (bQ (F := F) c) 5 ∗ cred (tallyAt (bC c) () 7) ∗ atPos ER (bC c) 0 ∅ 0 ∗ bigSep Finset.univ (sendTok (F := F) c) ∗ ins I c)
      ⊢ iprop(((ow c O ∗ ins I c ∗ met I c) -∗ Q ⟨qV I c, kV I c, vV I c, k0_pay4 (I.x c) (I.wq c), k0_pay5 (I.k c)⟩)
          -∗ WP c (on (k0_part2 (F := F)) c v2 (SemArray.scalar (sig.barrier 0 rfl)) v24 w) Q) := by
  rw [k0_part2_eq_skeleton]
  unfold k0_part2_skel ins met qV kV vV
  simp only [semSignalWord, semWaitWord, Prog.lift, Prog.bind_op, Prog.bind_ret, Prog.pure_eq_ret]
  iintro ⟨#HR, HO, Hs, Hc, Hat, Ht, Hx, Hq, Hk, Hv⟩ HK
  iapply (step_b I K c 5 [6] O rfl (by revert c; decide) rfl rfl) $$ [HO Hs]
  · iframe HR HO Hs
  iintro ⟨HO, Hs⟩
  iapply (step_b I K c 6 [] O rfl (by revert c; decide) rfl rfl) $$ [HO Hs]
  · iframe HR HO Hs
  iintro ⟨HO, Hs⟩
  rw [show oB c [] + O = O from zero_add O]
  iapply (wait_b I K c O hO rfl rfl) $$ [HO Hc Hat Ht]
  · iframe HR Hc HO Hat Ht
  iintro ⟨HO, Hz, Hr, Hg⟩
  iapply (load_x c) $$ Hx; iintro Hx
  iapply (load_wq c) $$ Hq; iintro Hq
  iapply (load_k c) $$ Hk; iintro Hk
  iapply (load_v c) $$ Hv; iintro Hv
  iapply (ret_intro (F := F) c)
  iapply HK
  iframe HO Hx Hq Hk Hv Hz Hg
  iapply (seq_zero (n := 8) (sent I c) (sendRes (F := F) c))
  iexact Hr

theorem part3 {Q : _ → sProp 𝕄} :
    iprop(accAt I c 0 ∗ lAt I c 0)
      ⊢ iprop(((accAt I c 2 ∗ lAt I c 2) -∗ Q ⟨k0_pay12 (qV I c) (kV I c), k0_pay13 (qV I c) (kV I c)⟩)
          -∗ WP c (on (k0_part3 (F := F)) (qV I c) (kV I c) (vV I c) (k0_pay4 (I.x c) (I.wq c)) (k0_pay5 (I.k c))) Q) := by
  rw [k0_part3_eq_skeleton]
  unfold k0_part3_skel
  simp only [Prog.lift, Prog.bind_op, Prog.bind_ret, Prog.pure_eq_ret]
  iintro ⟨Ha, Hl⟩ Hk
  iapply (put_l I c 0 (by decide) rfl rfl) $$ Hl; iintro Hl
  iapply (put_a I c 0 (by decide) rfl rfl) $$ Ha; iintro Ha
  iapply (put_l I c 1 (by decide) rfl rfl) $$ Hl; iintro Hl
  iapply (put_a I c 1 (by decide) rfl rfl) $$ Ha; iintro Ha
  iapply (ret_intro (F := F) c)
  iapply Hk
  iframe Ha Hl

theorem part4 {Q : _ → sProp 𝕄} :
    iprop(accAt I c 2 ∗ lAt I c 2)
      ⊢ iprop(((accAt I c 4 ∗ lAt I c 5) -∗ Q (k0_pay21 (qV I c) (kV I c)))
          -∗ WP c (on (k0_part4 (F := F)) (qV I c) (kV I c) (vV I c) (k0_pay12 (qV I c) (kV I c)) (k0_pay13 (qV I c) (kV I c))) Q) := by
  rw [k0_part4_eq_skeleton]
  unfold k0_part4_skel
  simp only [Prog.lift, Prog.bind_op, Prog.bind_ret, Prog.pure_eq_ret]
  iintro ⟨Ha, Hl⟩ Hk
  iapply (put_l I c 2 (by decide) rfl rfl) $$ Hl; iintro Hl
  iapply (put_a I c 2 (by decide) rfl rfl) $$ Ha; iintro Ha
  iapply (put_l I c 3 (by decide) rfl rfl) $$ Hl; iintro Hl
  iapply (put_a I c 3 (by decide) rfl rfl) $$ Ha; iintro Ha
  iapply (put_l I c 4 (by decide) rfl rfl) $$ Hl; iintro Hl
  iapply (ret_intro (F := F) c)
  iapply Hk
  iframe Ha Hl

theorem part5 {Q : _ → sProp 𝕄} :
    iprop(accAt I c 4 ∗ lAt I c 5)
      ⊢ iprop(((accAt I c 6 ∗ lAt I c 7) -∗ Q (k0_pay28 (qV I c) (kV I c) (vV I c)))
          -∗ WP c (on (k0_part5 (F := F)) (qV I c) (kV I c) (vV I c) (k0_pay21 (qV I c) (kV I c))) Q) := by
  rw [k0_part5_eq_skeleton]
  unfold k0_part5_skel
  simp only [Prog.lift, Prog.bind_op, Prog.bind_ret, Prog.pure_eq_ret]
  iintro ⟨Ha, Hl⟩ Hk
  iapply (put_a I c 4 (by decide) rfl rfl) $$ Ha; iintro Ha
  iapply (put_l I c 5 (by decide) rfl rfl) $$ Hl; iintro Hl
  iapply (put_a I c 5 (by decide) rfl rfl) $$ Ha; iintro Ha
  iapply (put_l I c 6 (by decide) rfl rfl) $$ Hl; iintro Hl
  iapply (ret_intro (F := F) c)
  iapply Hk
  iframe Ha Hl

theorem part6 {Q : _ → sProp 𝕄} (O : CT) {v2 : BitVec 32} :
    iprop(recs I K ∗ ow c (oR c [0, 1, 2, 3, 4, 5, 6, 7] + O) ∗ seqAt (n := 8) (sent I c) (sendRes (F := F) c) 0 ∗ accAt I c 6 ∗ lAt I c 7 ∗ freeA c 0 ∗ freeL c 0)
      ⊢ iprop(((ow c (oR c [1, 2, 3, 4, 5, 6, 7] + O) ∗ seqAt (n := 8) (sent I c) (sendRes (F := F) c) 1 ∗ accAt I c 8 ∗ lAt I c 8 ∗ hA I c 1 ∗ hL I c 1) -∗ Q ⟨⟩)
          -∗ WP c (on (k0_part6 (F := F)) c v2 (qV I c) (kV I c) (vV I c) (k0_pay28 (qV I c) (kV I c) (vV I c))) Q) := by
  rw [k0_part6_eq_skeleton]
  unfold k0_part6_skel
  simp only [Prog.lift, Prog.bind_op, Prog.bind_ret, Prog.pure_eq_ret, wp_bind]
  iintro ⟨#HR, HO, Hs, Ha, Hl, FA, FL⟩ Hk
  iapply (put_a I c 6 (by decide) rfl rfl) $$ Ha; iintro Ha
  iapply (put_l I c 7 (by decide) rfl rfl) $$ Hl; iintro Hl
  iapply (put_a I c 7 (by decide) rfl rfl) $$ Ha; iintro Ha
  iapply (read_acc I c 8 0 (by decide) rfl) $$ Ha; iintro Ha
  iapply (put_aH I c 0 0 1 rfl rfl rfl rfl (roundA I c 0 _)) $$ FA; iintro ⟨HA, HA'⟩
  iapply (read_l I c 8 0 (by decide) rfl) $$ Hl; iintro Hl
  iapply (put_lH I c 0 0 1 rfl rfl rfl rfl (roundL I c 0 _)) $$ FL; iintro ⟨HL, HL'⟩
  iapply (send_at I K c 0 [1, 2, 3, 4, 5, 6, 7] O rfl (names0 c) rfl rfl rfl rfl) $$ [HO Hs HA HL]
  · iframe HR HO Hs HA HL
  iintro ⟨HO, Hs⟩
  iapply (ret_intro (F := F) c)
  iapply Hk
  iframe HO Hs Ha Hl HA' HL'

theorem part7 {Q : _ → sProp 𝕄} (O : CT) {v2 : BitVec 32} :
    iprop(recs I K ∗ ow c (oR c [1, 2, 3, 4, 5, 6, 7] + O) ∗ seqAt (n := 8) (sent I c) (sendRes (F := F) c) 1 ∗ accAt I c 8 ∗ lAt I c 8 ∗ hA I c 1 ∗ hL I c 1)
      ⊢ iprop(((ow c (oR c [2, 3, 4, 5, 6, 7] + O) ∗ seqAt (n := 8) (sent I c) (sendRes (F := F) c) 2 ∗ accAt I c 10 ∗ lAt I c 10) -∗ Q ⟨⟩)
          -∗ WP c (on (k0_part7 (F := F)) c v2 (qV I c) (kV I c) (vV I c)) Q) := by
  rw [k0_part7_eq_skeleton]
  unfold k0_part7_skel
  simp only [Prog.lift, Prog.bind_op, Prog.bind_ret, Prog.pure_eq_ret, wp_bind]
  iintro ⟨#HR, HO, Hs, Ha, Hl, HA', HL'⟩ Hk
  iapply (send_at I K c 1 [2, 3, 4, 5, 6, 7] O rfl (names1 c) rfl rfl rfl rfl) $$ [HO Hs HA' HL']
  · iframe HR HO Hs HA' HL'
  iintro ⟨HO, Hs⟩
  iapply (put_l I c 8 (by decide) rfl rfl) $$ Hl; iintro Hl
  iapply (put_a I c 8 (by decide) rfl rfl) $$ Ha; iintro Ha
  iapply (put_l I c 9 (by decide) rfl rfl) $$ Hl; iintro Hl
  iapply (put_a I c 9 (by decide) rfl rfl) $$ Ha; iintro Ha
  iapply (ret_intro (F := F) c)
  iapply Hk
  iframe HO Hs Ha Hl

theorem part8 {Q : _ → sProp 𝕄} :
    iprop(accAt I c 10 ∗ lAt I c 10)
      ⊢ iprop(((accAt I c 12 ∗ lAt I c 12) -∗ Q (k0_pay47 (qV I c) (kV I c)))
          -∗ WP c (on (k0_part8 (F := F)) (qV I c) (kV I c) (vV I c)) Q) := by
  rw [k0_part8_eq_skeleton]
  unfold k0_part8_skel
  simp only [Prog.lift, Prog.bind_op, Prog.bind_ret, Prog.pure_eq_ret]
  iintro ⟨Ha, Hl⟩ Hk
  iapply (put_l I c 10 (by decide) rfl rfl) $$ Hl; iintro Hl
  iapply (put_a I c 10 (by decide) rfl rfl) $$ Ha; iintro Ha
  iapply (put_l I c 11 (by decide) rfl rfl) $$ Hl; iintro Hl
  iapply (put_a I c 11 (by decide) rfl rfl) $$ Ha; iintro Ha
  iapply (ret_intro (F := F) c)
  iapply Hk
  iframe Ha Hl

theorem part9 {Q : _ → sProp 𝕄} :
    iprop(accAt I c 12 ∗ lAt I c 12)
      ⊢ iprop((∀ v314, (accAt I c 14 ∗ lAt I c 14) -∗ Q ⟨k0_pay54 (qV I c) (kV I c), k0_pay55 (qV I c) (kV I c), v314⟩)
          -∗ WP c (on (k0_part9 (F := F)) (qV I c) (kV I c) (vV I c) (k0_pay47 (qV I c) (kV I c))) Q) := by
  rw [k0_part9_eq_skeleton]
  unfold k0_part9_skel
  simp only [Prog.lift, Prog.bind_op, Prog.bind_ret, Prog.pure_eq_ret]
  iintro ⟨Ha, Hl⟩ Hk
  iapply (put_l I c 12 (by decide) rfl rfl) $$ Hl; iintro Hl
  iapply (put_a I c 12 (by decide) rfl rfl) $$ Ha; iintro Ha
  iapply (put_l I c 13 (by decide) rfl rfl) $$ Hl; iintro Hl
  iapply (put_a I c 13 (by decide) rfl rfl) $$ Ha; iintro Ha
  iapply (load_l I c 14) $$ Hl; iintro %v314 Hl
  iapply (ret_intro (F := F) c)
  iapply Hk
  iframe Ha Hl

theorem part10 {Q : _ → sProp 𝕄} {v314 : Vec F S256x1 .f32} :
    iprop(accAt I c 14 ∗ lAt I c 14 ∗ freeA c 1)
      ⊢ iprop(((accAt I c 16 ∗ lAt I c 16 ∗ hA I c 2 ∗ hA I c 3) -∗ Q (k0_pay62 (grp2 (lF I c) 1)))
          -∗ WP c (on (k0_part10 (F := F)) (qV I c) (kV I c) (vV I c) (k0_pay54 (qV I c) (kV I c)) (k0_pay55 (qV I c) (kV I c)) v314) Q) := by
  rw [k0_part10_eq_skeleton]
  unfold k0_part10_skel
  simp only [Prog.lift, Prog.bind_op, Prog.bind_ret, Prog.pure_eq_ret]
  iintro ⟨Ha, Hl, FA⟩ Hk
  iapply (store_l I c 14 (by decide) rfl rfl) $$ Hl; iintro Hl
  iapply (put_a I c 14 (by decide) rfl rfl) $$ Ha; iintro Ha
  iapply (put_l I c 15 (by decide) rfl rfl) $$ Hl; iintro Hl
  iapply (put_a I c 15 (by decide) rfl rfl) $$ Ha; iintro Ha
  iapply (read_acc I c 16 1 (by decide) rfl) $$ Ha; iintro Ha
  iapply (put_aH I c 1 2 3 rfl rfl rfl rfl (roundA I c 1 _)) $$ FA; iintro ⟨HA, HA'⟩
  iapply (read_l I c 16 1 (by decide) rfl) $$ Hl; iintro Hl
  iapply (ret_intro (F := F) c)
  iapply Hk
  iframe Ha Hl HA HA'

theorem part11 {Q : _ → sProp 𝕄} (O : CT) {v2 : BitVec 32} :
    iprop(recs I K ∗ ow c (oR c [2, 3, 4, 5, 6, 7] + O) ∗ seqAt (n := 8) (sent I c) (sendRes (F := F) c) 2 ∗ accAt I c 16 ∗ lAt I c 16 ∗ freeL c 1 ∗ hA I c 2 ∗ hA I c 3)
      ⊢ iprop(((ow c (oR c [4, 5, 6, 7] + O) ∗ seqAt (n := 8) (sent I c) (sendRes (F := F) c) 4 ∗ accAt I c 17 ∗ lAt I c 18) -∗ Q ⟨k0_pay69 (qV I c) (kV I c), k0_pay70 (vV I c)⟩)
          -∗ WP c (on (k0_part11 (F := F)) c v2 (qV I c) (kV I c) (vV I c) (k0_pay62 (grp2 (lF I c) 1))) Q) := by
  rw [k0_part11_eq_skeleton]
  unfold k0_part11_skel
  simp only [Prog.lift, Prog.bind_op, Prog.bind_ret, Prog.pure_eq_ret, wp_bind]
  iintro ⟨#HR, HO, Hs, Ha, Hl, FL, HA, HA'⟩ Hk
  iapply (put_lH I c 1 2 3 rfl rfl rfl rfl (roundL I c 1 _)) $$ FL; iintro ⟨HL, HL'⟩
  iapply (send_at I K c 2 [3, 4, 5, 6, 7] O rfl (names2 c) rfl rfl rfl rfl) $$ [HO Hs HA HL]
  · iframe HR HO Hs HA HL
  iintro ⟨HO, Hs⟩
  iapply (send_at I K c 3 [4, 5, 6, 7] O rfl (names3 c) rfl rfl rfl rfl) $$ [HO Hs HA' HL']
  · iframe HR HO Hs HA' HL'
  iintro ⟨HO, Hs⟩
  iapply (put_l I c 16 (by decide) rfl rfl) $$ Hl; iintro Hl
  iapply (put_a I c 16 (by decide) rfl rfl) $$ Ha; iintro Ha
  iapply (put_l I c 17 (by decide) rfl rfl) $$ Hl; iintro Hl
  iapply (ret_intro (F := F) c)
  iapply Hk
  iframe HO Hs Ha Hl

end Cert.KernelIdeal.Run
-- ==== Proof.KernelIdealRun.Parts2.lean ====
/- The kernel's body from the middle of the third row group to the first wait: what each part of the program does to the device's state. -/
module

public import proofs.«01_k».proof.Proof.KernelIdealRun.Parts1

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Key → ℕ) (c : Dev nD)

theorem part12 {Q : _ → sProp 𝕄} :
    iprop(accAt I c 17 ∗ lAt I c 18)
      ⊢ iprop(((accAt I c 19 ∗ lAt I c 20) -∗ Q (k0_pay77 (qV I c) (kV I c) (vV I c)))
          -∗ WP c (on (k0_part12 (F := F)) (qV I c) (kV I c) (vV I c) (k0_pay69 (qV I c) (kV I c)) (k0_pay70 (vV I c))) Q) := by
  rw [k0_part12_eq_skeleton]
  unfold k0_part12_skel
  simp only [Prog.lift, Prog.bind_op, Prog.bind_ret, Prog.pure_eq_ret]
  iintro ⟨Ha, Hl⟩ Hk
  iapply (put_a I c 17 (by decide) rfl rfl) $$ Ha; iintro Ha
  iapply (put_l I c 18 (by decide) rfl rfl) $$ Hl; iintro Hl
  iapply (put_a I c 18 (by decide) rfl rfl) $$ Ha; iintro Ha
  iapply (put_l I c 19 (by decide) rfl rfl) $$ Hl; iintro Hl
  iapply (ret_intro (F := F) c)
  iapply Hk
  iframe Ha Hl

theorem part13 {Q : _ → sProp 𝕄} :
    iprop(accAt I c 19 ∗ lAt I c 20)
      ⊢ iprop(((accAt I c 22 ∗ lAt I c 22) -∗ Q (k0_pay85 (qV I c)))
          -∗ WP c (on (k0_part13 (F := F)) (qV I c) (kV I c) (vV I c) (k0_pay77 (qV I c) (kV I c) (vV I c))) Q) := by
  rw [k0_part13_eq_skeleton]
  unfold k0_part13_skel
  simp only [Prog.lift, Prog.bind_op, Prog.bind_ret, Prog.pure_eq_ret]
  iintro ⟨Ha, Hl⟩ Hk
  iapply (put_a I c 19 (by decide) rfl rfl) $$ Ha; iintro Ha
  iapply (put_l I c 20 (by decide) rfl rfl) $$ Hl; iintro Hl
  iapply (put_a I c 20 (by decide) rfl rfl) $$ Ha; iintro Ha
  iapply (put_l I c 21 (by decide) rfl rfl) $$ Hl; iintro Hl
  iapply (put_a I c 21 (by decide) rfl rfl) $$ Ha; iintro Ha
  iapply (ret_intro (F := F) c)
  iapply Hk
  iframe Ha Hl

theorem part14 {Q : _ → sProp 𝕄} :
    iprop(accAt I c 22 ∗ lAt I c 22)
      ⊢ iprop(((accAt I c 24 ∗ lAt I c 24) -∗ Q (k0_pay92 (grp3 (aF I c) 2)))
          -∗ WP c (on (k0_part14 (F := F)) (qV I c) (kV I c) (vV I c) (k0_pay85 (qV I c))) Q) := by
  rw [k0_part14_eq_skeleton]
  unfold k0_part14_skel
  simp only [Prog.lift, Prog.bind_op, Prog.bind_ret, Prog.pure_eq_ret]
  iintro ⟨Ha, Hl⟩ Hk
  iapply (put_l I c 22 (by decide) rfl rfl) $$ Hl; iintro Hl
  iapply (put_a I c 22 (by decide) rfl rfl) $$ Ha; iintro Ha
  iapply (put_l I c 23 (by decide) rfl rfl) $$ Hl; iintro Hl
  iapply (put_a I c 23 (by decide) rfl rfl) $$ Ha; iintro Ha
  iapply (read_acc I c 24 2 (by decide) rfl) $$ Ha; iintro Ha
  iapply (ret_intro (F := F) c)
  iapply Hk
  iframe Ha Hl

theorem part15 {Q : _ → sProp 𝕄} (O : CT) {v2 : BitVec 32} :
    iprop(recs I K ∗ ow c (oR c [4, 5, 6, 7] + O) ∗ seqAt (n := 8) (sent I c) (sendRes (F := F) c) 4 ∗ accAt I c 24 ∗ lAt I c 24 ∗ freeA c 2 ∗ freeL c 2)
      ⊢ iprop(((ow c (oR c [6, 7] + O) ∗ seqAt (n := 8) (sent I c) (sendRes (F := F) c) 6 ∗ accAt I c 25 ∗ lAt I c 25) -∗ Q (k0_pay98 (qV I c) (kV I c)))
          -∗ WP c (on (k0_part15 (F := F)) c v2 (qV I c) (kV I c) (vV I c) (k0_pay92 (grp3 (aF I c) 2))) Q) := by
  rw [k0_part15_eq_skeleton]
  unfold k0_part15_skel
  simp only [Prog.lift, Prog.bind_op, Prog.bind_ret, Prog.pure_eq_ret, wp_bind]
  iintro ⟨#HR, HO, Hs, Ha, Hl, FA, FL⟩ Hk
  iapply (put_aH I c 2 4 5 rfl rfl rfl rfl (roundA I c 2 _)) $$ FA; iintro ⟨HA, HA'⟩
  iapply (read_l I c 24 2 (by decide) rfl) $$ Hl; iintro Hl
  iapply (put_lH I c 2 4 5 rfl rfl rfl rfl (roundL I c 2 _)) $$ FL; iintro ⟨HL, HL'⟩
  iapply (send_at I K c 4 [5, 6, 7] O rfl (names4 c) rfl rfl rfl rfl) $$ [HO Hs HA HL]
  · iframe HR HO Hs HA HL
  iintro ⟨HO, Hs⟩
  iapply (send_at I K c 5 [6, 7] O rfl (names5 c) rfl rfl rfl rfl) $$ [HO Hs HA' HL']
  · iframe HR HO Hs HA' HL'
  iintro ⟨HO, Hs⟩
  iapply (put_l I c 24 (by decide) rfl rfl) $$ Hl; iintro Hl
  iapply (put_a I c 24 (by decide) rfl rfl) $$ Ha; iintro Ha
  iapply (ret_intro (F := F) c)
  iapply Hk
  iframe HO Hs Ha Hl

theorem part16 {Q : _ → sProp 𝕄} :
    iprop(accAt I c 25 ∗ lAt I c 25)
      ⊢ iprop(((accAt I c 27 ∗ lAt I c 27) -∗ Q ⟨k0_pay104 (qV I c) (kV I c), k0_pay105 (qV I c) (kV I c)⟩)
          -∗ WP c (on (k0_part16 (F := F)) (qV I c) (kV I c) (vV I c) (k0_pay98 (qV I c) (kV I c))) Q) := by
  rw [k0_part16_eq_skeleton]
  unfold k0_part16_skel
  simp only [Prog.lift, Prog.bind_op, Prog.bind_ret, Prog.pure_eq_ret]
  iintro ⟨Ha, Hl⟩ Hk
  iapply (put_l I c 25 (by decide) rfl rfl) $$ Hl; iintro Hl
  iapply (put_a I c 25 (by decide) rfl rfl) $$ Ha; iintro Ha
  iapply (put_l I c 26 (by decide) rfl rfl) $$ Hl; iintro Hl
  iapply (put_a I c 26 (by decide) rfl rfl) $$ Ha; iintro Ha
  iapply (load_l I c 27) $$ Hl; iintro %v567 Hl
  iapply (ret_intro (F := F) c)
  iapply Hk
  iframe Ha Hl

theorem part17 {Q : _ → sProp 𝕄} :
    iprop(accAt I c 27 ∗ lAt I c 27)
      ⊢ iprop(((accAt I c 29 ∗ lAt I c 30) -∗ Q ⟨k0_pay113 (qV I c) (kV I c), k0_pay114 (vV I c), (constant S256x128 .f32 0x00000000#32)⟩)
          -∗ WP c (on (k0_part17 (F := F)) (qV I c) (kV I c) (vV I c) (k0_pay104 (qV I c) (kV I c)) (k0_pay105 (qV I c) (kV I c))) Q) := by
  rw [k0_part17_eq_skeleton]
  unfold k0_part17_skel
  simp only [Prog.lift, Prog.bind_op, Prog.bind_ret, Prog.pure_eq_ret]
  iintro ⟨Ha, Hl⟩ Hk
  iapply (store_l I c 27 (by decide) rfl rfl) $$ Hl; iintro Hl
  iapply (put_a I c 27 (by decide) rfl rfl) $$ Ha; iintro Ha
  iapply (put_l I c 28 (by decide) rfl rfl) $$ Hl; iintro Hl
  iapply (put_a I c 28 (by decide) rfl rfl) $$ Ha; iintro Ha
  iapply (put_l I c 29 (by decide) rfl rfl) $$ Hl; iintro Hl
  iapply (ret_intro (F := F) c)
  iapply Hk
  iframe Ha Hl

theorem part18 {Q : _ → sProp 𝕄} :
    iprop(accAt I c 29 ∗ lAt I c 30)
      ⊢ iprop(((accAt I c 31 ∗ lAt I c 32) -∗ Q (k0_pay121 (qV I c) (kV I c) (vV I c)))
          -∗ WP c (on (k0_part18 (F := F)) (qV I c) (kV I c) (vV I c) (k0_pay113 (qV I c) (kV I c)) (k0_pay114 (vV I c)) (constant S256x128 .f32 0x00000000#32)) Q) := by
  rw [k0_part18_eq_skeleton]
  unfold k0_part18_skel
  simp only [Prog.lift, Prog.bind_op, Prog.bind_ret, Prog.pure_eq_ret]
  iintro ⟨Ha, Hl⟩ Hk
  iapply (put_a I c 29 (by decide) rfl rfl) $$ Ha; iintro Ha
  iapply (put_l I c 30 (by decide) rfl rfl) $$ Hl; iintro Hl
  iapply (put_a I c 30 (by decide) rfl rfl) $$ Ha; iintro Ha
  iapply (put_l I c 31 (by decide) rfl rfl) $$ Hl; iintro Hl
  iapply (load_acc I c 31) $$ Ha; iintro %v642 Ha
  iapply (ret_intro (F := F) c)
  iapply Hk
  iframe Ha Hl

theorem part19 {Q : _ → sProp 𝕄} (O : CT) (hO : Above 2 O) {v2 : BitVec 32} :
    iprop(recs I K ∗ ow c (oR c [6, 7] + O) ∗ seqAt (n := 8) (sent I c) (sendRes (F := F) c) 6 ∗ accAt I c 31 ∗ lAt I c 32 ∗ freeA c 3 ∗ freeL c 3 ∗ seqAt (wP I c 1) (wQ (F := F) c 1) 0)
      ⊢ iprop(((ow c O ∗ seqAt (n := 8) (sent I c) (sendRes (F := F) c) 8 ∗ accAt I c 32 ∗ lAt I c 32 ∗ seqAt (wP I c 1) (wQ (F := F) c 1) 1) -∗ Q ⟨⟩)
          -∗ WP c (on (k0_part19 (F := F)) c v2 (k0_pay121 (qV I c) (kV I c) (vV I c))) Q) := by
  rw [k0_part19_eq_skeleton]
  unfold k0_part19_skel
  simp only [Prog.lift, Prog.bind_op, Prog.bind_ret, Prog.pure_eq_ret, wp_bind]
  iintro ⟨#HR, HO, Hs, Ha, Hl, FA, FL, H1⟩ Hk
  iapply (store_acc I c 31 (by decide) rfl rfl) $$ Ha; iintro Ha
  iapply (read_acc I c 32 3 (by decide) rfl) $$ Ha; iintro Ha
  iapply (put_aH I c 3 6 7 rfl rfl rfl rfl (roundA I c 3 _)) $$ FA; iintro ⟨HA, HA'⟩
  iapply (read_l I c 32 3 (by decide) rfl) $$ Hl; iintro Hl
  iapply (put_lH I c 3 6 7 rfl rfl rfl rfl (roundL I c 3 _)) $$ FL; iintro ⟨HL, HL'⟩
  iapply (send_at I K c 6 [7] O rfl (names6 c) rfl rfl rfl rfl) $$ [HO Hs HA HL]
  · iframe HR HO Hs HA HL
  iintro ⟨HO, Hs⟩
  iapply (send_at I K c 7 [] O rfl (names7 c) rfl rfl rfl rfl) $$ [HO Hs HA' HL']
  · iframe HR HO Hs HA' HL'
  iintro ⟨HO, Hs⟩
  rw [show oR c [] + O = O from zero_add O]
  iapply (recv_A I K c 0 O hO rfl rfl rfl) $$ [HO H1]
  · iframe HR HO H1
  iintro ⟨HO, H1⟩
  iapply (ret_intro (F := F) c)
  iapply Hk
  iframe HO Hs Ha Hl H1

end Cert.KernelIdeal.Run
-- ==== Proof.KernelIdealRun.Reads.lean ====
/- Reading the landed blocks and writing the result. -/
module

public import proofs.«01_k».proof.Proof.KernelIdealRun.Waits

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Key → ℕ) (c : Dev nD)

omit [FloatOps F] in
theorem seq_get {n : ℕ} (P Q : Fin n → sProp 𝕄) (k : ℕ) (j : Fin n) (h : j.val < k) : seqAt P Q k ⊢ iprop(P j ∗ (P j -∗ seqAt P Q k)) := by
  unfold seqAt
  rw [pick (Finset.mem_univ j), if_pos h]
  iintro ⟨H1, H2⟩
  isplitl [H1]; · iexact H1
  iintro H1
  isplitl [H1] <;> iassumption

/-- Reading slot `j` of the products once it has landed. -/
theorem get_A (j : Fin 7) (n : ℕ) (hj : j.val < n) {off : Fin 4 → ℕ} {inb : ∀ a, off a + S1x128x8x128.size a ≤ S7x128x8x128.size a} (ho : off = ![j.val, 0, 0, 0])
    {hl : rsA.view.LoadsAt (Rect.unit (s := S7x128x8x128) off S1x128x8x128.size inb).toLoadRect}
    {α : Type} {k : (S1x128x8x128.Idx → Elt F .bf16) → Pr F α} {Q : α → sProp 𝕄} :
    seqAt (wP I c 1) (wQ (F := F) c 1) n ⊢ iprop((seqAt (wP I c 1) (wQ (F := F) c 1) n -∗ WP c (k (aU I c j)) Q)
      -∗ WP c (Prog.op (.load rsA (Rect.unit (s := S7x128x8x128) off S1x128x8x128.size inb).toLoadRect hl) k) Q) := by
  iintro H Hk
  ihave H := (seq_get (wP I c 1) (wQ (F := F) c 1) n j hj) $$ H
  unfold wP
  icases H with ⟨⟨Hz, Hp⟩, H⟩
  ihave Hp := (show dPay I 1 c j ⊢ ownsTc c (slotA j) fullShare (aS I (prv c j) c) from BIBase.Entails.rfl) $$ Hp
  iapply (load_slotA c j (aS I (prv c j) c) ho) $$ Hp
  iintro Hp
  iapply Hk
  iapply H
  isplitl [Hz]; · iexact Hz
  iapply (show ownsTc c (slotA j) fullShare (aS I (prv c j) c) ⊢ dPay I 1 c j from BIBase.Entails.rfl) $$ Hp

/-- Reading slot `j` of the row sums once it has landed. -/
theorem get_L (j : Fin 7) (n : ℕ) (hj : j.val < n) {off : Fin 3 → ℕ} {inb : ∀ a, off a + S1x128x8.size a ≤ S7x128x8.size a} (ho : off = ![j.val, 0, 0])
    {hl : rsL.view.LoadsAt (Rect.unit (s := S7x128x8) off S1x128x8.size inb).toLoadRect}
    {α : Type} {k : (S1x128x8.Idx → Elt F .bf16) → Pr F α} {Q : α → sProp 𝕄} :
    seqAt (wP I c 3) (wQ (F := F) c 3) n ⊢ iprop((seqAt (wP I c 3) (wQ (F := F) c 3) n -∗ WP c (k (lU I c j)) Q)
      -∗ WP c (Prog.op (.load rsL (Rect.unit (s := S7x128x8) off S1x128x8.size inb).toLoadRect hl) k) Q) := by
  iintro H Hk
  ihave H := (seq_get (wP I c 3) (wQ (F := F) c 3) n j hj) $$ H
  unfold wP
  icases H with ⟨⟨Hz, Hp⟩, H⟩
  ihave Hp := (show dPay I 3 c j ⊢ ownsTc c (slotL j) fullShare (lS I (prv c j) c) from BIBase.Entails.rfl) $$ Hp
  iapply (load_slotL c j (lS I (prv c j) c) ho) $$ Hp
  iintro Hp
  iapply Hk
  iapply H
  isplitl [Hz]; · iexact Hz
  iapply (show ownsTc c (slotL j) fullShare (lS I (prv c j) c) ⊢ dPay I 3 c j from BIBase.Entails.rfl) $$ Hp

/-- Reading slot `j` of the projected rows once it has landed. -/
theorem get_G (j : Fin 7) (n : ℕ) (hj : j.val < n) {off : Fin 3 → ℕ} {inb : ∀ a, off a + S1x128x1024.size a ≤ S7x128x1024.size a} (ho : off = ![j.val, 0, 0])
    {hl : agR.view.LoadsAt (Rect.unit (s := S7x128x1024) off S1x128x1024.size inb).toLoadRect}
    {α : Type} {k : (S1x128x1024.Idx → Elt F .bf16) → Pr F α} {Q : α → sProp 𝕄} :
    seqAt (wP I c 5) (wQ (F := F) c 5) n ⊢ iprop((seqAt (wP I c 5) (wQ (F := F) c 5) n -∗ WP c (k (shapeCast S1x128x1024 (gH I (nxt c j)) castG)) Q)
      -∗ WP c (Prog.op (.load agR (Rect.unit (s := S7x128x1024) off S1x128x1024.size inb).toLoadRect hl) k) Q) := by
  iintro H Hk
  ihave H := (seq_get (wP I c 5) (wQ (F := F) c 5) n j hj) $$ H
  unfold wP
  icases H with ⟨⟨Hz, Hp⟩, H⟩
  ihave Hp := (show dPay I 5 c j ⊢ ownsTc c (slotG j) fullShare (gH I (nxt c j)) from BIBase.Entails.rfl) $$ Hp
  iapply (load_slotG c j (gH I (nxt c j)) ho) $$ Hp
  iintro Hp
  iapply Hk
  iapply H
  isplitl [Hz]; · iexact Hz
  iapply (show ownsTc c (slotG j) fullShare (gH I (nxt c j)) ⊢ dPay I 5 c j from BIBase.Entails.rfl) $$ Hp

/-! ## Writing the result -/

theorem put_out (n : ℕ) (p : Dev nD) (h : Fin 2) (hp : p.val = (c.val + n / 2) % 8) (hh : h.val = n % 2) (hn : n < 16)
    {off off' : Fin 3 → ℕ} {inb : ∀ a, off a + S1x64x1024.size a ≤ S1x1024x1024.size a} {inb' : ∀ a, off' a + S1x64x1024.size a ≤ S1x1024x1024.size a} {w : Vec F S1x64x1024 .f32}
    (ho : off = ![0, 512 * (p.val % 2) + 64 * (p.val / 2) + 256 * h.val, 0]) (hw : w = half (gO I c p) h)
    {hl : outM.view.LoadsAt (Rect.unit (s := S1x1024x1024) off' S1x64x1024.size inb').toLoadRect}
    {hx : (outM.access (Rect.unit (s := S1x1024x1024) off S1x64x1024.size inb)).Stores Finset.univ} {hm : (Finset.univ : Finset S1x64x1024.Idx) = Finset.univ ∨ ∀ a, (Rect.unit (s := S1x1024x1024) off S1x64x1024.size inb).stride a = 1}
    {α : Type} {k : PUnit.{1} → Pr F α} {Q : α → sProp 𝕄} :
    outAt I c n ⊢ iprop((outAt I c (n + 1) -∗ WP c (k ⟨⟩) Q) -∗ WP c (Prog.op (.load outM (Rect.unit (s := S1x1024x1024) off' S1x64x1024.size inb').toLoadRect hl) fun _ =>
      Prog.op (.store outM (Rect.unit (s := S1x1024x1024) off S1x64x1024.size inb) w Finset.univ hx hm) k) Q) := by
  iintro H Hk
  iapply (load_out I c n) $$ H
  iintro %v H
  iapply (store_out I c n p h hp hh hn ho hw) $$ H
  iexact Hk

theorem gO_self : gO I c c = gF I c := if_pos rfl
theorem gO_nxt (j : Fin 7) : gO I c (nxt c j) = extf .f32 (gH I (nxt c j)) bitsLt_bf16_f32 := if_neg (nxt_ne c j)

theorem own0 : shapeCast S1x64x1024 (extractStridedSlice S64x1024 ![0, 0] (k0_pay128 (ctxV I c) (I.wo c)) slices_S128x1024_o0_0_S64x1024) shapeCasts_S64x1024_S1x64x1024 = half (gO I c c) 0 := by
  rw [half0, gO_self]; rfl
theorem own1 : shapeCast S1x64x1024 (extractStridedSlice S64x1024 ![64, 0] (k0_pay128 (ctxV I c) (I.wo c)) slices_S128x1024_o64_0_S64x1024) shapeCasts_S64x1024_S1x64x1024 = half (gO I c c) 1 := by
  rw [half1, gO_self]; rfl
theorem peer0 (j : Fin 7) (h : S1x128x1024.ShapeCasts S128x1024) :
    shapeCast S1x64x1024 (extractStridedSlice S64x1024 ![0, 0] (extf .f32 (shapeCast S128x1024 (shapeCast S1x128x1024 (gH I (nxt c j)) castG) h) bitsLt_bf16_f32) slices_S128x1024_o0_0_S64x1024) shapeCasts_S64x1024_S1x64x1024
      = half (gO I c (nxt c j)) 0 := by
  rw [half0, shapeCast_shapeCast, gO_nxt]
theorem peer1 (j : Fin 7) (h : S1x128x1024.ShapeCasts S128x1024) :
    shapeCast S1x64x1024 (extractStridedSlice S64x1024 ![64, 0] (extf .f32 (shapeCast S128x1024 (shapeCast S1x128x1024 (gH I (nxt c j)) castG) h) bitsLt_bf16_f32) slices_S128x1024_o64_0_S64x1024) shapeCasts_S64x1024_S1x64x1024
      = half (gO I c (nxt c j)) 1 := by
  rw [half1, shapeCast_shapeCast, gO_nxt]

theorem off27 : ∀ c : Dev nD, k0_off27 c = ![0, 512 * (c.val % 2) + 64 * (c.val / 2) + 256 * (0 : Fin 2).val, 0] := by decide +kernel
theorem off28 : ∀ c : Dev nD, k0_off28 c = ![0, 512 * (c.val % 2) + 64 * (c.val / 2) + 256 * (1 : Fin 2).val, 0] := by decide +kernel
theorem off29 : ∀ (c : Dev nD) (j : Fin 7), k0_off29 c (BitVec.ofNat 32 j.val) = ![0, 512 * ((nxt c j).val % 2) + 64 * ((nxt c j).val / 2) + 256 * (0 : Fin 2).val, 0] := by decide +kernel
theorem off30 : ∀ (c : Dev nD) (j : Fin 7), k0_off30 c (BitVec.ofNat 32 j.val) = ![0, 512 * ((nxt c j).val % 2) + 64 * ((nxt c j).val / 2) + 256 * (1 : Fin 2).val, 0] := by decide +kernel
theorem nxt_at : ∀ (c : Dev nD) (j : Fin 7), (nxt c j).val = (c.val + (2 + 2 * j.val) / 2) % 8 := by decide
theorem nxt_at' : ∀ (c : Dev nD) (j : Fin 7), (nxt c j).val = (c.val + (3 + 2 * j.val) / 2) % 8 := by decide

/-- Waiting for the projected rows of `nxt c j` and writing their two halves into the result. -/
theorem block_G (j : Fin 7) (O : CT) (hO : Above 3 O) {o : Fin 1 → ℕ} {i : ∀ a, o a + S1.size a ≤ S7.size a} (ho : o = ![j.val])
    {src : Memref sig .tc .vmem S128x1024 .bf16} {oG : Fin 3 → ℕ} {iG iG' : ∀ a, oG a + S1x128x1024.size a ≤ S7x128x1024.size a} (hG : oG = ![j.val, 0, 0])
    {w₁ : src.view.WordExact} {w₂ : (vG oG iG).view.WordExact} {hl : agR.view.LoadsAt (Rect.unit (s := S7x128x1024) oG S1x128x1024.size iG').toLoadRect}
    {a₀ : BitVec 32} (ha : a₀ = BitVec.ofNat 32 j.val)
    {b b' : ∀ a, k0_off29 c a₀ a + S1x64x1024.size a ≤ S1x1024x1024.size a} {d d' : ∀ a, k0_off30 c a₀ a + S1x64x1024.size a ≤ S1x1024x1024.size a}
    {f₀ f₁ : Vec F S1x128x1024 .bf16 → Vec F S1x64x1024 .f32}
    (h₀ : f₀ (shapeCast S1x128x1024 (gH I (nxt c j)) castG) = half (gO I c (nxt c j)) 0) (h₁ : f₁ (shapeCast S1x128x1024 (gH I (nxt c j)) castG) = half (gO I c (nxt c j)) 1)
    {hl₀ : outM.view.LoadsAt (Rect.unit (s := S1x1024x1024) (k0_off29 c a₀) S1x64x1024.size b').toLoadRect} {hl₁ : outM.view.LoadsAt (Rect.unit (s := S1x1024x1024) (k0_off30 c a₀) S1x64x1024.size d').toLoadRect}
    {hx₀ : (outM.access (Rect.unit (s := S1x1024x1024) (k0_off29 c a₀) S1x64x1024.size b)).Stores Finset.univ} {hm₀ : (Finset.univ : Finset S1x64x1024.Idx) = Finset.univ ∨ ∀ a, (Rect.unit (s := S1x1024x1024) (k0_off29 c a₀) S1x64x1024.size b).stride a = 1}
    {hx₁ : (outM.access (Rect.unit (s := S1x1024x1024) (k0_off30 c a₀) S1x64x1024.size d)).Stores Finset.univ} {hm₁ : (Finset.univ : Finset S1x64x1024.Idx) = Finset.univ ∨ ∀ a, (Rect.unit (s := S1x1024x1024) (k0_off30 c a₀) S1x64x1024.size d).stride a = 1}
    {α : Type} {k : Pr F α} {Q : α → sProp 𝕄} :
    iprop(recs I K ∗ ow c O ∗ seqAt (wP I c 5) (wQ (F := F) c 5) j.val ∗ outAt I c (2 + 2 * j.val))
      ⊢ iprop(((ow c O ∗ seqAt (wP I c 5) (wQ (F := F) c 5) (j.val + 1) ∗ outAt I c (2 + 2 * (j.val + 1))) -∗ WP c k Q)
        -∗ WP c (Prog.op (.waitDma2 (s5 o i) src (vG oG iG) w₁ w₂) fun _ =>
            Prog.op (.load agR (Rect.unit (s := S7x128x1024) oG S1x128x1024.size iG').toLoadRect hl) fun v =>
            Prog.op (.load outM (Rect.unit (s := S1x1024x1024) (k0_off29 c a₀) S1x64x1024.size b').toLoadRect hl₀) fun _ =>
            Prog.op (.store outM (Rect.unit (s := S1x1024x1024) (k0_off29 c a₀) S1x64x1024.size b) (f₀ v) Finset.univ hx₀ hm₀) fun _ =>
            Prog.op (.load outM (Rect.unit (s := S1x1024x1024) (k0_off30 c a₀) S1x64x1024.size d').toLoadRect hl₁) fun _ =>
            Prog.op (.store outM (Rect.unit (s := S1x1024x1024) (k0_off30 c a₀) S1x64x1024.size d) (f₁ v) Finset.univ hx₁ hm₁) fun _ => k) Q) := by
  have hlt : j.val < j.val + 1 := Nat.lt_succ_self _
  have e0 : (0 : Fin 2).val = (2 + 2 * j.val) % 2 := by show 0 = _; omega
  have e1 : (1 : Fin 2).val = (2 + 2 * j.val + 1) % 2 := by show 1 = _; omega
  have n0 : 2 + 2 * j.val < 16 := by omega
  have n1 : 2 + 2 * j.val + 1 < 16 := by omega
  have p1 : (nxt c j).val = (c.val + (2 + 2 * j.val + 1) / 2) % 8 := by rw [show 2 + 2 * j.val + 1 = 3 + 2 * j.val by omega]; exact nxt_at' c j
  have q0 : k0_off29 c a₀ = ![0, 512 * ((nxt c j).val % 2) + 64 * ((nxt c j).val / 2) + 256 * (0 : Fin 2).val, 0] := by rw [ha]; exact off29 c j
  have q1 : k0_off30 c a₀ = ![0, 512 * ((nxt c j).val % 2) + 64 * ((nxt c j).val / 2) + 256 * (1 : Fin 2).val, 0] := by rw [ha]; exact off30 c j
  iintro ⟨#HR, HO, Hs, Ho⟩ Hk
  iapply (recv_G I K c j O hO rfl ho hG) $$ [HO Hs]
  · iframe HR HO Hs
  iintro ⟨HO, Hs⟩
  iapply (get_G I c j (j.val + 1) hlt hG) $$ Hs; iintro Hs
  iapply (put_out I c (2 + 2 * j.val) (nxt c j) 0 (nxt_at c j) e0 n0 q0 h₀) $$ Ho; iintro Ho
  iapply (put_out I c (2 + 2 * j.val + 1) (nxt c j) 1 p1 e1 n1 q1 h₁) $$ Ho; iintro Ho
  iapply Hk
  rw [show 2 + 2 * (j.val + 1) = 2 + 2 * j.val + 1 + 1 by omega]
  iframe HO Hs Ho

/-- The projected rows' buffer, with any contents. -/
def anyS : sProp 𝕄 := iprop(∃ f : Buf (Elt F) ((c : Thread nD τ).loc cc0_scratch6), ((c : Thread nD τ).loc cc0_scratch6 ↦{fullShare} f))

/-- Storing the projected rows. -/
theorem put_g {inb inb' : ∀ a, (![0, 0] : Fin 2 → ℕ) a + S128x1024.size a ≤ S128x1024.size a} {w : Vec F S128x1024 .bf16}
    {hl : agS.view.LoadsAt (Rect.unit (s := S128x1024) ![0, 0] S128x1024.size inb').toLoadRect}
    {hx : (agS.access (Rect.unit (s := S128x1024) ![0, 0] S128x1024.size inb)).Stores Finset.univ} {hm : (Finset.univ : Finset S128x1024.Idx) = Finset.univ ∨ ∀ a, (Rect.unit (s := S128x1024) ![0, 0] S128x1024.size inb).stride a = 1}
    {α : Type} {k : PUnit.{1} → Pr F α} {Q : α → sProp 𝕄} :
    anyS (F := F) c ⊢ iprop((((c : Thread nD τ).loc cc0_scratch6 ↦{fullShare} w) -∗ WP c (k ⟨⟩) Q)
      -∗ WP c (Prog.op (.load agS (Rect.unit (s := S128x1024) ![0, 0] S128x1024.size inb').toLoadRect hl) fun _ =>
        Prog.op (.store agS (Rect.unit (s := S128x1024) ![0, 0] S128x1024.size inb) w Finset.univ hx hm) k) Q) := by
  have hv : ∀ f, (agS.access (Rect.unit (s := S128x1024) ![0, 0] S128x1024.size inb)).write (Elt F) f w Finset.univ = w :=
    fun f => Memref.write_access_unit_zero_univ (Elt F) cc0_scratch6 (funext fun a => by match a with | 0 => rfl | 1 => rfl) inb f w
  unfold anyS
  iintro ⟨%f, H⟩ Hk
  iapply (wp_load 𝒱₀ (c : Thread nD τ) none Set.univ (m := agS) (Finset.subset_univ _)) $$ H
  iintro H
  iapply (wp_store 𝒱₀ (c : Thread nD τ) none Set.univ (m := agS) (r := Rect.unit (s := S128x1024) ![0, 0] S128x1024.size inb) (f := f) (Finset.subset_univ _)) $$ H
  rw [hv]
  iexact Hk

end Cert.KernelIdeal.Run
-- ==== Proof.KernelIdealRun.Parts3.lean ====
/- The second half of the body: receiving the partial results and combining them. -/
module

public import proofs.«01_k».proof.Proof.KernelIdealRun.Reads

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Key → ℕ) (c : Dev nD)

theorem part20 {Q : _ → sProp 𝕄} (O : CT) (hO : Above 2 O) {v2 : BitVec 32} :
    iprop(recs I K ∗ ow c O ∗ seqAt (wP I c 1) (wQ (F := F) c 1) 1 ∗ seqAt (wP I c 3) (wQ (F := F) c 3) 0)
      ⊢ iprop(((ow c O ∗ seqAt (wP I c 1) (wQ (F := F) c 1) 2 ∗ seqAt (wP I c 3) (wQ (F := F) c 3) 2) -∗ Q ⟨⟩)
          -∗ WP c (on (k0_part20 (F := F)) v2) Q) := by
  rw [k0_part20_eq_skeleton]
  unfold k0_part20_skel
  simp only [Prog.lift, Prog.bind_op, Prog.bind_ret, Prog.pure_eq_ret]
  iintro ⟨#HR, HO, H1, H3⟩ Hk
  iapply (recv_L I K c 0 O hO rfl rfl rfl) $$ [HO H3]
  · iframe HR HO H3
  iintro ⟨HO, H3⟩
  iapply (recv_A I K c 1 O hO rfl rfl rfl) $$ [HO H1]
  · iframe HR HO H1
  iintro ⟨HO, H1⟩
  iapply (recv_L I K c 1 O hO rfl rfl rfl) $$ [HO H3]
  · iframe HR HO H3
  iintro ⟨HO, H3⟩
  iapply (ret_intro (F := F) c)
  iapply Hk
  iframe HO H1 H3

theorem part21 {Q : _ → sProp 𝕄} (O : CT) (hO : Above 2 O) {v2 : BitVec 32} :
    iprop(recs I K ∗ ow c O ∗ seqAt (wP I c 1) (wQ (F := F) c 1) 2 ∗ seqAt (wP I c 3) (wQ (F := F) c 3) 2)
      ⊢ iprop(((ow c O ∗ seqAt (wP I c 1) (wQ (F := F) c 1) 4 ∗ seqAt (wP I c 3) (wQ (F := F) c 3) 3) -∗ Q ⟨⟩)
          -∗ WP c (on (k0_part21 (F := F)) v2) Q) := by
  rw [k0_part21_eq_skeleton]
  unfold k0_part21_skel
  simp only [Prog.lift, Prog.bind_op, Prog.bind_ret, Prog.pure_eq_ret]
  iintro ⟨#HR, HO, H1, H3⟩ Hk
  iapply (recv_A I K c 2 O hO rfl rfl rfl) $$ [HO H1]
  · iframe HR HO H1
  iintro ⟨HO, H1⟩
  iapply (recv_L I K c 2 O hO rfl rfl rfl) $$ [HO H3]
  · iframe HR HO H3
  iintro ⟨HO, H3⟩
  iapply (recv_A I K c 3 O hO rfl rfl rfl) $$ [HO H1]
  · iframe HR HO H1
  iintro ⟨HO, H1⟩
  iapply (ret_intro (F := F) c)
  iapply Hk
  iframe HO H1 H3

theorem part22 {Q : _ → sProp 𝕄} (O : CT) (hO : Above 2 O) {v2 : BitVec 32} :
    iprop(recs I K ∗ ow c O ∗ seqAt (wP I c 1) (wQ (F := F) c 1) 4 ∗ seqAt (wP I c 3) (wQ (F := F) c 3) 3)
      ⊢ iprop(((ow c O ∗ seqAt (wP I c 1) (wQ (F := F) c 1) 5 ∗ seqAt (wP I c 3) (wQ (F := F) c 3) 5) -∗ Q ⟨⟩)
          -∗ WP c (on (k0_part22 (F := F)) v2) Q) := by
  rw [k0_part22_eq_skeleton]
  unfold k0_part22_skel
  simp only [Prog.lift, Prog.bind_op, Prog.bind_ret, Prog.pure_eq_ret]
  iintro ⟨#HR, HO, H1, H3⟩ Hk
  iapply (recv_L I K c 3 O hO rfl rfl rfl) $$ [HO H3]
  · iframe HR HO H3
  iintro ⟨HO, H3⟩
  iapply (recv_A I K c 4 O hO rfl rfl rfl) $$ [HO H1]
  · iframe HR HO H1
  iintro ⟨HO, H1⟩
  iapply (recv_L I K c 4 O hO rfl rfl rfl) $$ [HO H3]
  · iframe HR HO H3
  iintro ⟨HO, H3⟩
  iapply (ret_intro (F := F) c)
  iapply Hk
  iframe HO H1 H3

theorem part23 {Q : _ → sProp 𝕄} (O : CT) (hO : Above 2 O) {v2 : BitVec 32} :
    iprop(recs I K ∗ ow c O ∗ seqAt (wP I c 1) (wQ (F := F) c 1) 5 ∗ seqAt (wP I c 3) (wQ (F := F) c 3) 5)
      ⊢ iprop(((ow c O ∗ seqAt (wP I c 1) (wQ (F := F) c 1) 7 ∗ seqAt (wP I c 3) (wQ (F := F) c 3) 6) -∗ Q ⟨⟩)
          -∗ WP c (on (k0_part23 (F := F)) v2) Q) := by
  rw [k0_part23_eq_skeleton]
  unfold k0_part23_skel
  simp only [Prog.lift, Prog.bind_op, Prog.bind_ret, Prog.pure_eq_ret]
  iintro ⟨#HR, HO, H1, H3⟩ Hk
  iapply (recv_A I K c 5 O hO rfl rfl rfl) $$ [HO H1]
  · iframe HR HO H1
  iintro ⟨HO, H1⟩
  iapply (recv_L I K c 5 O hO rfl rfl rfl) $$ [HO H3]
  · iframe HR HO H3
  iintro ⟨HO, H3⟩
  iapply (recv_A I K c 6 O hO rfl rfl rfl) $$ [HO H1]
  · iframe HR HO H1
  iintro ⟨HO, H1⟩
  iapply (ret_intro (F := F) c)
  iapply Hk
  iframe HO H1 H3

theorem off25 : ∀ c : Dev nD, k0_off25 c = ![128 * c.val, 0, 0] := by decide +kernel
theorem off26 : ∀ c : Dev nD, k0_off26 c = ![128 * c.val, 0] := by decide +kernel

theorem part24 {Q : _ → sProp 𝕄} (O : CT) (hO : Above 2 O) {v2 : BitVec 32} :
    iprop(recs I K ∗ ow c O ∗ accAt I c 32 ∗ lAt I c 32 ∗ seqAt (wP I c 1) (wQ (F := F) c 1) 7 ∗ seqAt (wP I c 3) (wQ (F := F) c 3) 6)
      ⊢ iprop(((ow c O ∗ accAt I c 32 ∗ lAt I c 32 ∗ seqAt (wP I c 1) (wQ (F := F) c 1) 7 ∗ seqAt (wP I c 3) (wQ (F := F) c 3) 7) -∗ Q ⟨k0_pay125 (rows3 (aF I c) c) (aU I c 0) (aU I c 1) (aU I c 2), k0_pay126 (rows2 (lF I c) c) (lU I c 0) (lU I c 1) (lU I c 2)⟩)
          -∗ WP c (on (k0_part24 (F := F)) c v2) Q) := by
  rw [k0_part24_eq_skeleton]
  unfold k0_part24_skel
  simp only [Prog.lift, Prog.bind_op, Prog.bind_ret, Prog.pure_eq_ret]
  iintro ⟨#HR, HO, Ha, Hl, H1, H3⟩ Hk
  iapply (recv_L I K c 6 O hO rfl rfl rfl) $$ [HO H3]
  · iframe HR HO H3
  iintro ⟨HO, H3⟩
  rw [show (6 : Fin 7).val + 1 = 7 from rfl]
  iapply (read_own I c c (off25 c)) $$ Ha; iintro Ha
  iapply (read_ownL I c c (off26 c)) $$ Hl; iintro Hl
  iapply (get_A I c 0 7 (by decide) rfl) $$ H1; iintro H1
  iapply (get_L I c 0 7 (by decide) rfl) $$ H3; iintro H3
  iapply (get_A I c 1 7 (by decide) rfl) $$ H1; iintro H1
  iapply (get_L I c 1 7 (by decide) rfl) $$ H3; iintro H3
  iapply (get_A I c 2 7 (by decide) rfl) $$ H1; iintro H1
  iapply (get_L I c 2 7 (by decide) rfl) $$ H3; iintro H3
  iapply (ret_intro (F := F) c)
  iapply Hk
  iframe HO Ha Hl H1 H3

theorem part25 {Q : _ → sProp 𝕄} :
    iprop(seqAt (wP I c 1) (wQ (F := F) c 1) 7 ∗ seqAt (wP I c 3) (wQ (F := F) c 3) 7)
      ⊢ iprop(((seqAt (wP I c 1) (wQ (F := F) c 1) 7 ∗ seqAt (wP I c 3) (wQ (F := F) c 3) 7) -∗ Q (ctxV I c))
          -∗ WP c (on (k0_part25 (F := F)) (k0_pay125 (rows3 (aF I c) c) (aU I c 0) (aU I c 1) (aU I c 2)) (k0_pay126 (rows2 (lF I c) c) (lU I c 0) (lU I c 1) (lU I c 2))) Q) := by
  rw [k0_part25_eq_skeleton]
  unfold k0_part25_skel
  simp only [Prog.lift, Prog.bind_op, Prog.bind_ret, Prog.pure_eq_ret]
  iintro ⟨H1, H3⟩ Hk
  iapply (get_A I c 3 7 (by decide) rfl) $$ H1; iintro H1
  iapply (get_L I c 3 7 (by decide) rfl) $$ H3; iintro H3
  iapply (get_A I c 4 7 (by decide) rfl) $$ H1; iintro H1
  iapply (get_L I c 4 7 (by decide) rfl) $$ H3; iintro H3
  iapply (get_A I c 5 7 (by decide) rfl) $$ H1; iintro H1
  iapply (get_L I c 5 7 (by decide) rfl) $$ H3; iintro H3
  iapply (get_A I c 6 7 (by decide) rfl) $$ H1; iintro H1
  iapply (get_L I c 6 7 (by decide) rfl) $$ H3; iintro H3
  iapply (ret_intro (F := F) c)
  unfold ctxV
  iapply Hk
  iframe H1 H3

theorem part26 {Q : _ → sProp 𝕄} {v2 : BitVec 32} :
    iprop(((c : Thread nD τ).loc cc0_stg4_0 ↦{fullShare} I.wo c) ∗ anyS (F := F) c ∗ outAt I c 0)
      ⊢ iprop(((((c : Thread nD τ).loc cc0_stg4_0 ↦{fullShare} I.wo c) ∗ ((c : Thread nD τ).loc cc0_scratch6 ↦{fullShare} gH I c) ∗ outAt I c 2) -∗ Q ⟨⟩)
          -∗ WP c (on (k0_part26 (F := F)) c v2 (ctxV I c)) Q) := by
  rw [k0_part26_eq_skeleton]
  unfold k0_part26_skel
  simp only [Prog.lift, Prog.bind_op, Prog.bind_ret, Prog.pure_eq_ret]
  iintro ⟨Hw, HS, Ho⟩ Hk
  iapply (load_wo c) $$ Hw; iintro Hw
  iapply (put_g c) $$ HS; iintro HS
  iapply (put_out I c 0 c 0 (by revert c; decide) rfl (by decide) (off27 c) (own0 I c)) $$ Ho; iintro Ho
  iapply (put_out I c 1 c 1 (by revert c; decide) rfl (by decide) (off28 c) (own1 I c)) $$ Ho; iintro Ho
  iapply (ret_intro (F := F) c)
  iapply Hk
  iframe Hw Ho
  iexact HS

end Cert.KernelIdeal.Run
-- ==== Proof.KernelIdealRun.Parts4.lean ====
/- The end of the body: exchanging the projected rows and leaving together. -/
module

public import proofs.«01_k».proof.Proof.KernelIdealRun.Reads

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Key → ℕ) (c : Dev nD)

theorem part27 {Q : _ → sProp 𝕄} (O : CT) {v2 : BitVec 32} :
    iprop(recs I K ∗ ow c (oG c [6, 5, 4, 3, 2, 1, 0] + O) ∗ seqAt (n := 7) (fun i => wQ (F := F) c 4 (Fin.rev i)) (fun i => gQ I c (Fin.rev i)) 0)
      ⊢ iprop(((ow c (oG c [3, 2, 1, 0] + O) ∗ seqAt (n := 7) (fun i => wQ (F := F) c 4 (Fin.rev i)) (fun i => gQ I c (Fin.rev i)) 3) -∗ Q ⟨⟩)
          -∗ WP c (on (k0_part27 (F := F)) c v2) Q) := by
  rw [k0_part27_eq_skeleton]
  unfold k0_part27_skel
  simp only [Prog.lift, Prog.bind_op, Prog.bind_ret, Prog.pure_eq_ret]
  iintro ⟨#HR, HO, Hs⟩ Hk
  iapply (send_G I K c 6 [5, 4, 3, 2, 1, 0] O rfl (show (⟨k0_dev24 c, _⟩ : Dev nD) = prv c 6 by revert c; decide) rfl rfl) $$ [HO Hs]
  · iframe HR HO Hs
  iintro ⟨HO, Hs⟩
  iapply (send_G I K c 5 [4, 3, 2, 1, 0] O rfl (show (⟨k0_dev25 c, _⟩ : Dev nD) = prv c 5 by revert c; decide) rfl rfl) $$ [HO Hs]
  · iframe HR HO Hs
  iintro ⟨HO, Hs⟩
  iapply (send_G I K c 4 [3, 2, 1, 0] O rfl (show (⟨k0_dev26 c, _⟩ : Dev nD) = prv c 4 by revert c; decide) rfl rfl) $$ [HO Hs]
  · iframe HR HO Hs
  iintro ⟨HO, Hs⟩
  iapply (ret_intro (F := F) c)
  iapply Hk
  iframe HO Hs

theorem part28 {Q : _ → sProp 𝕄} (O : CT) {v2 : BitVec 32} :
    iprop(recs I K ∗ ow c (oG c [3, 2, 1, 0] + O) ∗ seqAt (n := 7) (fun i => wQ (F := F) c 4 (Fin.rev i)) (fun i => gQ I c (Fin.rev i)) 3)
      ⊢ iprop(((ow c (oG c [0] + O) ∗ seqAt (n := 7) (fun i => wQ (F := F) c 4 (Fin.rev i)) (fun i => gQ I c (Fin.rev i)) 6) -∗ Q ⟨⟩)
          -∗ WP c (on (k0_part28 (F := F)) c v2) Q) := by
  rw [k0_part28_eq_skeleton]
  unfold k0_part28_skel
  simp only [Prog.lift, Prog.bind_op, Prog.bind_ret, Prog.pure_eq_ret]
  iintro ⟨#HR, HO, Hs⟩ Hk
  iapply (send_G I K c 3 [2, 1, 0] O rfl (show (⟨k0_dev27 c, _⟩ : Dev nD) = prv c 3 by revert c; decide) rfl rfl) $$ [HO Hs]
  · iframe HR HO Hs
  iintro ⟨HO, Hs⟩
  iapply (send_G I K c 2 [1, 0] O rfl (show (⟨k0_dev28 c, _⟩ : Dev nD) = prv c 2 by revert c; decide) rfl rfl) $$ [HO Hs]
  · iframe HR HO Hs
  iintro ⟨HO, Hs⟩
  iapply (send_G I K c 1 [0] O rfl (show (⟨k0_dev29 c, _⟩ : Dev nD) = prv c 1 by revert c; decide) rfl rfl) $$ [HO Hs]
  · iframe HR HO Hs
  iintro ⟨HO, Hs⟩
  iapply (ret_intro (F := F) c)
  iapply Hk
  iframe HO Hs

theorem part29 {Q : _ → sProp 𝕄} (O : CT) (hO : Above 3 O) {v2 : BitVec 32} :
    iprop(recs I K ∗ ow c (oG c [0] + O) ∗ seqAt (n := 7) (fun i => wQ (F := F) c 4 (Fin.rev i)) (fun i => gQ I c (Fin.rev i)) 6 ∗ seqAt (wP I c 5) (wQ (F := F) c 5) 0 ∗ outAt I c 2)
      ⊢ iprop(((ow c O ∗ seqAt (n := 7) (fun i => wQ (F := F) c 4 (Fin.rev i)) (fun i => gQ I c (Fin.rev i)) 7 ∗ seqAt (wP I c 5) (wQ (F := F) c 5) 1 ∗ outAt I c 4) -∗ Q ⟨⟩)
          -∗ WP c (on (k0_part29 (F := F)) c v2) Q) := by
  rw [k0_part29_eq_skeleton]
  unfold k0_part29_skel
  simp only [Prog.lift, Prog.bind_op, Prog.bind_ret, Prog.pure_eq_ret]
  iintro ⟨#HR, HO, Hs, H5, Ho⟩ Hk
  iapply (send_G I K c 0 [] O rfl (show (⟨k0_dev30 c, _⟩ : Dev nD) = prv c 0 by revert c; decide) rfl rfl) $$ [HO Hs]
  · iframe HR HO Hs
  iintro ⟨HO, Hs⟩
  rw [show oG c [] + O = O from zero_add O]
  iapply (block_G I K c 0 O hO rfl rfl rfl (peer0 I c 0 _) (peer1 I c 0 _)) $$ [HO H5 Ho]
  · iframe HR HO H5 Ho
  iintro ⟨HO, H5, Ho⟩
  iapply (ret_intro (F := F) c)
  iapply Hk
  iframe HO Hs H5 Ho

theorem part30 {Q : _ → sProp 𝕄} (O : CT) (hO : Above 3 O) {v2 : BitVec 32} :
    iprop(recs I K ∗ ow c O ∗ seqAt (wP I c 5) (wQ (F := F) c 5) 1 ∗ outAt I c 4)
      ⊢ iprop(((ow c O ∗ seqAt (wP I c 5) (wQ (F := F) c 5) 2 ∗ outAt I c 6) -∗ Q ⟨⟩)
          -∗ WP c (on (k0_part30 (F := F)) c v2) Q) := by
  rw [k0_part30_eq_skeleton]
  unfold k0_part30_skel
  simp only [Prog.lift, Prog.bind_op, Prog.bind_ret, Prog.pure_eq_ret]
  iintro ⟨#HR, HO, H5, Ho⟩ Hk
  iapply (block_G I K c 1 O hO rfl rfl rfl (peer0 I c 1 _) (peer1 I c 1 _)) $$ [HO H5 Ho]
  · iframe HR HO H5 Ho
  iintro ⟨HO, H5, Ho⟩
  iapply (ret_intro (F := F) c)
  iapply Hk
  iframe HO H5 Ho

theorem part31 {Q : _ → sProp 𝕄} (O : CT) (hO : Above 3 O) {v2 : BitVec 32} :
    iprop(recs I K ∗ ow c O ∗ seqAt (wP I c 5) (wQ (F := F) c 5) 2 ∗ outAt I c 6)
      ⊢ iprop(((ow c O ∗ seqAt (wP I c 5) (wQ (F := F) c 5) 3 ∗ outAt I c 8) -∗ Q 1#32)
          -∗ WP c (on (k0_part31 (F := F)) c v2) Q) := by
  rw [k0_part31_eq_skeleton]
  unfold k0_part31_skel
  simp only [Prog.lift, Prog.bind_op, Prog.bind_ret, Prog.pure_eq_ret]
  iintro ⟨#HR, HO, H5, Ho⟩ Hk
  iapply (block_G I K c 2 O hO rfl rfl rfl (peer0 I c 2 _) (peer1 I c 2 _)) $$ [HO H5 Ho]
  · iframe HR HO H5 Ho
  iintro ⟨HO, H5, Ho⟩
  iapply (ret_intro (F := F) c)
  iapply Hk
  iframe HO H5 Ho

theorem part32 {Q : _ → sProp 𝕄} (O : CT) (hO : Above 3 O) {v2 : BitVec 32} {a : BitVec 32} :
    iprop(recs I K ∗ ow c O ∗ seqAt (wP I c 5) (wQ (F := F) c 5) 3 ∗ outAt I c 8)
      ⊢ iprop(((ow c O ∗ seqAt (wP I c 5) (wQ (F := F) c 5) 4 ∗ outAt I c 10) -∗ Q ⟨Scalar.muli v2 1#32, 0#32⟩)
          -∗ WP c (on (k0_part32 (F := F)) c v2 a) Q) := by
  rw [k0_part32_eq_skeleton]
  unfold k0_part32_skel
  simp only [Prog.lift, Prog.bind_op, Prog.bind_ret, Prog.pure_eq_ret]
  iintro ⟨#HR, HO, H5, Ho⟩ Hk
  iapply (block_G I K c 3 O hO rfl rfl rfl (peer0 I c 3 _) (peer1 I c 3 _)) $$ [HO H5 Ho]
  · iframe HR HO H5 Ho
  iintro ⟨HO, H5, Ho⟩
  iapply (ret_intro (F := F) c)
  iapply Hk
  iframe HO H5 Ho

theorem part33 {Q : _ → sProp 𝕄} (O : CT) (hO : Above 3 O) {v2 : BitVec 32} {a b : BitVec 32} :
    iprop(recs I K ∗ ow c O ∗ seqAt (wP I c 5) (wQ (F := F) c 5) 4 ∗ outAt I c 10)
      ⊢ iprop(((ow c O ∗ seqAt (wP I c 5) (wQ (F := F) c 5) 5 ∗ outAt I c 12) -∗ Q ⟨⟩)
          -∗ WP c (on (k0_part33 (F := F)) c v2 a b) Q) := by
  rw [k0_part33_eq_skeleton]
  unfold k0_part33_skel
  simp only [Prog.lift, Prog.bind_op, Prog.bind_ret, Prog.pure_eq_ret]
  iintro ⟨#HR, HO, H5, Ho⟩ Hk
  iapply (block_G I K c 4 O hO rfl rfl rfl (peer0 I c 4 _) (peer1 I c 4 _)) $$ [HO H5 Ho]
  · iframe HR HO H5 Ho
  iintro ⟨HO, H5, Ho⟩
  iapply (ret_intro (F := F) c)
  iapply Hk
  iframe HO H5 Ho

theorem part34 {Q : _ → sProp 𝕄} (O : CT) (hO : Above 3 O) {v2 : BitVec 32} :
    iprop(recs I K ∗ ow c O ∗ seqAt (wP I c 5) (wQ (F := F) c 5) 5 ∗ outAt I c 12)
      ⊢ iprop(((ow c O ∗ seqAt (wP I c 5) (wQ (F := F) c 5) 6 ∗ outAt I c 14) -∗ Q ⟨⟩)
          -∗ WP c (on (k0_part34 (F := F)) c v2) Q) := by
  rw [k0_part34_eq_skeleton]
  unfold k0_part34_skel
  simp only [Prog.lift, Prog.bind_op, Prog.bind_ret, Prog.pure_eq_ret]
  iintro ⟨#HR, HO, H5, Ho⟩ Hk
  iapply (block_G I K c 5 O hO rfl rfl rfl (peer0 I c 5 _) (peer1 I c 5 _)) $$ [HO H5 Ho]
  · iframe HR HO H5 Ho
  iintro ⟨HO, H5, Ho⟩
  iapply (ret_intro (F := F) c)
  iapply Hk
  iframe HO H5 Ho

theorem part35 {Q : _ → sProp 𝕄} (O : CT) (hO : Above 3 O) (hO' : Above 0 O) {v2 : BitVec 32} :
    iprop(recs I K ∗ ow c O ∗ seqAt (wP I c 5) (wQ (F := F) c 5) 6 ∗ outAt I c 14 ∗ seqAt (n := 8) (back I c) (sent I c) 0)
      ⊢ iprop(((ow c O ∗ seqAt (wP I c 5) (wQ (F := F) c 5) 7 ∗ outAt I c 16 ∗ seqAt (n := 8) (back I c) (sent I c) 2) -∗ Q 2#32)
          -∗ WP c (on (k0_part35 (F := F)) c v2) Q) := by
  rw [k0_part35_eq_skeleton]
  unfold k0_part35_skel
  simp only [Prog.lift, Prog.bind_op, Prog.bind_ret, Prog.pure_eq_ret, wp_bind]
  iintro ⟨#HR, HO, H5, Ho, Hb⟩ Hk
  iapply (block_G I K c 6 O hO rfl rfl rfl (peer0 I c 6 _) (peer1 I c 6 _)) $$ [HO H5 Ho]
  · iframe HR HO H5 Ho
  iintro ⟨HO, H5, Ho⟩
  iapply (back_at I K c 0 O hO' rfl (backs0 c) rfl rfl) $$ [HO Hb]
  · iframe HR HO Hb
  iintro ⟨HO, Hb⟩
  iapply (back_at I K c 1 O hO' rfl (backs1 c) rfl rfl) $$ [HO Hb]
  · iframe HR HO Hb
  iintro ⟨HO, Hb⟩
  iapply (ret_intro (F := F) c)
  iapply Hk
  iframe HO H5 Ho Hb

theorem part36 {Q : _ → sProp 𝕄} (O : CT) (hO' : Above 0 O) {v2 a : BitVec 32} :
    iprop(recs I K ∗ ow c O ∗ seqAt (n := 8) (back I c) (sent I c) 2 ∗ seqAt (n := 7) (fun i => wP I c 4 (Fin.rev i)) (fun i => wQ (F := F) c 4 (Fin.rev i)) 0)
      ⊢ iprop(((ow c O ∗ seqAt (n := 8) (back I c) (sent I c) 8 ∗ seqAt (n := 7) (fun i => wP I c 4 (Fin.rev i)) (fun i => wQ (F := F) c 4 (Fin.rev i)) 2) -∗ Q ⟨⟩)
          -∗ WP c (on (k0_part36 (F := F)) c v2 a) Q) := by
  rw [k0_part36_eq_skeleton]
  unfold k0_part36_skel
  simp only [Prog.lift, Prog.bind_op, Prog.bind_ret, Prog.pure_eq_ret, wp_bind]
  iintro ⟨#HR, HO, Hb, H4⟩ Hk
  iapply (back_at I K c 2 O hO' rfl (backs2 c) rfl rfl) $$ [HO Hb]
  · iframe HR HO Hb
  iintro ⟨HO, Hb⟩
  iapply (back_at I K c 3 O hO' rfl (backs3 c) rfl rfl) $$ [HO Hb]
  · iframe HR HO Hb
  iintro ⟨HO, Hb⟩
  iapply (back_at I K c 4 O hO' rfl (backs4 c) rfl rfl) $$ [HO Hb]
  · iframe HR HO Hb
  iintro ⟨HO, Hb⟩
  iapply (back_at I K c 5 O hO' rfl (backs5 c) rfl rfl) $$ [HO Hb]
  · iframe HR HO Hb
  iintro ⟨HO, Hb⟩
  iapply (back_at I K c 6 O hO' rfl (backs6 c) rfl rfl) $$ [HO Hb]
  · iframe HR HO Hb
  iintro ⟨HO, Hb⟩
  iapply (back_at I K c 7 O hO' rfl (backs7 c) rfl rfl) $$ [HO Hb]
  · iframe HR HO Hb
  iintro ⟨HO, Hb⟩
  iapply (back_G I K c 6 O hO' rfl rfl) $$ [HO H4]
  · iframe HR HO H4
  iintro ⟨HO, H4⟩
  iapply (back_G I K c 5 O hO' rfl rfl) $$ [HO H4]
  · iframe HR HO H4
  iintro ⟨HO, H4⟩
  iapply (ret_intro (F := F) c)
  iapply Hk
  iframe HO Hb H4

theorem part37 {Q : _ → sProp 𝕄} (O : CT) (hO' : Above 0 O) {v2 : BitVec 32} :
    iprop(recs I K ∗ ow c O ∗ seqAt (n := 7) (fun i => wP I c 4 (Fin.rev i)) (fun i => wQ (F := F) c 4 (Fin.rev i)) 2)
      ⊢ iprop(((ow c O ∗ seqAt (n := 7) (fun i => wP I c 4 (Fin.rev i)) (fun i => wQ (F := F) c 4 (Fin.rev i)) 7) -∗ ∀ w, Q ⟨w, 0#32⟩)
          -∗ WP c (on (k0_part37 (F := F)) v2) Q) := by
  rw [k0_part37_eq_skeleton]
  unfold k0_part37_skel
  simp only [Prog.lift, Prog.bind_op, Prog.bind_ret, Prog.pure_eq_ret]
  iintro ⟨#HR, HO, H4⟩ Hk
  iapply (back_G I K c 4 O hO' rfl rfl) $$ [HO H4]
  · iframe HR HO H4
  iintro ⟨HO, H4⟩
  iapply (back_G I K c 3 O hO' rfl rfl) $$ [HO H4]
  · iframe HR HO H4
  iintro ⟨HO, H4⟩
  iapply (back_G I K c 2 O hO' rfl rfl) $$ [HO H4]
  · iframe HR HO H4
  iintro ⟨HO, H4⟩
  iapply (back_G I K c 1 O hO' rfl rfl) $$ [HO H4]
  · iframe HR HO H4
  iintro ⟨HO, H4⟩
  iapply (back_G I K c 0 O hO' rfl rfl) $$ [HO H4]
  · iframe HR HO H4
  iintro ⟨HO, H4⟩
  iapply (ret_intro (F := F) c)
  iapply Hk $$ [HO H4]
  iframe HO H4

theorem part38 {Q : _ → sProp 𝕄} {v2 a b : BitVec 32} :
    iprop(recs I K ∗ ow c (oS c [0, 1, 2, 3, 4, 5, 6]) ∗ seqAt nil7 (sQ (F := F) c) 0)
      ⊢ iprop(((ow c (oS c [6]) ∗ seqAt nil7 (sQ (F := F) c) 6) -∗ ∀ w, Q ⟨w, 0#32⟩)
          -∗ WP c (on (k0_part38 (F := F)) c v2 a b) Q) := by
  rw [k0_part38_eq_skeleton]
  unfold k0_part38_skel
  simp only [semSignalWord, semWaitWord, Prog.lift, Prog.bind_op, Prog.bind_ret, Prog.pure_eq_ret]
  iintro ⟨#HR, HO, Hs⟩ Hk
  iapply (step_s I K c 0 [1, 2, 3, 4, 5, 6] rfl (show (⟨k0_dev31 c, _⟩ : Dev nD) = nxt c 0 by revert c; decide) rfl rfl) $$ [HO Hs]
  · iframe HR HO Hs
  iintro ⟨HO, Hs⟩
  iapply (step_s I K c 1 [2, 3, 4, 5, 6] rfl (show (⟨k0_dev32 c, _⟩ : Dev nD) = nxt c 1 by revert c; decide) rfl rfl) $$ [HO Hs]
  · iframe HR HO Hs
  iintro ⟨HO, Hs⟩
  iapply (step_s I K c 2 [3, 4, 5, 6] rfl (show (⟨k0_dev33 c, _⟩ : Dev nD) = nxt c 2 by revert c; decide) rfl rfl) $$ [HO Hs]
  · iframe HR HO Hs
  iintro ⟨HO, Hs⟩
  iapply (step_s I K c 3 [4, 5, 6] rfl (show (⟨k0_dev34 c, _⟩ : Dev nD) = nxt c 3 by revert c; decide) rfl rfl) $$ [HO Hs]
  · iframe HR HO Hs
  iintro ⟨HO, Hs⟩
  iapply (step_s I K c 4 [5, 6] rfl (show (⟨k0_dev35 c, _⟩ : Dev nD) = nxt c 4 by revert c; decide) rfl rfl) $$ [HO Hs]
  · iframe HR HO Hs
  iintro ⟨HO, Hs⟩
  iapply (step_s I K c 5 [6] rfl (show (⟨k0_dev36 c, _⟩ : Dev nD) = nxt c 5 by revert c; decide) rfl rfl) $$ [HO Hs]
  · iframe HR HO Hs
  iintro ⟨HO, Hs⟩
  iapply (ret_intro (F := F) c)
  iapply Hk $$ [HO Hs]
  iframe HO Hs

end Cert.KernelIdeal.Run
-- ==== Proof.KernelIdealRun.Lend.lean ====
/- The projected rows are lent in shares. -/
module

public import proofs.«01_k».proof.Proof.KernelIdealRun.Sync

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Key → ℕ) (c : Dev nD)

/-- The tokens of the transfer of the projected rows through slot `j`. -/
def gTok (j : Fin 7) : sProp 𝕄 := iprop((dutyTok ER (dC 4 c j) 0 0 ∗ dutyTok ER (dC 5 (prv c j) j) 0 0) ∗ atPos ER (dC 4 c j) 0 ∅ 0)

theorem agS_set : agS.view.set = (Finset.univ : Finset S128x1024.Idx) := View.set_whole _

theorem gShare_at (j : Fin 7) : (agS.view.loc (c : Thread nD τ) ↦[agS.view.set]{gShare j} gH I c : sProp 𝕄) = ((c : Thread nD τ).loc cc0_scratch6 ↦{gShare j} gH I c) := by
  rw [agS_set]

theorem gQ_one (j : Fin 7) : iprop(gTok (F := F) c j ∗ anyG (F := F) (prv c j) j ∗ ((c : Thread nD τ).loc cc0_scratch6 ↦{gShare j} gH I c)) ⊢ gQ I c j := by
  unfold gQ gTok
  rw [gShare_at]
  iintro ⟨⟨H1, H2⟩, H3, H4⟩
  iframe H1 H2 H3 H4

theorem rev_all (P : Fin 7 → sProp 𝕄) : (bigSep (Finset.univ : Finset (Fin 7)) fun i => P (Fin.rev i)) = bigSep Finset.univ P := (bigSep_univ_equiv Fin.revPerm P).symm

/-- The projected rows are lent to their seven transfers, and a share of them is kept. -/
theorem gQ_intro : iprop(((c : Thread nD τ).loc cc0_scratch6 ↦{fullShare} gH I c) ∗ bigSep Finset.univ (gTok (F := F) c) ∗ bigSep Finset.univ fun j : Fin 7 => anyG (F := F) (prv c j) j)
    ⊢ iprop((bigSep (Finset.univ : Finset (Fin 7)) fun i => gQ I c (Fin.rev i)) ∗ ((c : Thread nD τ).loc cc0_scratch6 ↦{Transfers.shareDrop fullShare 7} gH I c)) := by
  rw [rev_all (gQ I c)]
  have e : iprop(bigSep Finset.univ (gTok (F := F) c) ∗ (bigSep Finset.univ fun j : Fin 7 => anyG (F := F) (prv c j) j) ∗ bigSep Finset.univ fun j : Fin 7 => ((c : Thread nD τ).loc cc0_scratch6 ↦{gShare j} gH I c))
      ⊢ bigSep Finset.univ (gQ I c) := by
    rw [← bigSep_sep', ← bigSep_sep']
    exact bigSep_mono fun j _ => gQ_one I c j
  iintro ⟨H, Ht, Ha⟩
  ihave H := (Transfers.pointsTo_toks_split fullShare 7) $$ H
  icases H with ⟨Hd, H⟩
  isplitr [Hd]
  · iapply e
    iframe Ht Ha H
  · iexact Hd

/-- The lent shares come back. -/
theorem gS_join : iprop((bigSep (Finset.univ : Finset (Fin 7)) fun i => wP I c 4 (Fin.rev i)) ∗ ((c : Thread nD τ).loc cc0_scratch6 ↦{Transfers.shareDrop fullShare 7} gH I c))
    ⊢ iprop((bigSep Finset.univ fun j : Fin 7 => semVal (dC 4 c j) 0) ∗ ((c : Thread nD τ).loc cc0_scratch6 ↦{fullShare} gH I c)) := by
  rw [rev_all (wP I c 4)]
  have e : bigSep Finset.univ (wP I c 4) ⊢ iprop((bigSep Finset.univ fun j : Fin 7 => semVal (dC 4 c j) 0) ∗ bigSep Finset.univ fun j : Fin 7 => ((c : Thread nD τ).loc cc0_scratch6 ↦{gShare j} gH I c)) := by
    rw [← bigSep_sep']
    refine bigSep_mono fun j _ => ?_
    show iprop(semVal (dC 4 c j) 0 ∗ pay4 I c j) ⊢ _
    rw [← gShare_at]
    exact (BIBase.Entails.rfl : iprop(semVal (dC 4 c j) 0 ∗ pay4 I c j) ⊢ _)
  iintro ⟨H, Hd⟩
  ihave H := e $$ H
  icases H with ⟨Hz, H⟩
  isplitl [Hz]; · iexact Hz
  iapply (Transfers.pointsTo_toks_join fullShare 7)
  isplitl [Hd]; · iexact Hd
  iexact H

end Cert.KernelIdeal.Run
-- ==== Proof.KernelIdealRun.Body.lean ====
/- The whole body on one device. -/
module

public import proofs.«01_k».proof.Proof.KernelIdealRun.Parts2
public import proofs.«01_k».proof.Proof.KernelIdealRun.Parts3
public import proofs.«01_k».proof.Proof.KernelIdealRun.Parts4
public import proofs.«01_k».proof.Proof.KernelIdealRun.Lend

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Ins F) (K : Dev nD × Key → ℕ) (c : Dev nD)

theorem dev37 : (⟨k0_dev37 c, k0_dev37_lt c⟩ : Dev nD) = nxt c 6 := by revert c; decide

/-- The body of device `c`: what it starts from and what it ends with. -/
theorem body_run {Q : PUnit.{1} → sProp 𝕄} :
    iprop(recs I K ∗ ow c (O₀ c) ∗ bigSep Finset.univ (bQ (F := F) c) ∗ cred (tallyAt (bC c) () 7) ∗ atPos ER (bC c) 0 ∅ 0 ∗ bigSep Finset.univ (sendTok (F := F) c)
        ∗ bigSep Finset.univ (gTok (F := F) c) ∗ bigSep Finset.univ (wQ (F := F) c 1) ∗ bigSep Finset.univ (wQ (F := F) c 3) ∗ bigSep Finset.univ (wQ (F := F) c 5)
        ∗ bigSep Finset.univ (sQ (F := F) c) ∗ cred (tallyAt (sC c) () 7) ∗ atPos ER (sC c) 0 ∅ 0
        ∗ ins I c ∗ ((c : Thread nD τ).loc cc0_stg4_0 ↦{fullShare} I.wo c) ∗ outAt I c 0 ∗ accAt I c 0 ∗ lAt I c 0
        ∗ (freeA (F := F) c 0 ∗ freeA (F := F) c 1 ∗ freeA (F := F) c 2 ∗ freeA (F := F) c 3) ∗ (freeL (F := F) c 0 ∗ freeL (F := F) c 1 ∗ freeL (F := F) c 2 ∗ freeL (F := F) c 3) ∗ anyS (F := F) c)
      ⊢ iprop(((ow c (oS c []) ∗ ins I c ∗ ((c : Thread nD τ).loc cc0_stg4_0 ↦{fullShare} I.wo c) ∗ accAt I c 32 ∗ lAt I c 32
            ∗ bigSep Finset.univ (wP I c 1) ∗ bigSep Finset.univ (wP I c 3) ∗ bigSep Finset.univ (wP I c 5)
            ∗ (bigSep (Finset.univ : Finset (Fin 7)) fun i => wP I c 4 (Fin.rev i)) ∗ bigSep Finset.univ (back I c)
            ∗ ((c : Thread nD τ).loc cc0_scratch6 ↦{Transfers.shareDrop fullShare 7} gH I c) ∗ semVal (bC c) 0 ∗ semVal (sC c) 0 ∗ outAt I c 16) -∗ Q ⟨⟩)
          -∗ WP c (on (cc0_body (F := F))) Q) := by
  have q3 : Above 3 (oS c [0, 1, 2, 3, 4, 5, 6]) := above_oS c _
  have q2' : Above 2 (oS c [0, 1, 2, 3, 4, 5, 6]) := q3.mono (by decide)
  have q0 : Above 0 (oS c [0, 1, 2, 3, 4, 5, 6]) := q3.mono (by decide)
  have q2 : Above 2 (oG c [6, 5, 4, 3, 2, 1, 0] + oS c [0, 1, 2, 3, 4, 5, 6]) := above_add (above_oG c _) q2'
  have q1 : Above 1 (oR c [0, 1, 2, 3, 4, 5, 6, 7] + (oG c [6, 5, 4, 3, 2, 1, 0] + oS c [0, 1, 2, 3, 4, 5, 6])) := above_add (above_oR c _) (q2.mono (by decide))
  rw [cc0_body_eq_skeleton]
  unfold cc0_body_skel
  simp only [semSignalWord, semWaitWord, Prog.lift, Prog.bind_op, Prog.bind_ret, Prog.pure_eq_ret, wp_bind]
  unfold O₀
  iintro ⟨#HR, HO, HB, Hc, Hat, Ht, Hgt, H1, H3, H5, HS, Hcs, Hats, Hi, Hw, Ho, Ha, Hl, ⟨FA0, FA1, FA2, FA3⟩, ⟨FL0, FL1, FL2, FL3⟩, Hg⟩ Hpost
  ihave HB := (seq_zero nil7 (bQ (F := F) c)) $$ HB
  iapply (part1 I K c (oR c [0, 1, 2, 3, 4, 5, 6, 7] + (oG c [6, 5, 4, 3, 2, 1, 0] + oS c [0, 1, 2, 3, 4, 5, 6]))) $$ [HO HB]
  · iframe HR HO HB
  iintro %v2 %v24 %w ⟨HO, HB⟩
  iapply (part2 I K c (oR c [0, 1, 2, 3, 4, 5, 6, 7] + (oG c [6, 5, 4, 3, 2, 1, 0] + oS c [0, 1, 2, 3, 4, 5, 6])) q1) $$ [HO HB Hc Hat Ht Hi]
  · iframe HR HO HB Hc Hat Ht Hi
  iintro ⟨HO, Hi, Hm⟩
  unfold met
  icases Hm with ⟨Hzb, Hs, Hany⟩
  iapply (part3 I c) $$ [Ha Hl]
  · iframe Ha Hl
  iintro ⟨Ha, Hl⟩
  iapply (part4 I c) $$ [Ha Hl]
  · iframe Ha Hl
  iintro ⟨Ha, Hl⟩
  iapply (part5 I c) $$ [Ha Hl]
  · iframe Ha Hl
  iintro ⟨Ha, Hl⟩
  iapply (part6 I K c (oG c [6, 5, 4, 3, 2, 1, 0] + oS c [0, 1, 2, 3, 4, 5, 6])) $$ [HO Hs Ha Hl FA0 FL0]
  · iframe HR HO Hs Ha Hl FA0 FL0
  iintro ⟨HO, Hs, Ha, Hl, GA1, GL1⟩
  iapply (part7 I K c (oG c [6, 5, 4, 3, 2, 1, 0] + oS c [0, 1, 2, 3, 4, 5, 6])) $$ [HO Hs Ha Hl GA1 GL1]
  · iframe HR HO Hs Ha Hl GA1 GL1
  iintro ⟨HO, Hs, Ha, Hl⟩
  iapply (part8 I c) $$ [Ha Hl]
  · iframe Ha Hl
  iintro ⟨Ha, Hl⟩
  iapply (part9 I c) $$ [Ha Hl]
  · iframe Ha Hl
  iintro %v314 ⟨Ha, Hl⟩
  iapply (part10 I c) $$ [Ha Hl FA1]
  · iframe Ha Hl FA1
  iintro ⟨Ha, Hl, GA2, GA3⟩
  iapply (part11 I K c (oG c [6, 5, 4, 3, 2, 1, 0] + oS c [0, 1, 2, 3, 4, 5, 6])) $$ [HO Hs Ha Hl FL1 GA2 GA3]
  · iframe HR HO Hs Ha Hl FL1 GA2 GA3
  iintro ⟨HO, Hs, Ha, Hl⟩
  iapply (part12 I c) $$ [Ha Hl]
  · iframe Ha Hl
  iintro ⟨Ha, Hl⟩
  iapply (part13 I c) $$ [Ha Hl]
  · iframe Ha Hl
  iintro ⟨Ha, Hl⟩
  iapply (part14 I c) $$ [Ha Hl]
  · iframe Ha Hl
  iintro ⟨Ha, Hl⟩
  iapply (part15 I K c (oG c [6, 5, 4, 3, 2, 1, 0] + oS c [0, 1, 2, 3, 4, 5, 6])) $$ [HO Hs Ha Hl FA2 FL2]
  · iframe HR HO Hs Ha Hl FA2 FL2
  iintro ⟨HO, Hs, Ha, Hl⟩
  iapply (part16 I c) $$ [Ha Hl]
  · iframe Ha Hl
  iintro ⟨Ha, Hl⟩
  iapply (part17 I c) $$ [Ha Hl]
  · iframe Ha Hl
  iintro ⟨Ha, Hl⟩
  iapply (part18 I c) $$ [Ha Hl]
  · iframe Ha Hl
  iintro ⟨Ha, Hl⟩
  ihave H1 := (seq_zero (wP I c 1) (wQ (F := F) c 1)) $$ H1
  iapply (part19 I K c (oG c [6, 5, 4, 3, 2, 1, 0] + oS c [0, 1, 2, 3, 4, 5, 6]) q2) $$ [HO Hs Ha Hl FA3 FL3 H1]
  · iframe HR HO Hs Ha Hl FA3 FL3 H1
  iintro ⟨HO, Hs, Ha, Hl, H1⟩
  ihave H3 := (seq_zero (wP I c 3) (wQ (F := F) c 3)) $$ H3
  iapply (part20 I K c (oG c [6, 5, 4, 3, 2, 1, 0] + oS c [0, 1, 2, 3, 4, 5, 6]) q2) $$ [HO H1 H3]
  · iframe HR HO H1 H3
  iintro ⟨HO, H1, H3⟩
  iapply (part21 I K c (oG c [6, 5, 4, 3, 2, 1, 0] + oS c [0, 1, 2, 3, 4, 5, 6]) q2) $$ [HO H1 H3]
  · iframe HR HO H1 H3
  iintro ⟨HO, H1, H3⟩
  iapply (part22 I K c (oG c [6, 5, 4, 3, 2, 1, 0] + oS c [0, 1, 2, 3, 4, 5, 6]) q2) $$ [HO H1 H3]
  · iframe HR HO H1 H3
  iintro ⟨HO, H1, H3⟩
  iapply (part23 I K c (oG c [6, 5, 4, 3, 2, 1, 0] + oS c [0, 1, 2, 3, 4, 5, 6]) q2) $$ [HO H1 H3]
  · iframe HR HO H1 H3
  iintro ⟨HO, H1, H3⟩
  iapply (part24 I K c (oG c [6, 5, 4, 3, 2, 1, 0] + oS c [0, 1, 2, 3, 4, 5, 6]) q2) $$ [HO Ha Hl H1 H3]
  · iframe HR HO Ha Hl H1 H3
  iintro ⟨HO, Ha, Hl, H1, H3⟩
  iapply (part25 I c) $$ [H1 H3]
  · iframe H1 H3
  iintro ⟨H1, H3⟩
  iapply (part26 I c) $$ [Hw Hg Ho]
  · iframe Hw Hg Ho
  iintro ⟨Hw, Hg, Ho⟩
  ihave Hg := (gQ_intro I c) $$ [Hg Hgt Hany]
  · iframe Hg Hgt Hany
  icases Hg with ⟨H4, Hg⟩
  ihave H4 := (seq_zero (n := 7) (fun i => wQ (F := F) c 4 (Fin.rev i)) (fun i => gQ I c (Fin.rev i))) $$ H4
  iapply (part27 I K c (oS c [0, 1, 2, 3, 4, 5, 6])) $$ [HO H4]
  · iframe HR HO H4
  iintro ⟨HO, H4⟩
  iapply (part28 I K c (oS c [0, 1, 2, 3, 4, 5, 6])) $$ [HO H4]
  · iframe HR HO H4
  iintro ⟨HO, H4⟩
  ihave H5 := (seq_zero (wP I c 5) (wQ (F := F) c 5)) $$ H5
  iapply (part29 I K c (oS c [0, 1, 2, 3, 4, 5, 6]) q3) $$ [HO H4 H5 Ho]
  · iframe HR HO H4 H5 Ho
  iintro ⟨HO, H4, H5, Ho⟩
  iapply (part30 I K c (oS c [0, 1, 2, 3, 4, 5, 6]) q3) $$ [HO H5 Ho]
  · iframe HR HO H5 Ho
  iintro ⟨HO, H5, Ho⟩
  iapply (part31 I K c (oS c [0, 1, 2, 3, 4, 5, 6]) q3) $$ [HO H5 Ho]
  · iframe HR HO H5 Ho
  iintro ⟨HO, H5, Ho⟩
  iapply (part32 I K c (oS c [0, 1, 2, 3, 4, 5, 6]) q3) $$ [HO H5 Ho]
  · iframe HR HO H5 Ho
  iintro ⟨HO, H5, Ho⟩
  iapply (part33 I K c (oS c [0, 1, 2, 3, 4, 5, 6]) q3) $$ [HO H5 Ho]
  · iframe HR HO H5 Ho
  iintro ⟨HO, H5, Ho⟩
  iapply (part34 I K c (oS c [0, 1, 2, 3, 4, 5, 6]) q3) $$ [HO H5 Ho]
  · iframe HR HO H5 Ho
  iintro ⟨HO, H5, Ho⟩
  ihave Hs := (seq_end rfl (sent I c) (sendRes (F := F) c)) $$ Hs
  ihave Hs := (seq_zero (back I c) (sent I c)) $$ Hs
  iapply (part35 I K c (oS c [0, 1, 2, 3, 4, 5, 6]) q3 q0) $$ [HO H5 Ho Hs]
  · iframe HR HO H5 Ho Hs
  iintro ⟨HO, H5, Ho, Hs⟩
  ihave H4 := (seq_end rfl (fun i => wQ (F := F) c 4 (Fin.rev i)) (fun i => gQ I c (Fin.rev i))) $$ H4
  ihave H4 := (seq_zero (n := 7) (fun i => wP I c 4 (Fin.rev i)) (fun i => wQ (F := F) c 4 (Fin.rev i))) $$ H4
  iapply (part36 I K c (oS c [0, 1, 2, 3, 4, 5, 6]) q0) $$ [HO Hs H4]
  · iframe HR HO Hs H4
  iintro ⟨HO, Hs, H4⟩
  iapply (part37 I K c (oS c [0, 1, 2, 3, 4, 5, 6]) q0) $$ [HO H4]
  · iframe HR HO H4
  iintro ⟨HO, H4⟩ %w37
  ihave HS := (seq_zero nil7 (sQ (F := F) c)) $$ HS
  iapply (part38 I K c) $$ [HO HS]
  · iframe HR HO HS
  iintro ⟨HO, HS⟩ %w38
  iapply (step_s I K c 6 [] rfl (dev37 c) rfl rfl) $$ [HO HS]
  · iframe HR HO HS
  iintro ⟨HO, HS⟩
  iapply (wait_s I K c rfl rfl) $$ [HO Hcs Hats]
  · iframe HR Hcs HO Hats
  iintro ⟨HO, Hzs⟩
  ihave H1 := (seq_end rfl (wP I c 1) (wQ (F := F) c 1)) $$ H1
  ihave H3 := (seq_end rfl (wP I c 3) (wQ (F := F) c 3)) $$ H3
  ihave H5 := (seq_end rfl (wP I c 5) (wQ (F := F) c 5)) $$ H5
  ihave Hs := (seq_end rfl (back I c) (sent I c)) $$ Hs
  ihave H4 := (seq_end rfl (fun i => wP I c 4 (Fin.rev i)) (fun i => wQ (F := F) c 4 (Fin.rev i))) $$ H4
  iapply (ret_intro (F := F) c)
  iapply Hpost
  iframe HO Hi Hw Ha Hl H1 H3 H5 H4 Hs Hg Hzb Hzs Ho
end Cert.KernelIdeal.Run
-- ==== Proof.KernelIdealRun.Start.lean ====
/- A device's buffers, parted for the exchange and put together again. -/
module

public import proofs.«01_k».proof.Proof.KernelIdealRun.Body

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A buffer parted by a key of its indices -/

omit [FloatOps F] in
theorem key_disjoint {ℓ : Loc nD τ sig} {n : ℕ} {S : Fin n → Finset (Idx ℓ)} {key : Idx ℓ → ℕ} (h : ∀ t i, i ∈ S t ↔ key i = t.val) :
    ∀ t ∈ (Finset.univ : Finset (Fin n)), ∀ t' ∈ (Finset.univ : Finset (Fin n)), t ≠ t' → Disjoint (S t) (S t') := fun t _ t' _ hne =>
  Finset.disjoint_left.mpr fun i hi hi' => hne (Fin.ext (((h t i).mp hi).symm.trans ((h t' i).mp hi')))

omit [FloatOps F] in
theorem key_cover {ℓ : Loc nD τ sig} {n : ℕ} {S : Fin n → Finset (Idx ℓ)} {key : Idx ℓ → ℕ} (h : ∀ t i, i ∈ S t ↔ key i = t.val) (hk : ∀ i, key i < n) :
    (Finset.univ : Finset (Fin n)).biUnion S = Finset.univ :=
  Finset.eq_univ_iff_forall.mpr fun i => Finset.mem_biUnion.mpr ⟨⟨key i, hk i⟩, Finset.mem_univ _, (h _ i).mpr rfl⟩

omit [FloatOps F] in
/-- A whole buffer is its parts. -/
theorem split_any {ℓ : Loc nD τ sig} {n : ℕ} {S : Fin n → Finset (Idx ℓ)} {key : Idx ℓ → ℕ} (h : ∀ t i, i ∈ S t ↔ key i = t.val) (hk : ∀ i, key i < n) :
    (iprop(∃ f : Buf (Elt F) ℓ, ℓ ↦{fullShare} f) : sProp 𝕄) ⊢ bigSep Finset.univ fun t : Fin n => iprop(∃ f : Buf (Elt F) ℓ, ℓ ↦[S t]{fullShare} f) := by
  iintro ⟨%f, H⟩
  ihave H := (show (ℓ ↦{fullShare} f : sProp 𝕄) ⊢ bigSep Finset.univ fun t : Fin n => iprop(∃ f : Buf (Elt F) ℓ, ℓ ↦[S t]{fullShare} f) from by
    rw [← key_cover h hk, pointsTo_biUnion _ _ (key_disjoint h)]
    exact bigSep_mono fun t _ => (show iprop(ℓ ↦[S t]{fullShare} f) ⊢ iprop(∃ f : Buf (Elt F) ℓ, ℓ ↦[S t]{fullShare} f) from by
      iintro H; iexists f; iexact H)) $$ H
  iexact H

omit [FloatOps F] in
theorem exists_pi {A B : Type} [DecidableEq A] (hB : Nonempty B) (S : Finset A) (P : A → B → sProp 𝕄) :
    bigSep S (fun i => iprop(∃ y, P i y)) ⊢ iprop(∃ y : A → B, bigSep S fun i => P i (y i)) := BI.bigSep_exists_pi S P

omit [FloatOps F] in
/-- The parts are the whole buffer. -/
theorem join_any {ℓ : Loc nD τ sig} {n : ℕ} {S : Fin (n + 1) → Finset (Idx ℓ)} {key : Idx ℓ → ℕ} (h : ∀ t i, i ∈ S t ↔ key i = t.val) (hk : ∀ i, key i < n + 1) :
    (bigSep Finset.univ fun t : Fin (n + 1) => iprop(∃ f : Buf (Elt F) ℓ, ℓ ↦[S t]{fullShare} f)) ⊢ (iprop(∃ f : Buf (Elt F) ℓ, ℓ ↦{fullShare} f) : sProp 𝕄) := by
  rw [pick (Finset.mem_univ (0 : Fin (n + 1)))]
  iintro ⟨⟨%f₀, H0⟩, H⟩
  ihave H := (exists_pi (Nonempty.intro f₀) (Finset.univ.erase (0 : Fin (n + 1))) fun (t : Fin (n + 1)) (f : Buf (Elt F) ℓ) => (ℓ ↦[S t]{fullShare} f : sProp 𝕄)) $$ H
  icases H with ⟨%fs, H⟩
  ihave H := (show iprop((ℓ ↦[S 0]{fullShare} f₀) ∗ bigSep (Finset.univ.erase (0 : Fin (n + 1))) fun t => ℓ ↦[S t]{fullShare} fs t)
      ⊢ (bigSep Finset.univ fun t : Fin (n + 1) => ℓ ↦[S t]{fullShare} (if t = 0 then f₀ else fs t) : sProp 𝕄) from by
    rw [pick (Finset.mem_univ (0 : Fin (n + 1))), if_pos rfl]
    exact BI.sep_mono (BI.Entails.refl _) (Entails.of_eq (bigSep_congr fun t ht => by rw [if_neg (Finset.mem_erase.mp ht).1]))) $$ [H0 H]
  · isplitl [H0] <;> iassumption
  ihave H := (pointsTo_biUnion_join Finset.univ S (fun t => if t = 0 then f₀ else fs t) f₀ (key_disjoint h)) $$ H
  icases H with ⟨%g, -, H⟩
  iexists g
  rw [key_cover h hk]
  iexact H

/-! ## The parts of this kernel's buffers -/

theorem rows_iff {s : Shape} {off size : Fin s.rank → ℕ} {inb} (a₀ : Fin s.rank) (w t : ℕ) (hw : 0 < w) (h0 : off a₀ = w * t) (h1 : size a₀ = w)
    (hr : ∀ a, a ≠ a₀ → off a = 0 ∧ size a = s.size a) (i : s.Idx) :
    i ∈ (Rect.unit off size inb).set ↔ (i a₀).val / w = t := by
  rw [Rect.mem_set_unit]
  have e : (i a₀).val / w = t ↔ w * t ≤ (i a₀).val ∧ (i a₀).val < w * t + w := by
    rw [Nat.div_eq_iff hw]
    constructor
    · rintro ⟨h, h'⟩; rw [Nat.mul_comm] at h h'; omega
    · rintro ⟨h, h'⟩; rw [Nat.mul_comm t w]; omega
  rw [e]
  constructor
  · intro h; have := h a₀; rw [h0, h1] at this; exact this
  · intro h a
    by_cases ha : a = a₀
    · subst ha; rw [h0, h1]; exact h
    · rw [(hr a ha).1, (hr a ha).2]; exact ⟨Nat.zero_le _, by rw [Nat.zero_add]; exact (i a).isLt⟩

theorem in_recSA (j : Fin 7) (i : S7x128x8x128.Idx) : i ∈ (recSA j).set ↔ (i 0).val / 1 = j.val :=
  rows_iff (s := S7x128x8x128) (off := ![j.val, 0, 0, 0]) (size := S1x128x8x128.size) (inb := inb_slotA j) 0 1 j.val (by decide) (by show j.val = _; omega) rfl (fun (a : Fin 4) => match a with | 0 => fun h => absurd rfl h | 1 => fun _ => ⟨rfl, rfl⟩ | 2 => fun _ => ⟨rfl, rfl⟩ | 3 => fun _ => ⟨rfl, rfl⟩) i
theorem in_recSL (j : Fin 7) (i : S7x128x8.Idx) : i ∈ (recSL j).set ↔ (i 0).val / 1 = j.val :=
  rows_iff (s := S7x128x8) (off := ![j.val, 0, 0]) (size := S1x128x8.size) (inb := inb_slotL j) 0 1 j.val (by decide) (by show j.val = _; omega) rfl (fun (a : Fin 3) => match a with | 0 => fun h => absurd rfl h | 1 => fun _ => ⟨rfl, rfl⟩ | 2 => fun _ => ⟨rfl, rfl⟩) i
theorem in_recSG (j : Fin 7) (i : S7x128x1024.Idx) : i ∈ (recSG j).set ↔ (i 0).val / 1 = j.val :=
  rows_iff (s := S7x128x1024) (off := ![j.val, 0, 0]) (size := S1x128x1024.size) (inb := inb_slotG j) 0 1 j.val (by decide) (by show j.val = _; omega) rfl (fun (a : Fin 3) => match a with | 0 => fun h => absurd rfl h | 1 => fun _ => ⟨rfl, rfl⟩ | 2 => fun _ => ⟨rfl, rfl⟩) i
theorem in_recA (t : Fin 8) (i : S1024x8x128.Idx) : i ∈ (recA t).set ↔ (i 0).val / 128 = t.val :=
  rows_iff (s := S1024x8x128) (off := ![128 * t.val, 0, 0]) (size := S128x8x128.size) (inb := inb_srcA t) 0 128 t.val (by decide) rfl rfl (fun (a : Fin 3) => match a with | 0 => fun h => absurd rfl h | 1 => fun _ => ⟨rfl, rfl⟩ | 2 => fun _ => ⟨rfl, rfl⟩) i
theorem in_recL (t : Fin 8) (i : S1024x8.Idx) : i ∈ (recL t).set ↔ (i 0).val / 128 = t.val :=
  rows_iff (s := S1024x8) (off := ![128 * t.val, 0]) (size := S128x8.size) (inb := inb_srcL t) 0 128 t.val (by decide) rfl rfl (fun (a : Fin 2) => match a with | 0 => fun h => absurd rfl h | 1 => fun _ => ⟨rfl, rfl⟩) i
theorem in_recH (r : Fin 4) (i : S1024x8x128.Idx) : i ∈ (recH r).set ↔ (i 0).val / 256 = r.val :=
  rows_iff (s := S1024x8x128) (off := ![256 * r.val, 0, 0]) (size := S256x8x128.size) (inb := inb_recH r) 0 256 r.val (by decide) rfl rfl (fun (a : Fin 3) => match a with | 0 => fun h => absurd rfl h | 1 => fun _ => ⟨rfl, rfl⟩ | 2 => fun _ => ⟨rfl, rfl⟩) i
theorem in_recHL (r : Fin 4) (i : S1024x8.Idx) : i ∈ (recHL r).set ↔ (i 0).val / 256 = r.val :=
  rows_iff (s := S1024x8) (off := ![256 * r.val, 0]) (size := S256x8.size) (inb := inb_recHL r) 0 256 r.val (by decide) rfl rfl (fun (a : Fin 2) => match a with | 0 => fun h => absurd rfl h | 1 => fun _ => ⟨rfl, rfl⟩) i

section
variable (c : Dev nD)

/-- The buffer `b` of device `c`, whole, holding anything. -/
def anyB (b : Ref sig .tc) : sProp 𝕄 := iprop(∃ f : Buf (Elt F) ((c : Thread nD τ).loc b), ((c : Thread nD τ).loc b) ↦{fullShare} f)

omit [FloatOps F] in
theorem anyA_eq (j : Fin 7) : anyA (F := F) c j = iprop(∃ f : Buf (Elt F) ((c : Thread nD τ).loc cc0_scratch4), (c : Thread nD τ).loc cc0_scratch4 ↦[(recSA j).set]{fullShare} f) := by
  unfold anyA; rw [set_slotA]
omit [FloatOps F] in
theorem anyL_eq (j : Fin 7) : anyL (F := F) c j = iprop(∃ f : Buf (Elt F) ((c : Thread nD τ).loc cc0_scratch5), (c : Thread nD τ).loc cc0_scratch5 ↦[(recSL j).set]{fullShare} f) := by
  unfold anyL; rw [set_slotL]
omit [FloatOps F] in
theorem anyG_eq (j : Fin 7) : anyG (F := F) c j = iprop(∃ f : Buf (Elt F) ((c : Thread nD τ).loc cc0_scratch7), (c : Thread nD τ).loc cc0_scratch7 ↦[(recSG j).set]{fullShare} f) := by
  unfold anyG; rw [set_slotG]

omit [FloatOps F] in
theorem split_A : anyB (F := F) c cc0_scratch4 ⊢ bigSep Finset.univ (anyA (F := F) c) := by
  rw [bigSep_congr fun j _ => anyA_eq (F := F) c j]
  exact split_any (ℓ := (c : Thread nD τ).loc cc0_scratch4) in_recSA (fun i => by have : (i 0).val < 7 := (i 0).isLt; omega)
omit [FloatOps F] in
theorem split_L : anyB (F := F) c cc0_scratch5 ⊢ bigSep Finset.univ (anyL (F := F) c) := by
  rw [bigSep_congr fun j _ => anyL_eq (F := F) c j]
  exact split_any (ℓ := (c : Thread nD τ).loc cc0_scratch5) in_recSL (fun i => by have : (i 0).val < 7 := (i 0).isLt; omega)
omit [FloatOps F] in
theorem split_G : anyB (F := F) c cc0_scratch7 ⊢ bigSep Finset.univ (anyG (F := F) c) := by
  rw [bigSep_congr fun j _ => anyG_eq (F := F) c j]
  exact split_any (ℓ := (c : Thread nD τ).loc cc0_scratch7) in_recSG (fun i => by have : (i 0).val < 7 := (i 0).isLt; omega)
omit [FloatOps F] in
theorem split_fA : anyB (F := F) c cc0_scratch2 ⊢ bigSep Finset.univ (freeA (F := F) c) :=
  split_any (ℓ := (c : Thread nD τ).loc cc0_scratch2) in_recH (fun i => by have : (i 0).val < 1024 := (i 0).isLt; omega)
omit [FloatOps F] in
theorem split_fL : anyB (F := F) c cc0_scratch3 ⊢ bigSep Finset.univ (freeL (F := F) c) :=
  split_any (ℓ := (c : Thread nD τ).loc cc0_scratch3) in_recHL (fun i => by have : (i 0).val < 1024 := (i 0).isLt; omega)

end

variable (I : Ins F) (c : Dev nD)

theorem four {P : Fin 4 → sProp 𝕄} : bigSep Finset.univ P = iprop(P 0 ∗ P 1 ∗ P 2 ∗ P 3) :=
  bigSep_univ_eq_bigSepL [0, 1, 2, 3] (by decide) (by decide) P

theorem start_acc : anyB (F := F) c cc0_scratch0 ⊢ accAt I c 0 := by
  unfold anyB accAt
  iintro ⟨%f, H⟩; iexists f; isplitr
  · ipureintro; intro i h; exact absurd h (Nat.not_lt_zero _)
  · iexact H
theorem start_l : anyB (F := F) c cc0_scratch1 ⊢ lAt I c 0 := by
  unfold anyB lAt
  iintro ⟨%f, H⟩; iexists f; isplitr
  · ipureintro; intro i h; exact absurd h (Nat.not_lt_zero _)
  · iexact H
theorem start_out (f : Buf (Elt F) ((c : Thread nD τ).loc cc0_stg5_0)) : ((c : Thread nD τ).loc cc0_stg5_0 ↦{fullShare} f) ⊢ outAt I c 0 := by
  unfold outAt
  iintro H; iexists f; isplitr
  · ipureintro; intro i h; exact absurd h (Nat.not_lt_zero _)
  · iexact H
theorem end_acc : accAt I c 32 ⊢ anyB (F := F) c cc0_scratch0 := by
  unfold anyB accAt
  iintro ⟨%f, -, H⟩; iexists f; iexact H
theorem end_l : lAt I c 32 ⊢ anyB (F := F) c cc0_scratch1 := by
  unfold anyB lAt
  iintro ⟨%f, -, H⟩; iexists f; iexact H
theorem end_out : outAt I c 16 ⊢ ((c : Thread nD τ).loc cc0_stg5_0 ↦{fullShare} (outF I c : Buf (Elt F) ((c : Thread nD τ).loc cc0_stg5_0))) := by
  unfold outAt
  iintro ⟨%f, %hf, H⟩
  rw [show f = outF I c from funext fun i => hf i (by unfold rel; omega)]
  iexact H

omit [FloatOps F] in
theorem sl_nxt_rev (c : Dev nD) (j : Fin 7) : sl (nxt c j) c = Fin.rev j := by revert c j; decide

/-- What device `c`'s signals spend: its own slots, and the rights to signal. -/
theorem bQ_intro : iprop((bigSep Finset.univ fun j : Fin 7 => dutyTok ER (bC (nxt c j)) 0 c) ∗ anyB (F := F) c cc0_scratch4 ∗ anyB (F := F) c cc0_scratch5 ∗ anyB (F := F) c cc0_scratch7)
    ⊢ bigSep Finset.univ (bQ (F := F) c) := by
  have e : bigSep Finset.univ (bQ (F := F) c) = iprop((bigSep Finset.univ fun j : Fin 7 => dutyTok ER (bC (nxt c j)) 0 c)
      ∗ (bigSep Finset.univ fun j : Fin 7 => anyA (F := F) c (Fin.rev j)) ∗ (bigSep Finset.univ fun j : Fin 7 => anyL (F := F) c (Fin.rev j)) ∗ bigSep Finset.univ (anyG (F := F) c)) := by
    rw [← bigSep_sep', ← bigSep_sep', ← bigSep_sep']
    refine bigSep_congr fun j _ => ?_
    unfold bQ readyPay
    rw [sl_nxt_rev, sl_nxt]
  rw [e, rev_all (anyA (F := F) c), rev_all (anyL (F := F) c)]
  iintro ⟨Ht, Ha, Hl, Hg⟩
  isplitl [Ht]; · iexact Ht
  isplitl [Ha]; · iapply (split_A (F := F) c); iexact Ha
  isplitl [Hl]; · iapply (split_L (F := F) c); iexact Hl
  iapply (split_G (F := F) c); iexact Hg

/-! ## What the exchange leaves -/

omit [FloatOps F] in
theorem owns_any {s : Shape} {ε : EltTy} {m : Memref sig .tc .vmem s ε} {X : s.Idx → Elt F ε} :
    (ownsTc c m fullShare X : sProp 𝕄) ⊢ iprop(∃ f : Buf (Elt F) (m.view.loc (c : Thread nD τ)), m.view.loc (c : Thread nD τ) ↦[m.view.set]{fullShare} f) := by
  unfold ownsTc owns
  iintro ⟨%f, -, H⟩; iexists f; iexact H

theorem end_A : bigSep Finset.univ (wP I c 1) ⊢ iprop((bigSep Finset.univ fun j : Fin 7 => semVal (dC 1 c j) 0) ∗ anyB (F := F) c cc0_scratch4) := by
  refine (show bigSep Finset.univ (wP I c 1) ⊢ iprop((bigSep Finset.univ fun j : Fin 7 => semVal (dC 1 c j) 0) ∗ bigSep Finset.univ (anyA (F := F) c)) from by
    rw [← bigSep_sep']
    refine bigSep_mono fun j _ => ?_
    show iprop(semVal (dC 1 c j) 0 ∗ pay1 I c j) ⊢ _
    unfold pay1 anyA
    iintro ⟨H1, H2⟩
    isplitl [H1]; · iexact H1
    iapply (owns_any (F := F) c); iexact H2).trans ?_
  rw [bigSep_congr fun j _ => anyA_eq (F := F) c j]
  iintro ⟨H1, H2⟩
  isplitl [H1]; · iexact H1
  unfold anyB
  iapply (join_any (ℓ := (c : Thread nD τ).loc cc0_scratch4) in_recSA (fun i => by have : (i 0).val < 7 := (i 0).isLt; omega)); iexact H2

theorem end_L : bigSep Finset.univ (wP I c 3) ⊢ iprop((bigSep Finset.univ fun j : Fin 7 => semVal (dC 3 c j) 0) ∗ anyB (F := F) c cc0_scratch5) := by
  refine (show bigSep Finset.univ (wP I c 3) ⊢ iprop((bigSep Finset.univ fun j : Fin 7 => semVal (dC 3 c j) 0) ∗ bigSep Finset.univ (anyL (F := F) c)) from by
    rw [← bigSep_sep']
    refine bigSep_mono fun j _ => ?_
    show iprop(semVal (dC 3 c j) 0 ∗ pay3 I c j) ⊢ _
    unfold pay3 anyL
    iintro ⟨H1, H2⟩
    isplitl [H1]; · iexact H1
    iapply (owns_any (F := F) c); iexact H2).trans ?_
  rw [bigSep_congr fun j _ => anyL_eq (F := F) c j]
  iintro ⟨H1, H2⟩
  isplitl [H1]; · iexact H1
  unfold anyB
  iapply (join_any (ℓ := (c : Thread nD τ).loc cc0_scratch5) in_recSL (fun i => by have : (i 0).val < 7 := (i 0).isLt; omega)); iexact H2

theorem end_G : bigSep Finset.univ (wP I c 5) ⊢ iprop((bigSep Finset.univ fun j : Fin 7 => semVal (dC 5 c j) 0) ∗ anyB (F := F) c cc0_scratch7) := by
  refine (show bigSep Finset.univ (wP I c 5) ⊢ iprop((bigSep Finset.univ fun j : Fin 7 => semVal (dC 5 c j) 0) ∗ bigSep Finset.univ (anyG (F := F) c)) from by
    rw [← bigSep_sep']
    refine bigSep_mono fun j _ => ?_
    show iprop(semVal (dC 5 c j) 0 ∗ pay5 I c j) ⊢ _
    unfold pay5 anyG
    iintro ⟨H1, H2⟩
    isplitl [H1]; · iexact H1
    iapply (owns_any (F := F) c); iexact H2).trans ?_
  rw [bigSep_congr fun j _ => anyG_eq (F := F) c j]
  iintro ⟨H1, H2⟩
  isplitl [H1]; · iexact H1
  unfold anyB
  iapply (join_any (ℓ := (c : Thread nD τ).loc cc0_scratch7) in_recSG (fun i => by have : (i 0).val < 7 := (i 0).isLt; omega)); iexact H2

/-- The rows meant for the peers are back, and the semaphores that said so are closed. -/
theorem end_back : bigSep Finset.univ (back I c) ⊢ iprop((anyB (F := F) c cc0_scratch2 ∗ anyB (F := F) c cc0_scratch3)
    ∗ (bigSep Finset.univ fun j : Fin 7 => semVal (dC 0 c j) 0) ∗ bigSep Finset.univ fun j : Fin 7 => semVal (dC 2 c j) 0) := by
  have e1 : bigSep Finset.univ (back I c) ⊢ iprop((bigSep Finset.univ fun t : Dev nD => iprop(∃ f : Buf (Elt F) ((c : Thread nD τ).loc cc0_scratch2), (c : Thread nD τ).loc cc0_scratch2 ↦[(recA t).set]{fullShare} f))
      ∗ (bigSep Finset.univ fun t : Dev nD => iprop(∃ f : Buf (Elt F) ((c : Thread nD τ).loc cc0_scratch3), (c : Thread nD τ).loc cc0_scratch3 ↦[(recL t).set]{fullShare} f))
      ∗ bigSep Finset.univ fun t : Dev nD => if t = c then iprop(emp) else iprop(semVal (dC 0 c (sl c t)) 0 ∗ semVal (dC 2 c (sl c t)) 0)) := by
    rw [← bigSep_sep', ← bigSep_sep']
    refine bigSep_mono fun t _ => ?_
    unfold back held
    refine (show iprop((ownsTc c (srcA t) fullShare (aS I c t) ∗ ownsTc c (srcL t) fullShare (lS I c t)) ∗ (if t = c then iprop(emp) else iprop(semVal (dC 0 c (sl c t)) 0 ∗ semVal (dC 2 c (sl c t)) 0))) ⊢ _ from ?_)
    iintro ⟨⟨H1, H2⟩, H3⟩
    ihave H1 := (owns_any (F := F) c) $$ H1
    ihave H2 := (owns_any (F := F) c) $$ H2
    rw [show (srcA t).view.set = (recA t).set from View.set_slice_whole _ _, show (srcL t).view.set = (recL t).set from View.set_slice_whole _ _]
    isplitl [H1]; · iexact H1
    isplitl [H2]; · iexact H2
    iexact H3
  have e2 : (bigSep Finset.univ fun t : Dev nD => if t = c then iprop(emp) else iprop(semVal (dC 0 c (sl c t)) 0 ∗ semVal (dC 2 c (sl c t)) 0))
      ⊢ (iprop((bigSep Finset.univ fun j : Fin 7 => semVal (dC 0 c j) 0) ∗ bigSep Finset.univ fun j : Fin 7 => semVal (dC 2 c j) 0) : sProp 𝕄) := by
    rw [pick (Finset.mem_univ c), if_pos rfl,
      bigSep_congr (s := Finset.univ.erase c) (Φ := fun t => if t = c then iprop(emp) else iprop(semVal (dC 0 c (sl c t)) 0 ∗ semVal (dC 2 c (sl c t)) 0))
        (Ψ := fun t => iprop(semVal (dC 0 c (sl c t)) 0 ∗ semVal (dC 2 c (sl c t)) 0)) (fun t ht => if_neg (Finset.mem_erase.mp ht).1),
      around_nxt c (fun t => iprop(semVal (dC 0 c (sl c t)) 0 ∗ semVal (dC 2 c (sl c t)) 0)), ← bigSep_sep',
      bigSep_congr (s := Finset.univ) (Φ := fun j : Fin 7 => iprop(semVal (dC 0 c (sl c (nxt c j))) 0 ∗ semVal (dC 2 c (sl c (nxt c j))) 0))
        (Ψ := fun j : Fin 7 => iprop(semVal (dC 0 c j) 0 ∗ semVal (dC 2 c j) 0)) (fun j _ => by rw [sl_nxt])]
    iintro ⟨-, H⟩; iexact H
  refine e1.trans ?_
  iintro ⟨H1, H2, H3⟩
  isplitl [H1 H2]
  · unfold anyB
    isplitl [H1]
    · iapply (join_any (ℓ := (c : Thread nD τ).loc cc0_scratch2) in_recA (fun i => by have : (i 0).val < 1024 := (i 0).isLt; omega)); iexact H1
    · iapply (join_any (ℓ := (c : Thread nD τ).loc cc0_scratch3) in_recL (fun i => by have : (i 0).val < 1024 := (i 0).isLt; omega)); iexact H2
  · iapply e2; iexact H3

end Cert.KernelIdeal.Run
-- ==== Proof.KernelIdealRun.Credit.lean ====
/- What the devices hold when they start: positions, rights to pay, credits. -/
module

public import proofs.«01_k».proof.Proof.KernelIdealRun.Start
public import proofs.«01_k».proof.Proof.Gen.KernelIdeal.Launch

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over the cells of a device -/

omit [FloatOps F] in
theorem over_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- One thing for each DMA semaphore, array by array. -/
def arrays (Φ : Fin 6 → Fin 7 → sProp 𝕄) : sProp 𝕄 :=
  iprop(bigSep Finset.univ (Φ 0) ∗ bigSep Finset.univ (Φ 1) ∗ bigSep Finset.univ (Φ 2) ∗ bigSep Finset.univ (Φ 3) ∗ bigSep Finset.univ (Φ 4) ∗ bigSep Finset.univ (Φ 5))

omit [FloatOps F] in
theorem over_dma (Φ : Fin 6 × Fin 7 → sProp 𝕄) : bigSep Finset.univ Φ = arrays fun k j => Φ (k, j) := by
  rw [bigSep_univ_prod, over_six]; rfl

omit [FloatOps F] in
theorem over_keys (Φ : Key → sProp 𝕄) : bigSep Finset.univ Φ = iprop((Φ (.inl 0) ∗ Φ (.inl 1)) ∗ arrays fun k j => Φ (.inr (k, j))) := by
  rw [← over_dma (fun kj => Φ (.inr kj))]
  refine (bigSep_univ_sum Φ).trans ?_
  rw [BI.bigSep_fin_two]
  rfl

/-! ## Around the ring -/

/-- Every device and slot, seen from the other end of the slot. -/
def around : Dev nD × Fin 7 ≃ Dev nD × Fin 7 where
  toFun cj := (nxt cj.1 cj.2, cj.2)
  invFun cj := (prv cj.1 cj.2, cj.2)
  left_inv cj := Prod.ext (prv_nxt cj.1 cj.2) rfl
  right_inv cj := Prod.ext (nxt_prv cj.1 cj.2) rfl

omit [FloatOps F] in
theorem to_nxt (Φ : Dev nD → Fin 7 → sProp 𝕄) : (bigSep Finset.univ fun c => bigSep Finset.univ (Φ c)) = bigSep Finset.univ fun c => bigSep Finset.univ fun j => Φ (nxt c j) j := by
  rw [← bigSep_univ_prod (fun cj : Dev nD × Fin 7 => Φ cj.1 cj.2), bigSep_univ_equiv around, ← bigSep_univ_prod (fun cj : Dev nD × Fin 7 => Φ (nxt cj.1 cj.2) cj.2)]
  rfl
omit [FloatOps F] in
theorem to_prv (Φ : Dev nD → Fin 7 → sProp 𝕄) : (bigSep Finset.univ fun c => bigSep Finset.univ (Φ c)) = bigSep Finset.univ fun c => bigSep Finset.univ fun j => Φ (prv c j) j := by
  rw [← bigSep_univ_prod (fun cj : Dev nD × Fin 7 => Φ cj.1 cj.2), bigSep_univ_equiv around.symm, ← bigSep_univ_prod (fun cj : Dev nD × Fin 7 => Φ (prv cj.1 cj.2) cj.2)]
  rfl

/-! ## The rights to pay -/

abbrev Tok : Type := (Fin 2 × Fin 7) ⊕ (Fin 6 × Fin 7)

/-- Each barrier has a payment from every peer, each DMA semaphore one payment. -/
def tokOf (ct : Dev nD × Tok) : GSem nD τ sig × ℕ × Dev nD := match ct.2 with
  | .inl (b, j) => (kcell (ct.1, .inl b), 0, prv ct.1 j)
  | .inr kj => (kcell (ct.1, .inr kj), 0, 0)

theorem prv_inj (c : Dev nD) : Function.Injective (prv c) := fun j j' h => by
  have h' : sl (prv c j) c = sl (prv c j') c := congrArg (fun p => sl p c) h
  rwa [sl_prv, sl_prv] at h'

theorem tokOf_injective : Function.Injective tokOf := by
  rintro ⟨c, (⟨b, j⟩ | kj)⟩ ⟨c', (⟨b', j'⟩ | kj')⟩ h
  · have h1 := kcell_injective (congrArg Prod.fst h)
    have h2 : c = c' := congrArg Prod.fst h1
    subst h2
    have h3 : b = b' := Sum.inl.inj (congrArg Prod.snd h1)
    have h4 : j = j' := prv_inj c (congrArg (fun x : GSem nD τ sig × ℕ × Dev nD => x.2.2) h)
    rw [h3, h4]
  · exact absurd (congrArg Prod.snd (kcell_injective (congrArg Prod.fst h))) (by simp)
  · exact absurd (congrArg Prod.snd (kcell_injective (congrArg Prod.fst h))) (by simp)
  · have h1 := kcell_injective (congrArg Prod.fst h)
    have h2 : c = c' := congrArg Prod.fst h1
    have h3 : kj = kj' := Sum.inr.inj (congrArg Prod.snd h1)
    rw [h2, h3]

def ringCells : Finset (GSem nD τ sig) := Finset.univ.map ⟨kcell, kcell_injective⟩
def ringToks : Finset (GSem nD τ sig × ℕ × Dev nD) := Finset.univ.map ⟨tokOf, tokOf_injective⟩

/-- The rights to pay the cells of device `c`. -/
def toks (c : Dev nD) : sProp 𝕄 :=
  iprop(((bigSep Finset.univ fun j : Fin 7 => dutyTok ER (bC c) 0 (prv c j)) ∗ bigSep Finset.univ fun j : Fin 7 => dutyTok ER (sC c) 0 (prv c j))
    ∗ arrays fun k j => dutyTok ER (dC k c j) 0 0)

/-- The rights device `c` uses. -/
def payToks (c : Dev nD) : sProp 𝕄 :=
  iprop(((bigSep Finset.univ fun j : Fin 7 => dutyTok ER (bC (nxt c j)) 0 c) ∗ bigSep Finset.univ fun j : Fin 7 => dutyTok ER (sC (nxt c j)) 0 c)
    ∗ (bigSep Finset.univ fun j : Fin 7 => dutyTok ER (dC 0 c j) 0 0) ∗ (bigSep Finset.univ fun j : Fin 7 => dutyTok ER (dC 1 (nxt c j) j) 0 0)
    ∗ (bigSep Finset.univ fun j : Fin 7 => dutyTok ER (dC 2 c j) 0 0) ∗ (bigSep Finset.univ fun j : Fin 7 => dutyTok ER (dC 3 (nxt c j) j) 0 0)
    ∗ (bigSep Finset.univ fun j : Fin 7 => dutyTok ER (dC 4 c j) 0 0) ∗ bigSep Finset.univ fun j : Fin 7 => dutyTok ER (dC 5 (prv c j) j) 0 0)

omit [FloatOps F] in
theorem toks_around : (bigSep Finset.univ fun c : Dev nD => (toks c : sProp 𝕄)) ⊢ bigSep Finset.univ fun c : Dev nD => payToks c := by
  have e : ∀ (b : Fin 2), (bigSep Finset.univ fun c : Dev nD => bigSep Finset.univ fun j : Fin 7 => (dutyTok ER (kcell (c, .inl b)) 0 (prv c j) : sProp 𝕄))
      = bigSep Finset.univ fun c : Dev nD => bigSep Finset.univ fun j : Fin 7 => dutyTok ER (kcell (nxt c j, .inl b)) 0 c := fun b => by
    rw [to_nxt (fun c j => (dutyTok ER (kcell (c, .inl b)) 0 (prv c j) : sProp 𝕄))]
    exact bigSep_congr fun c _ => bigSep_congr fun j _ => by rw [prv_nxt]
  unfold toks payToks arrays
  simp only [bigSep_sep']
  rw [e 0, e 1, to_nxt (fun c j => (dutyTok ER (dC 1 c j) 0 0 : sProp 𝕄)), to_nxt (fun c j => (dutyTok ER (dC 3 c j) 0 0 : sProp 𝕄)),
    to_prv (fun c j => (dutyTok ER (dC 5 c j) 0 0 : sProp 𝕄))]

/-! ## Credits -/

theorem sum_seven {A : Type} [AddCommMonoid A] (f : Fin 7 → A) : ([0, 1, 2, 3, 4, 5, 6].map f).sum = ∑ j, f j := by
  rw [← List.sum_ofFn]; rfl
theorem sum_eight {A : Type} [AddCommMonoid A] (f : Fin 8 → A) : ([0, 1, 2, 3, 4, 5, 6, 7].map f).sum = ∑ j, f j := by
  rw [← List.sum_ofFn]; rfl

/-- What every device owes, as sums over the slots. -/
theorem owed_sum (c : Dev nD) : O₀ c = (∑ j, tallyAt (kcell (nxt c j, .inl 0)) () 1) + ((∑ j, tallyAt (kcell (nxt c j, .inr (1, j))) () NA) + (∑ j, tallyAt (kcell (nxt c j, .inr (3, j))) () NL)
    + ((∑ j, tallyAt (kcell (prv c j, .inr (5, j))) () NG) + ∑ j, tallyAt (kcell (nxt c j, .inl 1)) () 1)) := by
  have hR : oR c [0, 1, 2, 3, 4, 5, 6, 7] = (∑ j, tallyAt (kcell (nxt c j, .inr (1, j))) () NA) + ∑ j, tallyAt (kcell (nxt c j, .inr (3, j))) () NL := by
    unfold oR
    rw [sum_eight (oRt c), ← Finset.sum_erase (f := oRt c) (a := c) Finset.univ (by unfold oRt; exact if_pos rfl), univ_erase_nxt, Finset.sum_map, ← Finset.sum_add_distrib]
    refine Finset.sum_congr rfl fun j _ => ?_
    show oRt c (nxt c j) = _
    unfold oRt; rw [if_neg (nxt_ne c j), sl_nxt]
  have hG : oG c [6, 5, 4, 3, 2, 1, 0] = ∑ j, tallyAt (kcell (prv c j, .inr (5, j))) () NG := by
    unfold oG
    rw [← sum_seven]
    simp only [List.map_cons, List.map_nil, List.sum_cons, List.sum_nil]
    abel
  unfold O₀
  rw [hR, hG]
  unfold oB oS
  rw [sum_seven, sum_seven]

theorem eval_sum (f : Fin 7 → CT) (g : GSem nD τ sig) : (∑ j, f j) g () = ∑ j, f j g () := by
  rw [Finset.sum_apply, Finsupp.finset_sum_apply]

theorem cell_tally (a c : Dev nD) (k k' : Key) (n : ℕ) : (tallyAt (kcell (a, k)) () n : CT) (kcell (c, k')) () = if c = a ∧ k' = k then n else 0 := by
  rw [tallyAt_apply]
  refine if_congr ⟨fun h => ?_, fun h => ⟨by rw [h.1, h.2], rfl⟩⟩ rfl rfl
  have := kcell_injective h.1
  exact ⟨congrArg Prod.fst this, congrArg Prod.snd this⟩

theorem total_nxt (κ : Fin 7 → Key) (n : ℕ) (c : Dev nD) (k : Key) :
    (∑ d : Dev nD, (∑ j, tallyAt (kcell (nxt d j, κ j)) () n : CT) (kcell (c, k)) ()) = ∑ j, if k = κ j then n else 0 := by
  rw [Finset.sum_congr rfl fun d _ => eval_sum _ _, Finset.sum_comm]
  refine Finset.sum_congr rfl fun j _ => ?_
  rw [Finset.sum_congr rfl fun d _ => cell_tally (nxt d j) c (κ j) k n, Finset.sum_eq_single (prv c j)]
  · rw [nxt_prv]; simp
  · intro d _ hd; rw [if_neg fun h => hd (by rw [h.1, prv_nxt])]
  · intro h; exact absurd (Finset.mem_univ _) h
theorem total_prv (κ : Fin 7 → Key) (n : ℕ) (c : Dev nD) (k : Key) :
    (∑ d : Dev nD, (∑ j, tallyAt (kcell (prv d j, κ j)) () n : CT) (kcell (c, k)) ()) = ∑ j, if k = κ j then n else 0 := by
  rw [Finset.sum_congr rfl fun d _ => eval_sum _ _, Finset.sum_comm]
  refine Finset.sum_congr rfl fun j _ => ?_
  rw [Finset.sum_congr rfl fun d _ => cell_tally (prv d j) c (κ j) k n, Finset.sum_eq_single (nxt c j)]
  · rw [prv_nxt]; simp
  · intro d _ hd; rw [if_neg fun h => hd (by rw [h.1, nxt_prv])]
  · intro h; exact absurd (Finset.mem_univ _) h

/-- What all devices together owe a cell. -/
def total (k : Key) : ℕ := (∑ j : Fin 7, if k = .inl 0 then 1 else 0) + ((∑ j : Fin 7, if k = .inr (1, j) then NA else 0) + (∑ j : Fin 7, if k = .inr (3, j) then NL else 0)
    + ((∑ j : Fin 7, if k = .inr (5, j) then NG else 0) + ∑ j : Fin 7, if k = .inl 1 then 1 else 0))

theorem total_eq (c : Dev nD) (k : Key) : (∑ d : Dev nD, O₀ d (kcell (c, k)) ()) = total k := by
  rw [Finset.sum_congr rfl fun d _ => by rw [owed_sum d, Pi.add_apply, Finsupp.add_apply, Pi.add_apply, Finsupp.add_apply, Pi.add_apply, Finsupp.add_apply, Pi.add_apply, Finsupp.add_apply],
    Finset.sum_add_distrib, Finset.sum_add_distrib, Finset.sum_add_distrib, Finset.sum_add_distrib,
    total_nxt (fun _ => .inl 0), total_nxt (fun j => .inr (1, j)), total_nxt (fun j => .inr (3, j)), total_prv (fun j => .inr (5, j)), total_nxt (fun _ => .inl 1)]
  rfl

theorem total_b : total (.inl 0) = 7 := by unfold total; simp
theorem total_s : total (.inl 1) = 7 := by unfold total; simp
theorem total_d (k : Fin 6) (hk : k = 1 ∨ k = 3 ∨ k = 5) (j : Fin 7) : total (.inr (k, j)) = amt k := by
  unfold total
  rcases hk with rfl | rfl | rfl <;> simp [amt]

theorem launch_at (c : Dev nD) (k : Key) :
    tallyOn (kcell (c, k)) (launchCredit (Pipeline.owing O₀) 0 (kcell (c, k))) = (tallyAt (kcell (c, k)) () (total k) : CT) := by
  unfold tallyAt; refine congrArg _ (Finsupp.ext fun u => ?_); cases u
  rw [Pipeline.launchCredit_owing, Finsupp.single_eq_same, total_eq]

/-- What device `c` may wait for. -/
def creds (c : Dev nD) : sProp 𝕄 := iprop((cred (tallyAt (bC c) () 7) ∗ cred (tallyAt (sC c) () 7))
  ∗ (bigSep Finset.univ fun j : Fin 7 => cred (tallyAt (dC 1 c j) () (amt 1))) ∗ (bigSep Finset.univ fun j : Fin 7 => cred (tallyAt (dC 3 c j) () (amt 3)))
  ∗ bigSep Finset.univ fun j : Fin 7 => cred (tallyAt (dC 5 c j) () (amt 5)))

omit [FloatOps F] in
theorem creds_intro (c : Dev nD) : (Pipeline.launchCred O₀ c : sProp 𝕄) ⊢ creds c := by
  unfold Pipeline.launchCred
  refine (bigSep_subset (t := (Finset.univ : Finset Key).map ⟨ksem, ksem_injective⟩) (Finset.subset_univ _)).trans ?_
  rw [bigSep_map]
  refine (Entails.of_eq (bigSep_congr (Ψ := fun k : Key => (cred (tallyAt (kcell (c, k)) () (total k)) : sProp 𝕄)) fun k _ => congrArg cred (launch_at c k))).trans ?_
  rw [over_keys]
  have e : ∀ k : Fin 6, k = 1 ∨ k = 3 ∨ k = 5 → (bigSep Finset.univ fun j : Fin 7 => cred (tallyAt (kcell (c, .inr (k, j))) () (total (.inr (k, j)))))
      ⊢ (bigSep Finset.univ fun j : Fin 7 => cred (tallyAt (dC k c j) () (amt k)) : sProp 𝕄) := fun k hk =>
    Entails.of_eq (bigSep_congr fun j _ => by rw [total_d k hk j])
  unfold arrays creds
  rw [total_b, total_s]
  iintro ⟨⟨Hb, Hs⟩, -, H1, -, H3, -, H5⟩
  isplitl [Hb Hs]
  · isplitl [Hb] <;> iassumption
  isplitl [H1]; · iapply (e 1 (by decide)); iexact H1
  isplitl [H3]; · iapply (e 3 (by decide)); iexact H3
  iapply (e 5 (by decide)); iexact H5

end Cert.KernelIdeal.Run
-- ==== Proof.KernelIdealRun.Launch.lean ====
/- The launch: every device's body run together, from any memory with all counters zero. -/
module

public import proofs.«01_k».proof.Proof.KernelIdealRun.Credit
public import Idealize.ShloMosaic.Lib.Pipeline.CollectiveSegs
public import proofs.«01_k».proof.Proof.Gen.KernelIdeal.Points

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- What each device's blocks of the arguments hold. -/
def insOf : Ins F where
  x c := (win0_0.blk t0_0).view.read (Elt F) (m ((c : Thread nD τ).loc main_arg0))
  wq c := (win0_1.blk t0_0).view.read (Elt F) (m ((c : Thread nD τ).loc main_arg1))
  k c := (win0_2.blk t0_0).view.read (Elt F) (m ((c : Thread nD τ).loc main_arg2))
  v c := (win0_3.blk t0_0).view.read (Elt F) (m ((c : Thread nD τ).loc main_arg3))
  wo c := (win0_4.blk t0_0).view.read (Elt F) (m ((c : Thread nD τ).loc main_arg4))

/-! ## The body at the pipeline's one point -/

/-- A device's positions on its own cells. -/
def posns (c : Dev nD) : sProp 𝕄 := bigSep Finset.univ fun k : Key => atPos ER (kcell (c, k)) 0 ∅ 0

/-- A device's own scratch buffers. -/
def scr (c : Dev nD) : sProp 𝕄 := iprop(anyB c cc0_scratch0 ∗ anyB c cc0_scratch1 ∗ anyB c cc0_scratch2 ∗ anyB c cc0_scratch3
  ∗ anyB c cc0_scratch4 ∗ anyB c cc0_scratch5 ∗ anyB c cc0_scratch6 ∗ anyB c cc0_scratch7)

def G' (c : Dev nD) : sProp 𝕄 := iprop(∃ K : Dev nD × Key → ℕ, ((bigSep Finset.univ fun ck : Dev nD × Key => cellInv ER (rd (insOf m)) (K ck) (kcell ck))
    ∗ (bigSep Finset.univ fun ck : Dev nD × Key => reached ER (kcell ck) 0)) ∗ posns c ∗ payToks c)

def start (c : Dev nD) : sProp 𝕄 := iprop((∃ K : Dev nD × Key → ℕ, recs (insOf m) K ∗ posns c ∗ payToks c) ∗ creds c)
def Φ₀ (c : Dev nD) : sProp 𝕄 := iprop(start m c ∗ scr c)
def Φ₁ (c : Dev nD) : sProp 𝕄 := iprop((bigSep Finset.univ fun k : Key => semVal (kcell (c, k)) 0) ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m).x c
    | ⟨1, _⟩ => (insOf m).wq c
    | ⟨2, _⟩ => (insOf m).k c
    | ⟨3, _⟩ => (insOf m).v c
    | ⟨4, _⟩ => (insOf m).wo c
    | ⟨5, _⟩ => outF (insOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ c ∗ (dats m ρ 0 c).owesAt () t0_0.succ
    ∗ stg c cc0_stg0_0 ((insOf m).x c) ∗ stg c cc0_stg1_0 ((insOf m).wq c) ∗ stg c cc0_stg2_0 ((insOf m).k c)
    ∗ stg c cc0_stg3_0 ((insOf m).v c) ∗ stg c cc0_stg4_0 ((insOf m).wo c) ∗ stg c cc0_stg5_0 (outF (insOf m) c))

section Res
variable (c : Dev nD)

/-- The resources of a device, in the form the body takes them. -/
def given : sProp 𝕄 := iprop(bigSep Finset.univ (bQ (F := F) c) ∗ cred (tallyAt (bC c) () 7) ∗ atPos ER (bC c) 0 ∅ 0 ∗ bigSep Finset.univ (sendTok (F := F) c)
  ∗ bigSep Finset.univ (gTok (F := F) c) ∗ bigSep Finset.univ (wQ (F := F) c 1) ∗ bigSep Finset.univ (wQ (F := F) c 3) ∗ bigSep Finset.univ (wQ (F := F) c 5)
  ∗ bigSep Finset.univ (sQ (F := F) c) ∗ cred (tallyAt (sC c) () 7) ∗ atPos ER (sC c) 0 ∅ 0)

omit [FloatOps F] in
theorem sendTok_all : bigSep Finset.univ (sendTok (F := F) c) = iprop(((bigSep Finset.univ fun j : Fin 7 => dutyTok ER (dC 0 c j) 0 0) ∗ (bigSep Finset.univ fun j : Fin 7 => dutyTok ER (dC 1 (nxt c j) j) 0 0)
    ∗ (bigSep Finset.univ fun j : Fin 7 => dutyTok ER (dC 2 c j) 0 0) ∗ bigSep Finset.univ fun j : Fin 7 => dutyTok ER (dC 3 (nxt c j) j) 0 0)
    ∗ (bigSep Finset.univ fun j : Fin 7 => atPos ER (dC 0 c j) 0 ∅ 0) ∗ bigSep Finset.univ fun j : Fin 7 => atPos ER (dC 2 c j) 0 ∅ 0) := by
  rw [← bigSep_sep', ← bigSep_sep', ← bigSep_sep', ← bigSep_sep', ← bigSep_sep']; rfl
omit [FloatOps F] in
theorem gTok_all : bigSep Finset.univ (gTok (F := F) c) = iprop(((bigSep Finset.univ fun j : Fin 7 => dutyTok ER (dC 4 c j) 0 0) ∗ bigSep Finset.univ fun j : Fin 7 => dutyTok ER (dC 5 (prv c j) j) 0 0)
    ∗ bigSep Finset.univ fun j : Fin 7 => atPos ER (dC 4 c j) 0 ∅ 0) := by
  rw [← bigSep_sep', ← bigSep_sep']; rfl
omit [FloatOps F] in
theorem wQ_all (k : Fin 6) : bigSep Finset.univ (wQ (F := F) c k) = iprop((bigSep Finset.univ fun j : Fin 7 => cred (tallyAt (dC k c j) () (amt k))) ∗ bigSep Finset.univ fun j : Fin 7 => atPos ER (dC k c j) 0 ∅ 0) := by
  rw [← bigSep_sep']; rfl

theorem given_intro : iprop(posns (F := F) c ∗ payToks c ∗ creds c ∗ anyB (F := F) c cc0_scratch4 ∗ anyB (F := F) c cc0_scratch5 ∗ anyB (F := F) c cc0_scratch7) ⊢ given (F := F) c := by
  unfold given posns
  rw [over_keys, sendTok_all, gTok_all, wQ_all, wQ_all, wQ_all]
  unfold arrays payToks creds
  iintro ⟨⟨⟨Pb, Ps⟩, P0, P1, P2, P3, P4, P5⟩, ⟨⟨Tb, Ts⟩, T0, T1, T2, T3, T4, T5⟩, ⟨⟨Cb, Cs⟩, C1, C3, C5⟩, A4, A5, A7⟩
  isplitl [Tb A4 A5 A7]
  · iapply (bQ_intro (F := F) c)
    isplitl [Tb]; · iexact Tb
    isplitl [A4]; · iexact A4
    isplitl [A5]; · iexact A5
    iexact A7
  isplitl [Cb]; · iexact Cb
  isplitl [Pb]; · iexact Pb
  isplitl [T0 T1 T2 T3 P0 P2]
  · isplitr [P0 P2]
    · isplitl [T0]; · iexact T0
      isplitl [T1]; · iexact T1
      isplitl [T2]; · iexact T2
      iexact T3
    · isplitl [P0]; · iexact P0
      iexact P2
  isplitl [T4 T5 P4]
  · isplitr [P4]
    · isplitl [T4]; · iexact T4
      iexact T5
    · iexact P4
  isplitl [C1 P1]
  · isplitl [C1]; · iexact C1
    iexact P1
  isplitl [C3 P3]
  · isplitl [C3]; · iexact C3
    iexact P3
  isplitl [C5 P5]
  · isplitl [C5]; · iexact C5
    iexact P5
  isplitl [Ts]; · iexact Ts
  isplitl [Cs]; · iexact Cs
  iexact Ps

end Res

section Body
variable (I : Ins F) (K : Dev nD × Key → ℕ) (c : Dev nD)

/-- The body from a device's resources to its closed cells and whole buffers. -/
theorem body_given {Q : PUnit.{1} → sProp 𝕄} (f5 : Buf (Elt F) ((c : Thread nD τ).loc cc0_stg5_0)) :
    iprop(recs I K ∗ ow c (O₀ c) ∗ posns (F := F) c ∗ payToks c ∗ creds c ∗ scr c ∗ ins I c ∗ ((c : Thread nD τ).loc cc0_stg4_0 ↦{fullShare} I.wo c)
        ∗ ((c : Thread nD τ).loc cc0_stg5_0 ↦{fullShare} f5))
      ⊢ iprop(((ow c 0 ∗ (bigSep Finset.univ fun k : Key => semVal (kcell (c, k)) 0) ∗ scr c ∗ ins I c ∗ ((c : Thread nD τ).loc cc0_stg4_0 ↦{fullShare} I.wo c)
            ∗ ((c : Thread nD τ).loc cc0_stg5_0 ↦{fullShare} (outF I c : Buf (Elt F) ((c : Thread nD τ).loc cc0_stg5_0)))) -∗ Q ⟨⟩)
          -∗ WP c (on (cc0_body (F := F))) Q) := by
  unfold scr
  iintro ⟨#HR, HO, Hp, Ht, Hc, ⟨A0, A1, A2, A3, A4, A5, A6, A7⟩, Hi, Hw, Ho⟩ Hpost
  ihave Hg := (given_intro (F := F) c) $$ [Hp Ht Hc A4 A5 A7]
  · iframe Hp Ht Hc A4 A5 A7
  unfold given
  icases Hg with ⟨G1, G2, G3, G4, G5, G6, G7, G8, G9, G10, G11⟩
  ihave A0 := (start_acc I c) $$ A0
  ihave A1 := (start_l I c) $$ A1
  ihave Ho := (start_out I c f5) $$ Ho
  ihave A2 := ((split_fA (F := F) c).trans (Entails.of_eq four)) $$ A2
  ihave A3 := ((split_fL (F := F) c).trans (Entails.of_eq four)) $$ A3
  ihave A6 := (show anyB (F := F) c cc0_scratch6 ⊢ anyS (F := F) c from BIBase.Entails.rfl) $$ A6
  iapply (body_run I K c) $$ [HO G1 G2 G3 G4 G5 G6 G7 G8 G9 G10 G11 Hi Hw Ho A0 A1 A2 A3 A6]
  · isplitr; · iexact HR
    isplitl [HO]; · iexact HO
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [Hi]; · iexact Hi
    isplitl [Hw]; · iexact Hw
    isplitl [Ho]; · iexact Ho
    isplitl [A0]; · iexact A0
    isplitl [A1]; · iexact A1
    isplitl [A2]; · iexact A2
    isplitl [A3]; · iexact A3
    iexact A6
  iintro ⟨HO, Hi, Hw, A0, A1, W1, W3, W5, W4, Hb, Hg, Zb, Zs, Ho⟩
  iapply Hpost
  ihave A0 := (end_acc I c) $$ A0
  ihave A1 := (end_l I c) $$ A1
  ihave Ho := (end_out I c) $$ Ho
  ihave W1 := (end_A I c) $$ W1
  ihave W3 := (end_L I c) $$ W3
  ihave W5 := (end_G I c) $$ W5
  ihave Hb := (end_back I c) $$ Hb
  ihave Hg := (gS_join I c) $$ [W4 Hg]
  · isplitl [W4] <;> iassumption
  icases W1 with ⟨Z1, A4⟩
  icases W3 with ⟨Z3, A5⟩
  icases W5 with ⟨Z5, A7⟩
  icases Hb with ⟨⟨A2, A3⟩, Z0, Z2⟩
  icases Hg with ⟨Z4, A6⟩
  rw [over_keys]
  unfold arrays
  isplitl [HO]; · iexact HO
  isplitl [Zb Zs Z0 Z1 Z2 Z3 Z4 Z5]
  · isplitl [Zb Zs]
    · isplitl [Zb]; · iexact Zb
      iexact Zs
    isplitl [Z0]; · iexact Z0
    isplitl [Z1]; · iexact Z1
    isplitl [Z2]; · iexact Z2
    isplitl [Z3]; · iexact Z3
    isplitl [Z4]; · iexact Z4
    iexact Z5
  isplitr [Hi Hw Ho]
  · isplitl [A0]; · iexact A0
    isplitl [A1]; · iexact A1
    isplitl [A2]; · iexact A2
    isplitl [A3]; · iexact A3
    isplitl [A4]; · iexact A4
    isplitl [A5]; · iexact A5
    isplitl [A6]; · unfold anyB; iexists (gH I c); iexact A6
    iexact A7
  isplitl [Hi]; · iexact Hi
  isplitl [Hw]; · iexact Hw
  iexact Ho

end Body

omit [FloatOps F] in
theorem ow_of (c : Dev nD) (O : CT) (W : Waits sig Unit) : (owes (c : Thread nD τ) O W : sProp 𝕄) ⊢ ow c O := by
  unfold ow; iintro H; iexists W; iexact H

set_option maxHeartbeats 800000 in
theorem sound_body (c : Dev nD) (Kt : PUnit.{1} → sProp 𝕄) :
    iprop(bodyPre m ρ c ∗ (bodyPost m ρ c -∗ Kt ⟨⟩)) ⊢ WP c (on (cc0_body (F := F))) Kt := by
  unfold bodyPre Φ₀ start
  iintro ⟨⟨⟨⟨⟨%K, #HR, Hp, Ht⟩, Hc⟩, Hs⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩, Hk⟩
  have e0 : g0 = (insOf m).x c := by rw [h0]; unfold Dat.before; rw [if_pos (fetch0_0 t0_0)]; rfl
  have e1 : g1 = (insOf m).wq c := by rw [h1]; unfold Dat.before; rw [if_pos (fetch0_1 t0_0)]; rfl
  have e2 : g2 = (insOf m).k c := by rw [h2]; unfold Dat.before; rw [if_pos (fetch0_2 t0_0)]; rfl
  have e3 : g3 = (insOf m).v c := by rw [h3]; unfold Dat.before; rw [if_pos (fetch0_3 t0_0)]; rfl
  have e4 : g4 = (insOf m).wo c := by rw [h4]; unfold Dat.before; rw [if_pos (fetch0_4 t0_0)]; rfl
  clear h0 h1 h2 h3 h4 h5
  subst e0 e1 e2 e3 e4
  unfold Dat.owesAt Pipeline.owesWithin
  icases Ho with ⟨%W, %hW, HO⟩
  ihave HO := (show (owes (c : Thread nD τ) ((dats m ρ 0 c).owed t0_0.castSucc) W : sProp 𝕄) ⊢ ow c (O₀ c) from ow_of c (O₀ c) W) $$ HO
  iapply (body_given (insOf m) K c g5) $$ [HO Hp Ht Hc Hs H0 H1 H2 H3 H4 H5]
  · isplitr; · iexact HR
    isplitl [HO]; · iexact HO
    isplitl [Hp]; · iexact Hp
    isplitl [Ht]; · iexact Ht
    isplitl [Hc]; · iexact Hc
    isplitl [Hs]; · iexact Hs
    isplitl [H0 H1 H2 H3]
    · unfold ins
      isplitl [H0]; · iexact H0
      isplitl [H1]; · iexact H1
      isplitl [H2]; · iexact H2
      iexact H3
    isplitl [H4]; · iexact H4
    iexact H5
  unfold ow ins
  iintro ⟨⟨%W', HO⟩, Hz, Hs, ⟨H0, H1, H2, H3⟩, H4, H5⟩
  iapply Hk
  unfold bodyPost Φ₁
  isplitl [Hz Hs]
  · isplitl [Hz] <;> iassumption
  isplitl [HO]
  · unfold Dat.owesAt Pipeline.owesWithin
    iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (on (cc0_body (F := F))) (fun _ => bodyPost m ρ c)
  iintro H
  iapply (sound_body m ρ c fun _ => bodyPost m ρ c)
  isplitl [H]; · iexact H
  iintro H; iexact H

/-! ## The launch -/

/-- The kernel's own semaphores: the second barrier and the six arrays. -/
def osem : Unit ⊕ (Fin 6 × Fin 7) → SemLoc sig
  | .inl _ => .reg (1 : Fin 2)
  | .inr kj => ksem (.inr kj)

theorem ownSemFacts : Pipeline.OwnSemFacts cfg0.spec osem := by decide +kernel
theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf ringCells ringToks)

def G (c : Dev nD) : sProp 𝕄 :=
  iprop((bigSep Finset.univ fun k : Key => roundState ER (rd (insOf m)) (kcell (c, k)) 0)
    ∗ (bigSep Finset.univ fun k : Key => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Key => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    refine (bigSep_univ_sum _).trans ?_
    rw [bigSep_univ_prod, bigSep_univ_prod, BI.bigSep_fin_two, over_six]
    rfl
  iintro HX
  imod (Rounds.fund ER (rd (insOf m)) ringCells ringToks) $$ HX with ⟨Hst, Hr, Hat, Htok⟩
  imodintro
  ihave Hst' := (Entails.of_eq (hX fun g => roundState ER (rd (insOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sC c) 0 ∗ arrays fun k j => semVal (dC k c j) 0) := by
  rw [← over_dma (fun kj => (semVal (kcell (c, .inr kj)) 0 : sProp 𝕄))]
  refine (bigSep_univ_sum _).trans ?_
  rw [show (Finset.univ : Finset Unit) = {()} from rfl, bigSep_singleton]
  rfl
omit [FloatOps F] in
theorem unscopedSems0_eq (c : Dev nD) : (unscopedSems0 c : sProp 𝕄) = semVal (bC c) 0 := by
  unfold unscopedSems0; rw [bigSep_eq_bigSepL_of_eq [SemLoc.reg (0 : Fin 2)] (by decide) (by decide)]; rfl

omit [FloatOps F] in
/-- A device's counters are those of its cells. -/
theorem sems0_eq (c : Dev nD) :
    (bigSep Finset.univ fun k : Key => semVal (kcell (c, k)) 0 : sProp 𝕄)
      = iprop((unscopedSems0 c ∗ semVal (sC c) 0) ∗ arrays fun k j => semVal (dC k c j) 0) := by
  rw [unscopedSems0_eq, over_keys]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd (insOf m)) κ (kcell (c, k))))
          ∗ (bigSep Finset.univ fun k => iprop(atPos ER (kcell (c, k)) 0 ∅ 0 ∗ reached ER (kcell (c, k)) 0)) ∗ toks c) := by
  unfold G
  rw [ownSems0_eq]
  iintro ⟨⟨Hs, Ha⟩, Hus, Hst, Hat, Htok⟩
  ihave Hv := (Entails.of_eq (sems0_eq (F := F) c).symm) $$ [Hs Ha Hus]
  · isplitr [Ha]
    · isplitl [Hus] <;> iassumption
    · iexact Ha
  imod (show iprop((bigSep Finset.univ fun k : Key => semVal (kcell (c, k)) 0) ∗ bigSep Finset.univ fun k : Key => roundState ER (rd (insOf m)) (kcell (c, k)) 0)
      ⊢ (|={Set.univ}=> bigSep Finset.univ fun k => iprop(∃ κ : ℕ, cellInv ER (rd (insOf m)) κ (kcell (c, k))) : sProp 𝕄) from by
        rw [← bigSep_sep']
        exact (bigSep_mono fun k _ => (Rounds.body_intro ER (rd (insOf m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Key → ℕ) : sProp 𝕄 :=
  iprop((bigSep Finset.univ fun ck : Dev nD × Key => cellInv ER (rd (insOf m)) (K ck) (kcell ck))
    ∗ bigSep Finset.univ fun ck : Dev nD × Key => reached ER (kcell ck) 0)
instance records_persistent (K : Dev nD × Key → ℕ) : BI.Persistent (records m K) := by unfold records; infer_instance

theorem ghost_intro (K : Dev nD × Key → ℕ) (c : Dev nD) : iprop(records m K ∗ posns (F := F) c ∗ payToks c) ⊢ G' m c := by
  unfold records G'
  iintro ⟨HR, Hp, Ht⟩
  iexists K
  isplitl [HR]; · iexact HR
  isplitl [Hp] <;> iassumption

omit [FloatOps F] in
theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd (insOf m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Key => iprop(∃ κ : ℕ, cellInv ER (rd (insOf m)) κ (kcell ck))),
    bigSep_congr (s := Finset.univ) (fun (c : Dev nD) _ => bigSep_sep' Finset.univ (fun k : Key => (atPos ER (kcell (c, k)) 0 ∅ 0 : sProp 𝕄)) (fun k => reached ER (kcell (c, k)) 0)),
    bigSep_sep', ← bigSep_univ_prod (fun ck : Dev nD × Key => (reached ER (kcell ck) 0 : sProp 𝕄))]
  iintro ⟨HI, ⟨Hat, #HR⟩, Htok⟩
  ihave HK := (BI.bigSep_exists_pi Finset.univ (fun (ck : Dev nD × Key) (κ : ℕ) => (cellInv ER (rd (insOf m)) κ (kcell ck) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · iapply (Entails.of_eq (bigSep_sep' Finset.univ (posns (F := F)) payToks).symm)
    isplitl [Hat]
    · unfold posns; iexact Hat
    · iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, ⟨%K, ⟨HI, HR⟩, Hp, Ht⟩⟩
  ihave Hc := (creds_intro (F := F) c) $$ Hcr
  imodintro
  unfold start recs
  isplitl
  · isplitr [Hc]
    · iexists K
      isplitl [HI HR Hlev]
      · isplitl [HI]; · iexact HI
        isplitl [HR] <;> iassumption
      isplitl [Hp] <;> iassumption
    · iexact Hc
  · iempintro

omit [FloatOps F] in
theorem scr_eq (c : Dev nD) : (Pipeline.scopedRest (Ix := Unit) (Name := ℕ) (U := UU) (Lvl := ℕ) (Val := Elt F) cfg0.spec c : sProp 𝕄) = scr c := scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq, ownSems0_eq]
  unfold Φ₁
  rw [sems0_eq]
  iintro ⟨⟨⟨Hu, Hs⟩, Ha⟩, Hr⟩
  isplitl [Hu]; · iexact Hu
  isplitr [Hr]
  · isplitl [Hs] <;> iassumption
  · iexact Hr

theorem above_O₀ (c : Dev nD) : Above 0 (O₀ c) := by
  unfold O₀
  exact above_add (above_oB c _) (above_add ((above_oR c _).mono (by decide)) (above_add ((above_oG c _).mono (by decide)) ((above_oS c _).mono (by decide))))

theorem waits (c : Dev nD) : (levAts L lv : sProp 𝕄) ⊢ Pipeline.cellsWaits cfgs (dats m ρ) () 0 c :=
  Pipeline.cellsWaits_intro cfgs (dats m ρ) () 0 c fun w s t =>
    mayWait 0 c _ _ (by fin_cases w <;> fin_cases s <;> exact Nat.le_refl 0) (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every fair execution ends, each device's arrays at the contents computed, the counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.KernelIdeal.Run
-- ==== Proof.Value.Kern.lean ====
/- The kernel's result, read element by element over the reals. -/
module

public import proofs.«01_k».proof.Proof.KernelIdealRun.Vals
public import Idealize.ShloMosaic.Lib.Pointwise

@[expose] public section

set_option maxRecDepth 16384

noncomputable section

namespace Cert.Value

open Cert.KernelIdeal Cert.KernelIdeal.Gen Cert.KernelIdeal.Run Idealize.ShloMosaic Idealize.ShloMosaic.TcCoe

/-- The row that place `n` of row group `r` had before the permutation. -/
def orig (r : Fin 4) (n : Fin 256) : Fin 1024 := ⟨n.val / 64 * 256 + r.val * 64 + n.val % 64, by omega⟩
/-- The column of lane `d` of head `h`. -/
def lane (h : Fin 8) (d : Fin 128) : Fin 1024 := ⟨128 * h.val + d.val, by omega⟩

/-- The scaled and permuted queries. -/
theorem pay1_apply (x : FVec Ideal S1x1024x1024 .bf16) (wq : FVec Ideal S1024x1024 .bf16) (r : Fin 4) (n : Fin 256) (e : Fin 1024) :
    k0_pay1 x wq (ix3 r n e) = (∑ k : Fin 1024, x (ix3 0 (orig r n) k) * wq (ix2 k e)) * Ideal.ofBits .f32 0x3DB504F3#32 := by
  unfold k0_pay1
  pointwise []
  rfl
/-- The permuted keys. -/
theorem pay2_apply (k : FVec Ideal S1x1024x8x128 .bf16) (r : Fin 4) (n : Fin 256) (h : Fin 8) (d : Fin 128) :
    k0_pay2 k (ix4 r n h d) = k (ix4 0 (orig r n) h d) := by
  unfold k0_pay2
  pointwise []
  rfl
/-- The permuted values. -/
theorem pay3_apply (v : FVec Ideal S1x1024x8x128 .bf16) (r : Fin 4) (n : Fin 256) (h : Fin 8) (d : Fin 128) :
    k0_pay3 v (ix4 r n h d) = v (ix4 0 (orig r n) h d) := by
  unfold k0_pay3
  pointwise []
  rfl
/-- The exponentials of one row group and head. -/
theorem pB_apply (q : FVec Ideal S4x256x1024 .bf16) (k : FVec Ideal S4x256x8x128 .bf16) (r : Fin 4) (h : Fin 8) (n j : Fin 256) :
    pB q k r h (ix2 n j) = Ideal.exp (∑ d : Fin 128, q (ix3 r n (lane h d)) * k (ix4 r j h d)) := by
  unfold pB
  generalize qSlices r h = hq
  generalize kSlices r h = hk
  pointwise []
  rfl
/-- Their row sums. -/
theorem lB_apply (q : FVec Ideal S4x256x1024 .bf16) (k : FVec Ideal S4x256x8x128 .bf16) (r : Fin 4) (h : Fin 8) (n : Fin 256) :
    lB q k r h (ix2 n 0) = ∑ j : Fin 256, pB q k r h (ix2 n j) := by
  unfold lB
  generalize pB q k r h = y
  pointwise []
/-- Their products with the values. -/
theorem aB_apply (q : FVec Ideal S4x256x1024 .bf16) (k v : FVec Ideal S4x256x8x128 .bf16) (r : Fin 4) (h : Fin 8) (n : Fin 256) (d : Fin 128) :
    aB q k v r h (ix3 n 0 d) = ∑ j : Fin 256, pB q k r h (ix2 n j) * v (ix4 r j h d) := by
  unfold aB
  generalize pB q k r h = y
  generalize kSlices r h = hk
  pointwise []

/-! ## The normalised rows -/

/-- The peers of `c`, counted down from `c` itself. -/
def rot (c : Dev nD) (i : Fin 8) : Dev nD := ⟨(c.val + 8 - i.val) % 8, Nat.mod_lt _ (by decide)⟩
/-- Counting down from a device meets every device once. -/
theorem rot_bij (c : Dev nD) : Function.Bijective (rot c) := by revert c; decide
/-- The eight places of that count are the device and its seven peers. -/
theorem rot_eq (c : Dev nD) : rot c 0 = c ∧ rot c 1 = prv c 0 ∧ rot c 2 = prv c 1 ∧ rot c 3 = prv c 2 ∧ rot c 4 = prv c 3 ∧ rot c 5 = prv c 4
    ∧ rot c 6 = prv c 5 ∧ rot c 7 = prv c 6 := by revert c; decide

/-- The own term and the seven peers' terms are all eight devices' terms. -/
theorem sum_prv (c : Dev nD) (f : Dev nD → EReal) :
    f c + f (prv c 0) + f (prv c 1) + f (prv c 2) + f (prv c 3) + f (prv c 4) + f (prv c 5) + f (prv c 6) = ∑ p, f p := by
  rw [← Fintype.sum_bijective (rot c) (rot_bij c) (fun i => f (rot c i)) f fun _ => rfl, Fin.sum_univ_eight]
  obtain ⟨h0, h1, h2, h3, h4, h5, h6, h7⟩ := rot_eq c
  rw [h0, h1, h2, h3, h4, h5, h6, h7]

/-- The normalised rows as a quotient of two sums of eight terms. -/
theorem ctx_apply (a : FVec Ideal S128x8x128 .f32) (l : FVec Ideal S128x8 .f32) (a0 a1 a2 a3 a4 a5 a6 : FVec Ideal S1x128x8x128 .bf16)
    (l0 l1 l2 l3 l4 l5 l6 : FVec Ideal S1x128x8 .bf16) (n : Fin 128) (h : Fin 8) (d : Fin 128) :
    k0_pay127 (F := Ideal) (k0_pay125 a a0 a1 a2) (k0_pay126 l l0 l1 l2) a3 l3 a4 l4 a5 l5 a6 l6 (ix3 n h d)
      = Ideal.div (a (ix3 n h d) + a0 (ix4 0 n h d) + a1 (ix4 0 n h d) + a2 (ix4 0 n h d) + a3 (ix4 0 n h d) + a4 (ix4 0 n h d)
          + a5 (ix4 0 n h d) + a6 (ix4 0 n h d))
        (l (ix2 n h) + l0 (ix3 0 n h) + l1 (ix3 0 n h) + l2 (ix3 0 n h) + l3 (ix3 0 n h) + l4 (ix3 0 n h) + l5 (ix3 0 n h) + l6 (ix3 0 n h)) := by
  unfold k0_pay127 k0_pay125 k0_pay126
  pointwise []

/-- The rows of an array meant for a device. -/
theorem rows3_apply (X : S1024x8x128.Idx → EReal) (t : Dev nD) (n : Fin 128) (h : Fin 8) (d : Fin 128) :
    rows3 X t (ix3 n h d) = X (ix3 (rowOf t n) h d) := by
  unfold rows3
  refine congrArg X ?_
  funext a
  match a with
  | 0 => rfl
  | 1 => rfl
  | 2 => rfl
/-- The same of a row-sum array. -/
theorem rows2_apply (X : S1024x8.Idx → EReal) (t : Dev nD) (n : Fin 128) (h : Fin 8) : rows2 X t (ix2 n h) = X (ix2 (rowOf t n) h) := by
  unfold rows2
  refine congrArg X ?_
  funext a
  match a with
  | 0 => rfl
  | 1 => rfl
/-- Rounding is the identity over the reals. -/
theorem truncf_apply {s : Shape} (x : FVec Ideal s .f32) (i : s.Idx) : truncf .bf16 x bitsLt_bf16_f32 i = x i := rfl
/-- Widening is the identity. -/
theorem extf_apply {s : Shape} (x : FVec Ideal s .bf16) (i : s.Idx) : extf .f32 x bitsLt_bf16_f32 i = x i := rfl
/-- A leading axis of one added to a block of products. -/
theorem cast4_apply (y : FVec Ideal S128x8x128 .bf16) (n : Fin 128) (h : Fin 8) (d : Fin 128) :
    shapeCast S1x128x8x128 y cast4 (ix4 0 n h d) = y (ix3 n h d) := by
  pointwise []
/-- A leading axis of one added to a block of row sums. -/
theorem cast3_apply (y : FVec Ideal S128x8 .bf16) (n : Fin 128) (h : Fin 8) : shapeCast S1x128x8 y cast3 (ix3 0 n h) = y (ix2 n h) := by
  pointwise []
/-- What landed in a slot is the sending peer's products. -/
theorem aU_apply (I : Ins Ideal) (c : Dev nD) (j : Fin 7) (n : Fin 128) (h : Fin 8) (d : Fin 128) :
    aU I c j (ix4 0 n h d) = aF I (prv c j) (ix3 (rowOf c n) h d) := by
  unfold aU aS aH
  rw [cast4_apply, rows3_apply, truncf_apply]
/-- What landed in a slot is the sending peer's row sums. -/
theorem lU_apply (I : Ins Ideal) (c : Dev nD) (j : Fin 7) (n : Fin 128) (h : Fin 8) :
    lU I c j (ix3 0 n h) = lF I (prv c j) (ix2 (rowOf c n) h) := by
  unfold lU lS lH
  rw [cast3_apply, rows2_apply, truncf_apply]
/-- All row sums of a device, by row group and place. -/
theorem lF_apply (I : Ins Ideal) (c : Dev nD) (n : Fin 1024) (h : Fin 8) :
    lF I c (ix2 n h) = lB (qV I c) (kV I c) (grp n) h (ix2 (inGrp n) 0) := by
  refine congrArg (lB (qV I c) (kV I c) (grp n) h) ?_
  funext a
  match a with
  | 0 => rfl
  | 1 => rfl
/-- All products of a device, by row group and place. -/
theorem aF_apply (I : Ins Ideal) (c : Dev nD) (n : Fin 1024) (h : Fin 8) (d : Fin 128) :
    aF I c (ix3 n h d) = aB (qV I c) (kV I c) (vV I c) (grp n) h (ix3 (inGrp n) 0 d) := by
  refine congrArg (aB (qV I c) (kV I c) (vV I c) (grp n) h) ?_
  funext a
  match a with
  | 0 => rfl
  | 1 => rfl
  | 2 => rfl

/-- The normalised rows: all devices' products over all devices' row sums. -/
theorem ctxV_apply (I : Ins Ideal) (c : Dev nD) (n : Fin 128) (h : Fin 8) (d : Fin 128) :
    ctxV I c (ix3 n h d) = Ideal.div (∑ p, aF I p (ix3 (rowOf c n) h d)) (∑ p, lF I p (ix2 (rowOf c n) h)) := by
  unfold ctxV
  rw [ctx_apply, rows3_apply, rows2_apply]
  simp only [aU_apply, lU_apply]
  rw [sum_prv c fun p => aF I p (ix3 (rowOf c n) h d), sum_prv c fun p => lF I p (ix2 (rowOf c n) h)]

/-! ## The projected rows -/

/-- The product of the normalised rows with the output projection. -/
theorem pay128_apply (y : FVec Ideal S128x8x128 .bf16) (z : FVec Ideal S1024x1024 .bf16) (n : Fin 128) (f : Fin 1024) :
    k0_pay128 (F := Ideal) y z (ix2 n f) = ∑ e : Fin 1024, y (ix3 n ⟨e.val / 128, by omega⟩ ⟨e.val % 128, by omega⟩) * z (ix2 e f) := by
  unfold k0_pay128
  pointwise []
/-- The rounded product is the product. -/
theorem pay129_eq (y : FVec Ideal S128x8x128 .bf16) (z : FVec Ideal S1024x1024 .bf16) (i : S128x1024.Idx) :
    k0_pay129 (F := Ideal) y z i = k0_pay128 (F := Ideal) y z i := by
  unfold k0_pay129
  generalize k0_pay128 (F := Ideal) y z = w
  show shapeCast S128x1024 (truncf .bf16 w bitsLt_bf16_f32) shapeCasts_S128x1024_S128x1024 i = w i
  rw [shapeCast_self, truncf_apply]
/-- A block of the result is its owner's product, whether kept or received. -/
theorem gO_apply (I : Ins Ideal) (c p : Dev nD) (i : S128x1024.Idx) : gO I c p i = gF I p i := by
  unfold gO
  split
  case isTrue h => rw [h]
  · rw [extf_apply]
    exact pay129_eq _ _ i
/-- A row of the result is its owner's. -/
theorem outF_apply (I : Ins Ideal) (c : Dev nD) (n f : Fin 1024) : outF I c (ix3 0 n f) = gF I (own n) (ix2 (ownRow n) f) := by
  rw [← gO_apply I c]
  refine congrArg (gO I c (own n)) ?_
  funext a
  match a with
  | 0 => rfl
  | 1 => rfl

/-- The row of the whole arrays that the owner's row is. -/
theorem rowOf_own (n : Fin 1024) : (rowOf (own n) (ownRow n)).val = 256 * (n.val / 64 % 4) + 64 * (n.val / 256) + n.val % 64 := by
  show 128 * (2 * (n.val / 64 % 4) + n.val / 512) + (64 * (n.val / 256 % 2) + n.val % 64) = _
  omega
/-- The row group of a row the result's owner holds is its block's residue, -/
theorem grp_own (n : Fin 1024) : grp (rowOf (own n) (ownRow n)) = ⟨n.val / 64 % 4, by omega⟩ := by
  refine Fin.ext ?_
  show (rowOf (own n) (ownRow n)).val / 256 = n.val / 64 % 4
  rw [rowOf_own]
  omega
/-- and undoing the permutation gives the row back. -/
theorem orig_own (n : Fin 1024) : orig (grp (rowOf (own n) (ownRow n))) (inGrp (rowOf (own n) (ownRow n))) = n := by
  refine Fin.ext ?_
  show (rowOf (own n) (ownRow n)).val % 256 / 64 * 256 + (rowOf (own n) (ownRow n)).val / 256 * 64
    + (rowOf (own n) (ownRow n)).val % 256 % 64 = n.val
  rw [rowOf_own]
  obtain ⟨A, r, w, hA, hr, hw, h⟩ : ∃ A r w : Nat, A < 4 ∧ r < 4 ∧ w < 64 ∧ n.val = 256 * A + 64 * r + w :=
    ⟨n.val / 256, n.val / 64 % 4, n.val % 64, by omega, by omega, by omega, by omega⟩
  rw [show n.val / 64 % 4 = r by omega, show n.val / 256 = A by omega, show n.val % 64 = w by omega, h,
    show (256 * r + 64 * A + w) % 256 = 64 * A + w by omega, show (256 * r + 64 * A + w) / 256 = r by omega]
  omega

/-- A score's exponential, from device `p`'s arrays, for row `n` and place `j` of the keys of row group `r`. -/
def eK (I : Ins Ideal) (p : Dev nD) (n : Fin 1024) (h : Fin 8) (r : Fin 4) (j : Fin 256) : EReal :=
  Ideal.exp (∑ d : Fin 128, (∑ k : Fin 1024, I.x p (ix3 0 n k) * I.wq p (ix2 k (lane h d))) * Ideal.ofBits .f32 0x3DB504F3#32
    * I.k p (ix4 0 (orig r j) h d))

/-- An exponential of the permuted arrays, in the original rows and keys. -/
theorem pB_eK (I : Ins Ideal) (p : Dev nD) (r : Fin 4) (h : Fin 8) (n j : Fin 256) :
    pB (qV I p) (kV I p) r h (ix2 n j) = eK I p (orig r n) h r j := by
  rw [pB_apply]
  unfold eK qV kV
  refine congrArg Ideal.exp (Finset.sum_congr rfl fun d _ => ?_)
  rw [pay1_apply, pay2_apply]

/-- The kernel's result at row `n` and column `f`, on every device. -/
theorem out_apply (I : Ins Ideal) (c : Dev nD) (n f : Fin 1024) :
    outF I c (ix3 0 n f) = ∑ e : Fin 1024,
      Ideal.div (∑ p, ∑ j : Fin 256, eK I p n ⟨e.val / 128, by omega⟩ ⟨n.val / 64 % 4, by omega⟩ j
          * I.v p (ix4 0 (orig ⟨n.val / 64 % 4, by omega⟩ j) ⟨e.val / 128, by omega⟩ ⟨e.val % 128, by omega⟩))
        (∑ p, ∑ j : Fin 256, eK I p n ⟨e.val / 128, by omega⟩ ⟨n.val / 64 % 4, by omega⟩ j) * I.wo (own n) (ix2 e f) := by
  rw [outF_apply]
  refine (pay128_apply _ _ _ _).trans ?_
  refine Finset.sum_congr rfl fun e _ => congrArg (· * _) ?_
  rw [ctxV_apply]
  have ho := orig_own n
  have hg := grp_own n
  refine congrArg₂ Ideal.div (Finset.sum_congr rfl fun p _ => ?_) (Finset.sum_congr rfl fun p _ => ?_)
  · rw [aF_apply, aB_apply]
    refine Finset.sum_congr rfl fun j _ => ?_
    rw [pB_eK, ho, hg]
    unfold vV
    rw [pay3_apply]
  · rw [lF_apply, lB_apply]
    refine Finset.sum_congr rfl fun j _ => ?_
    rw [pB_eK, ho, hg]
end Cert.Value
-- ==== Proof.Value.Ref.lean ====
/- The reference's result as a short chain of named arrays, and its mask in plain words. -/
module

public import proofs.«01_k».proof.Proof.Gen.ReferenceIdeal.Run
public import Idealize.ShloMosaic.Lib.Pointwise

@[expose] public section

set_option maxRecDepth 16384

noncomputable section

namespace Cert.Value

open Cert.ReferenceIdeal Cert.ReferenceIdeal.Gen Idealize.ShloMosaic Idealize.ShloMosaic.TcCoe

/-! ## The mask -/

/-- The block of 64 each query row is in, as the reference's rounding division computes it. -/
def qblk : IVec S1024 32 :=
  select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))
/-- The block of 64 each key is in. -/
def kblk : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))
/-- The query blocks as a column. -/
def qcol : IVec S1024x1 32 := broadcastInDim S1024x1 ![0] bcast_S1024_S1024x1_0 qblk
/-- The key blocks as a row. -/
def krow : IVec S1x8192 32 := broadcastInDim S1x8192 ![1] bcast_S8192_S1x8192_1 kblk
/-- The divisor four, guarded against zero. -/
def four : IVec S_ 32 := select (cmpi .eq (id (constantI S_ 32 4#32)) (constantI S_ 32 0#32)) (constantI S_ 32 1#32) (id (constantI S_ 32 4#32))
/-- The key blocks' residues. -/
def kmod : IVec S1x8192 32 :=
  select (andi (cmpi .ne (cmpi .slt (Host.remsi krow (broadcastInDim S1x8192 ![] bcast_S_S1x8192 four)) (broadcastInDim S1x8192 ![] bcast_S_S1x8192 (constantI S_ 32 0#32))) (broadcastInDim S1x8192 ![] bcast_S_S1x8192 (cmpi .slt four (constantI S_ 32 0#32)))) (cmpi .ne (Host.remsi krow (broadcastInDim S1x8192 ![] bcast_S_S1x8192 four)) (broadcastInDim S1x8192 ![] bcast_S_S1x8192 (constantI S_ 32 0#32)))) (addi (Host.remsi krow (broadcastInDim S1x8192 ![] bcast_S_S1x8192 four)) (broadcastInDim S1x8192 ![] bcast_S_S1x8192 four)) (Host.remsi krow (broadcastInDim S1x8192 ![] bcast_S_S1x8192 four))
/-- The query blocks' residues. -/
def qmod : IVec S1024x1 32 :=
  select (andi (cmpi .ne (cmpi .slt (Host.remsi qcol (broadcastInDim S1024x1 ![] bcast_S_S1024x1 four)) (broadcastInDim S1024x1 ![] bcast_S_S1024x1 (constantI S_ 32 0#32))) (broadcastInDim S1024x1 ![] bcast_S_S1024x1 (cmpi .slt four (constantI S_ 32 0#32)))) (cmpi .ne (Host.remsi qcol (broadcastInDim S1024x1 ![] bcast_S_S1024x1 four)) (broadcastInDim S1024x1 ![] bcast_S_S1024x1 (constantI S_ 32 0#32)))) (addi (Host.remsi qcol (broadcastInDim S1024x1 ![] bcast_S_S1024x1 four)) (broadcastInDim S1024x1 ![] bcast_S_S1024x1 four)) (Host.remsi qcol (broadcastInDim S1024x1 ![] bcast_S_S1024x1 four))
/-- The mask: the same block, or the same residue. -/
def mask : IVec S1024x8192 1 :=
  ori (cmpi .eq (broadcastInDim S1024x8192 ![0, 1] bcast_S1024x1_S1024x8192_0_1 qcol) (broadcastInDim S1024x8192 ![0, 1] bcast_S1x8192_S1024x8192_0_1 krow)) (cmpi .eq (broadcastInDim S1024x8192 ![0, 1] bcast_S1x8192_S1024x8192_0_1 kmod) (broadcastInDim S1024x8192 ![0, 1] bcast_S1024x1_S1024x8192_0_1 qmod))
/-- Whether a query row keeps any key. -/
def keep : IVec S1024 1 := Host.reduce IntOp.ori mask (constantI S_ 1 0#1) reducesTo_S1024x8192_S1024_d1 h_S_

/-! ## The arrays -/

/-- The mask over all heads. -/
def mask4 : IVec S1x8x1024x8192 1 := broadcastInDim S1x8x1024x8192 ![0, 1, 2, 3] bcast_S1x1x1024x8192_S1x8x1024x8192_0_1_2_3 (broadcastInDim S1x1x1024x8192 ![2, 3] bcast_S1024x8192_S1x1x1024x8192_2_3 mask)
/-- The queries. -/
def qR (x : FVec Ideal S1x1024x1024 .bf16) (wq : FVec Ideal S1024x1024 .bf16) : FVec Ideal S1x1024x8x128 .bf16 :=
  shapeCast _ (truncf .bf16 (Host.dotGeneral dot_S1x1024x1024_S1024x1024_S1x1024x1024_2_0_01_1_n_n none x wq) bitsLt_bf16_f32) shapeCasts_S1x1024x1024_S1x1024x8x128
/-- The scaled scores. -/
def sR (q : FVec Ideal S1x1024x8x128 .bf16) (k : FVec Ideal S1x8192x8x128 .bf16) : FVec Ideal S1x8x1024x8192 .f32 :=
  mulf (extf .f32 (truncf .bf16 (Host.dotGeneral dot_S1x1024x8x128_S1x8192x8x128_S1x8x1024x8192_3_3_1_1_02_02 none q k) bitsLt_bf16_f32) bitsLt_bf16_f32) (broadcastInDim S1x8x1024x8192 ![] bcast_S_S1x8x1024x8192 (constant S_ .f32 0x3DB504F3#32))
/-- The masked scores. -/
def tR (s : FVec Ideal S1x8x1024x8192 .f32) : FVec Ideal S1x8x1024x8192 .f32 :=
  select mask4 s (broadcastInDim S1x8x1024x8192 ![] bcast_S_S1x8x1024x8192 (id (constant S_ .f32 0xFF800000#32)))
/-- Their row maximum. -/
def mR (t : FVec Ideal S1x8x1024x8192 .f32) : FVec Ideal S1x8x1024 .f32 :=
  Host.reduce FloatOps.maximumf t (constant S_ .f32 0xFF800000#32) reducesTo_S1x8x1024x8192_S1x8x1024_d3 h_S_
/-- The exponentials. -/
def eR (t : FVec Ideal S1x8x1024x8192 .f32) : FVec Ideal S1x8x1024x8192 .f32 :=
  Host.exp (subf t (broadcastInDim S1x8x1024x8192 ![0, 1, 2, 3] bcast_S1x8x1024x1_S1x8x1024x8192_0_1_2_3 (broadcastInDim S1x8x1024x1 ![0, 1, 2] bcast_S1x8x1024_S1x8x1024x1_0_1_2 (mR t))))
/-- Their row sums. -/
def dR (e : FVec Ideal S1x8x1024x8192 .f32) : FVec Ideal S1x8x1024x1 .f32 :=
  select (broadcastInDim S1x8x1024x1 ![0, 1, 2, 3] bcast_S1x1x1024x1_S1x8x1024x1_0_1_2_3 (broadcastInDim S1x1x1024x1 ![2] bcast_S1024_S1x1x1024x1_2 keep)) (broadcastInDim S1x8x1024x1 ![0, 1, 2] bcast_S1x8x1024_S1x8x1024x1_0_1_2 (Host.reduceAdd e (constant S_ .f32 0x00000000#32) reducesTo_S1x8x1024x8192_S1x8x1024_d3 h_S_)) (broadcastInDim S1x8x1024x1 ![] bcast_S_S1x8x1024x1 (id (constant S_ .f32 0x3F800000#32)))
/-- The weights. -/
def wR (e : FVec Ideal S1x8x1024x8192 .f32) : FVec Ideal S1x8x1024x8192 .f32 :=
  select (broadcastInDim S1x8x1024x8192 ![0, 1, 2, 3] bcast_S1x1x1024x1_S1x8x1024x8192_0_1_2_3 (broadcastInDim S1x1x1024x1 ![2] bcast_S1024_S1x1x1024x1_2 keep)) (Host.divf e (broadcastInDim S1x8x1024x8192 ![0, 1, 2, 3] bcast_S1x8x1024x1_S1x8x1024x8192_0_1_2_3 (dR e))) (broadcastInDim S1x8x1024x8192 ![] bcast_S_S1x8x1024x8192 (id (constant S_ .f32 0x00000000#32)))
/-- The attention's rows. -/
def cR (w : FVec Ideal S1x8x1024x8192 .f32) (v : FVec Ideal S1x8192x8x128 .bf16) : FVec Ideal S1x1024x1024 .f32 :=
  shapeCast _ (transpose S1x1024x8x128 [0, 3, 1, 2] (Host.dotGeneral dot_S1x8192x8x128_S1x8x1024x8192_S1x8x128x1024_1_3_3_2_02_01 none v w) transposes_S1x8x128x1024_S1x1024x8x128_0_3_1_2) shapeCasts_S1x1024x8x128_S1x1024x1024
/-- The reference's result. -/
def refOut (x : FVec Ideal S1x1024x1024 .bf16) (wq : FVec Ideal S1024x1024 .bf16) (k v : FVec Ideal S1x8192x8x128 .bf16) (wo : FVec Ideal S1024x1024 .bf16) :
    FVec Ideal S1x1024x1024 .f32 :=
  Host.dotGeneral dot_S1x1024x1024_S1024x1024_S1x1024x1024_2_0_01_1_n_n none (cR (wR (eR (tR (sR (qR x wq) k)))) v) wo

/-- The generated run's result is that. -/
theorem res_eq (m : (ℓ : Loc nD τ sig) → Buf (Elt Ideal) ℓ) (c : Dev nD) :
    Cert.ReferenceIdeal.Value.res_main_v42 (F := Ideal) m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The arrays at an index -/

/-- The block of 64 a query row is in. -/
theorem qblk_apply (n : Fin 1024) : qblk (ix1 n) = BitVec.ofNat 32 (n.val / 64) := by
  have h : ∀ (a : Fin 16) (b : Fin 64), qblk (ix1 ⟨64 * a.val + b.val, by omega⟩) = BitVec.ofNat 32 a.val := by decide +kernel
  have := h ⟨n.val / 64, by omega⟩ ⟨n.val % 64, by omega⟩
  rwa [show (⟨64 * (n.val / 64) + n.val % 64, by omega⟩ : Fin 1024) = n from Fin.ext (by simp only; omega)] at this
/-- The block of 64 a key is in. -/
theorem kblk_apply (n : Fin 8192) : kblk (ix1 n) = BitVec.ofNat 32 (n.val / 64) := by
  have h : ∀ (a : Fin 128) (b : Fin 64), kblk (ix1 ⟨64 * a.val + b.val, by omega⟩) = BitVec.ofNat 32 a.val := by decide +kernel
  have := h ⟨n.val / 64, by omega⟩ ⟨n.val % 64, by omega⟩
  rwa [show (⟨64 * (n.val / 64) + n.val % 64, by omega⟩ : Fin 8192) = n from Fin.ext (by simp only; omega)] at this

/-- The result is the product of the rows with the output projection. -/
theorem refOut_apply (x : FVec Ideal S1x1024x1024 .bf16) (wq : FVec Ideal S1024x1024 .bf16) (k v : FVec Ideal S1x8192x8x128 .bf16) (wo : FVec Ideal S1024x1024 .bf16)
    (n f : Fin 1024) : refOut x wq k v wo (ix3 0 n f) = ∑ e : Fin 1024, cR (wR (eR (tR (sR (qR x wq) k)))) v (ix3 0 n e) * wo (ix2 e f) := by
  unfold refOut
  generalize cR (wR (eR (tR (sR (qR x wq) k)))) v = c
  pointwise []
/-- A row of the attention is the weighted sum of the values. -/
theorem cR_apply (w : FVec Ideal S1x8x1024x8192 .f32) (v : FVec Ideal S1x8192x8x128 .bf16) (n : Fin 1024) (e : Fin 1024) :
    cR w v (ix3 0 n e) = ∑ J : Fin 8192, v (ix4 0 J ⟨e.val / 128, by omega⟩ ⟨e.val % 128, by omega⟩) * w (ix4 0 ⟨e.val / 128, by omega⟩ n J) := by
  pointwise [cR]
/-- A query is the product of the input with the query projection. -/
theorem qR_apply (x : FVec Ideal S1x1024x1024 .bf16) (wq : FVec Ideal S1024x1024 .bf16) (n : Fin 1024) (h : Fin 8) (d : Fin 128) :
    qR x wq (ix4 0 n h d) = ∑ k : Fin 1024, x (ix3 0 n k) * wq (ix2 k ⟨h.val * 128 + d.val, by omega⟩) := by
  pointwise [qR]
/-- A score is the scaled product of a query and a key. -/
theorem sR_apply (q : FVec Ideal S1x1024x8x128 .bf16) (k : FVec Ideal S1x8192x8x128 .bf16) (h : Fin 8) (n : Fin 1024) (J : Fin 8192) :
    sR q k (ix4 0 h n J) = (∑ d : Fin 128, q (ix4 0 n h d) * k (ix4 0 J h d)) * Ideal.ofBits .f32 0x3DB504F3#32 := by
  pointwise [sR]

/-- A key is kept just when its block has the row's residue modulo four. -/
theorem mask_apply (n : Fin 1024) (J : Fin 8192) :
    mask (ix2 n J) = if J.val / 64 % 4 = n.val / 64 % 4 then 1#1 else 0#1 := by
  unfold mask kmod qmod krow qcol four
  pointwise []
  rw [qblk_apply, kblk_apply]
  obtain ⟨a, ha⟩ : ∃ a : Fin 16, a.val = n.val / 64 := ⟨⟨n.val / 64, by omega⟩, rfl⟩
  obtain ⟨b, hb⟩ : ∃ b : Fin 128, b.val = J.val / 64 := ⟨⟨J.val / 64, by omega⟩, rfl⟩
  rw [← ha, ← hb]
  clear ha hb
  revert a b
  decide +kernel

/-- A disjunction with a one among its terms is one. -/
theorem fold_or {ι : Type} [DecidableEq ι] (s : Finset ι) (f : ι → BitVec 1) (i : ι) (hi : i ∈ s) (h : f i = 1#1) :
    s.fold IntOp.ori 0#1 f = 1#1 := by
  rw [← Finset.insert_erase hi, Finset.fold_insert (Finset.notMem_erase i s), h]
  generalize Finset.fold IntOp.ori 0#1 f (s.erase i) = y
  revert y
  decide

/-- Every query row keeps a key. -/
theorem keep_apply (n : Fin 1024) : keep (ix1 n) = 1#1 := by
  unfold keep
  generalize hm : mask = mk
  pointwise []
  refine fold_or _ _ (⟨n.val, by omega⟩ : Fin 8192) (Finset.mem_univ _) ?_
  rw [← hm, mask_apply]
  exact if_pos rfl

/-- The pattern of minus infinity. -/
theorem neg_inf : Ideal.ofBits .f32 0xFF800000#32 = (⊥ : EReal) := by simp [Ideal.ofBits, Ideal.ieee]

/-- A masked score: the score at a kept key, minus infinity elsewhere. -/
theorem tR_apply (s : FVec Ideal S1x8x1024x8192 .f32) (h : Fin 8) (n : Fin 1024) (J : Fin 8192) :
    tR s (ix4 0 h n J) = if J.val / 64 % 4 = n.val / 64 % 4 then s (ix4 0 h n J) else ⊥ := by
  unfold tR mask4
  pointwise []
  rw [mask_apply]
  split
  · rfl
  · exact neg_inf
/-- The row maximum. -/
theorem mR_apply (t : FVec Ideal S1x8x1024x8192 .f32) (h : Fin 8) (n : Fin 1024) :
    mR t (ix3 0 h n) = (Finset.univ : Finset (Fin 8192)).fold max ⊥ fun J => t (ix4 0 h n J) := by
  unfold mR
  pointwise [neg_inf]
/-- An exponential, its row maximum subtracted. -/
theorem eR_apply (t : FVec Ideal S1x8x1024x8192 .f32) (h : Fin 8) (n : Fin 1024) (J : Fin 8192) :
    eR t (ix4 0 h n J) = Ideal.exp (t (ix4 0 h n J) - mR t (ix3 0 h n)) := by
  unfold eR
  generalize mR t = y
  pointwise []
end Cert.Value
-- ==== Proof.Value.Weights.lean ====
/- The reference's row sums and weights. -/
module

public import proofs.«01_k».proof.Proof.Value.Ref

@[expose] public section

set_option maxRecDepth 16384

noncomputable section

namespace Cert.Value

open Cert.ReferenceIdeal Cert.ReferenceIdeal.Gen Idealize.ShloMosaic Idealize.ShloMosaic.TcCoe

/-- Where the condition is one, a selection reads its first array. -/
theorem select_one {s : Shape} {α : Type} (c : s.Idx → BitVec 1) (a b : s.Idx → α) (i : s.Idx) (h : c i = 1#1) : select c a b i = a i := by
  show (if c i = 1#1 then a i else b i) = a i
  exact if_pos h

/-- The guarded row sum is the sum of the exponentials. -/
theorem dR_apply (e : FVec Ideal S1x8x1024x8192 .f32) (h : Fin 8) (n : Fin 1024) :
    dR e (ix4 0 h n 0) = ∑ J : Fin 8192, e (ix4 0 h n J) := by
  have hk : keep (ix1 n) = 1#1 := keep_apply n
  unfold dR
  generalize keep = kp at hk ⊢
  pointwise [hk]
/-- A quotient of arrays, element by element. -/
theorem hdivf_apply {s : Shape} (a b : FVec Ideal s .f32) (i : s.Idx) : Host.divf a b i = Ideal.div (a i) (b i) := rfl
/-- A row sum repeated along the keys is the row sum. -/
theorem bcast_apply (y : FVec Ideal S1x8x1024x1 .f32) (h : Fin 8) (n : Fin 1024) (J : Fin 8192) :
    broadcastInDim S1x8x1024x8192 ![0, 1, 2, 3] bcast_S1x8x1024x1_S1x8x1024x8192_0_1_2_3 y (ix4 0 h n J) = y (ix4 0 h n 0) := by
  pointwise []
/-- A weight is its exponential over the row's sum. -/
theorem wR_apply (e : FVec Ideal S1x8x1024x8192 .f32) (h : Fin 8) (n : Fin 1024) (J : Fin 8192) :
    wR e (ix4 0 h n J) = Ideal.div (e (ix4 0 h n J)) (dR e (ix4 0 h n 0)) := by
  have hk : keep (ix1 n) = 1#1 := keep_apply n
  unfold wR
  generalize dR e = y
  generalize keep = kp at hk ⊢
  refine Eq.trans (select_one _ _ _ _ ?_) ?_
  · pointwise [hk]
  · rw [hdivf_apply, bcast_apply]
end Cert.Value
-- ==== Proof.Value.Math.lean ====
/- A softmax over the kept keys, with the row maximum subtracted and without it. -/
module

public import proofs.«01_k».proof.Proof.Value.Weights

@[expose] public section

noncomputable section

namespace Cert.Value

open Idealize.ShloMosaic

variable {ι : Type} [Fintype ι]

/-- A masked maximum over at least one kept real score is real. -/
theorem max_real (P : ι → Prop) [DecidablePred P] (s : ι → ℝ) (hP : ∃ J, P J) :
    ∃ m : ℝ, (Finset.univ : Finset ι).fold max ⊥ (fun J => if P J then (s J : EReal) else ⊥) = m := by
  have hle : ∀ S : Finset ι, S.fold max ⊥ (fun J => if P J then (s J : EReal) else ⊥) ≠ ⊤ := by
    classical
    intro S
    induction S using Finset.induction_on with
    | empty => simp
    | insert a S ha ih =>
      rw [Finset.fold_insert ha]
      intro h
      rcases max_choice (if P a then (s a : EReal) else ⊥) (S.fold max ⊥ fun J => if P J then (s J : EReal) else ⊥) with h' | h'
      · rw [h'] at h
        split at h
        · exact EReal.coe_ne_top _ h
        · exact bot_ne_top h
      · exact ih (h' ▸ h)
  obtain ⟨J, hJ⟩ := hP
  have hge : (s J : EReal) ≤ (Finset.univ : Finset ι).fold max ⊥ (fun J => if P J then (s J : EReal) else ⊥) :=
    (Finset.le_fold_max _).2 (.inr ⟨J, Finset.mem_univ J, by rw [if_pos hJ]⟩)
  have hb : (Finset.univ : Finset ι).fold max ⊥ (fun J => if P J then (s J : EReal) else ⊥) ≠ ⊥ := fun h =>
    EReal.coe_ne_bot (s J) (le_bot_iff.1 (h ▸ hge))
  exact ⟨_, (EReal.coe_toReal (hle _) hb).symm⟩

/-- A sum of extended reals times a nonnegative real. -/
theorem sum_mul_real (S : Finset ι) (f : ι → EReal) (r : ℝ) (hr : 0 ≤ r) : (∑ J ∈ S, f J) * (r : EReal) = ∑ J ∈ S, f J * r := by
  classical
  induction S using Finset.induction_on with
  | empty => simp
  | insert a S ha ih =>
    rw [Finset.sum_insert ha, Finset.sum_insert ha, EReal.right_distrib_of_nonneg_of_ne_top (EReal.coe_nonneg.2 hr) (EReal.coe_ne_top r), ih]

/-- A sum of reals, read in the extended reals. -/
theorem coe_sum (S : Finset ι) (f : ι → ℝ) : ((∑ J ∈ S, f J : ℝ) : EReal) = ∑ J ∈ S, (f J : EReal) := by
  classical
  induction S using Finset.induction_on with
  | empty => simp
  | insert a S ha ih => rw [Finset.sum_insert ha, Finset.sum_insert ha, EReal.coe_add, ih]

/-- The maximum cancels: weighting the values by the normalised exponentials is dividing the weighted sum by the sum of
    the exponentials, over the kept keys. The values may be infinite. -/
theorem attn (P : ι → Prop) [DecidablePred P] (s : ι → ℝ) (V : ι → EReal) (hP : ∃ J, P J) (t E : ι → EReal)
    (ht : ∀ J, t J = if P J then (s J : EReal) else ⊥)
    (hE : ∀ J, E J = Ideal.exp (t J - (Finset.univ : Finset ι).fold max ⊥ t)) :
    ∑ J, V J * Ideal.div (E J) (∑ J, E J)
      = Ideal.div (∑ J with P J, (Real.exp (s J) : EReal) * V J) (∑ J with P J, (Real.exp (s J) : EReal)) := by
  obtain rfl : t = fun J => if P J then (s J : EReal) else ⊥ := funext ht
  obtain ⟨m, hm⟩ := max_real P s hP
  rw [hm] at hE
  have hE' : ∀ J, E J = ((if P J then Real.exp (s J - m) else 0 : ℝ) : EReal) := by
    intro J
    refine (hE J).trans ?_
    show Ideal.exp ((if P J then (s J : EReal) else ⊥) - m) = _
    by_cases h : P J
    · rw [if_pos h, if_pos h, ← EReal.coe_sub, Ideal.exp_coe]
    · rw [if_neg h, if_neg h, EReal.bot_sub]
      rfl
  have hsum : ∑ J, E J = ((∑ J with P J, Real.exp (s J - m) : ℝ) : EReal) := by
    rw [Finset.sum_filter, coe_sum]
    exact Finset.sum_congr rfl fun J _ => hE' J
  have hne : (Finset.univ.filter P : Finset ι).Nonempty := by
    obtain ⟨J, hJ⟩ := hP
    exact ⟨J, Finset.mem_filter.2 ⟨Finset.mem_univ J, hJ⟩⟩
  have hpos : 0 < ∑ J with P J, Real.exp (s J - m) := Finset.sum_pos (fun J _ => Real.exp_pos _) hne
  have hpos' : 0 < ∑ J with P J, Real.exp (s J) := Finset.sum_pos (fun J _ => Real.exp_pos _) hne
  rw [hsum, ← coe_sum, Ideal.div_coe hpos'.ne', sum_mul_real _ _ _ (by positivity)]
  refine Eq.trans ?_ (Finset.sum_filter _ _).symm
  refine Finset.sum_congr rfl fun J _ => ?_
  rw [hE', Ideal.div_coe hpos.ne']
  split
  · rw [mul_comm (Real.exp (s J) : EReal), mul_assoc, ← EReal.coe_mul, ← EReal.coe_mul]
    congr 2
    have : ∑ J with P J, Real.exp (s J - m) = (∑ J with P J, Real.exp (s J)) * Real.exp (-m) := by
      rw [Finset.sum_mul]
      exact Finset.sum_congr rfl fun J _ => by rw [← Real.exp_add, sub_eq_add_neg]
    rw [this, sub_eq_add_neg, Real.exp_add]
    have h1 := Real.exp_pos (-m)
    field_simp
  · rw [EReal.coe_zero, zero_mul, mul_zero]
end Cert.Value
-- ==== Proof.Value.Equal.lean ====
/- On finite queries and keys the kernel's result is the reference's. -/
module

public import proofs.«01_k».proof.Proof.Value.Kern
public import proofs.«01_k».proof.Proof.Value.Math

@[expose] public section

set_option maxRecDepth 16384

noncomputable section

namespace Cert.Value

open Cert.KernelIdeal Cert.KernelIdeal.Gen Cert.KernelIdeal.Run Idealize.ShloMosaic Idealize.ShloMosaic.TcCoe

/-- The place among all keys of device `p`'s key `j`. -/
def gkey (p : Fin 8) (j : Fin 1024) : Fin 8192 := ⟨p.val * 1024 + j.val, by omega⟩

/-- The kept keys of a residue are the eight devices' keys of that row group. -/
theorem sum_kept (r : Fin 4) (g : Fin 8192 → EReal) :
    ∑ J with J.val / 64 % 4 = r.val, g J = ∑ p : Fin 8, ∑ j : Fin 256, g (gkey p (orig r j)) := by
  rw [← Fintype.sum_prod_type' (fun (p : Fin 8) (j : Fin 256) => g (gkey p (orig r j)))]
  have hr := r.isLt
  refine Finset.sum_nbij' (fun J => (⟨J.val / 1024, by omega⟩, ⟨J.val % 1024 / 256 * 64 + J.val % 64, by omega⟩)) (fun q => gkey q.1 (orig r q.2))
    ?_ ?_ ?_ ?_ ?_
  · exact fun _ _ => Finset.mem_univ _
  · intro q _
    refine Finset.mem_filter.2 ⟨Finset.mem_univ _, ?_⟩
    show (q.1.val * 1024 + (q.2.val / 64 * 256 + r.val * 64 + q.2.val % 64)) / 64 % 4 = r.val
    have := q.2.isLt
    omega
  · intro J hJ
    have hJ := (Finset.mem_filter.1 hJ).2
    refine Fin.ext ?_
    show J.val / 1024 * 1024 + ((J.val % 1024 / 256 * 64 + J.val % 64) / 64 * 256 + r.val * 64 + (J.val % 1024 / 256 * 64 + J.val % 64) % 64) = J.val
    omega
  · intro q _
    have h1 := q.1.isLt
    have h2 := q.2.isLt
    refine Prod.ext (Fin.ext ?_) (Fin.ext ?_)
    · show (q.1.val * 1024 + (q.2.val / 64 * 256 + r.val * 64 + q.2.val % 64)) / 1024 = q.1.val
      omega
    · show (q.1.val * 1024 + (q.2.val / 64 * 256 + r.val * 64 + q.2.val % 64)) % 1024 / 256 * 64
        + (q.1.val * 1024 + (q.2.val / 64 * 256 + r.val * 64 + q.2.val % 64)) % 64 = q.2.val
      omega
  · intro J hJ
    have hJ := (Finset.mem_filter.1 hJ).2
    refine congrArg g (Fin.ext ?_)
    show J.val = J.val / 1024 * 1024 + ((J.val % 1024 / 256 * 64 + J.val % 64) / 64 * 256 + r.val * 64 + (J.val % 1024 / 256 * 64 + J.val % 64) % 64)
    omega

/-- The scale is a real number. -/
theorem scale_real : ∃ sc : ℝ, Ideal.ofBits .f32 0x3DB504F3#32 = (sc : EReal) := by
  show ∃ sc : ℝ, Ideal.ieee 8 23 0x3DB504F3#32 = (sc : EReal)
  unfold Ideal.ieee
  dsimp only
  rw [if_neg (by decide), if_neg (by decide)]
  exact ⟨_, rfl⟩

section
variable (X : S1x1024x1024.Idx → ℝ) (W : S1024x1024.Idx → ℝ) (K : Cert.ReferenceIdeal.S1x8192x8x128.Idx → ℝ) (sc : ℝ)

/-- A score as a real number. -/
def score (n : Fin 1024) (h : Fin 8) (J : Fin 8192) : ℝ :=
  (∑ d : Fin 128, (∑ k : Fin 1024, X (ix3 0 n k) * W (ix2 k (lane h d))) * K (ix4 0 J h d)) * sc

/-- The kernel's score, the queries scaled first. -/
theorem score_ker (n : Fin 1024) (h : Fin 8) (J : Fin 8192) :
    ∑ d : Fin 128, (∑ k : Fin 1024, (X (ix3 0 n k) : EReal) * (W (ix2 k (lane h d)) : EReal)) * (sc : EReal) * (K (ix4 0 J h d) : EReal)
      = (score X W K sc n h J : EReal) := by
  unfold score
  rw [Finset.sum_mul, coe_sum]
  refine Finset.sum_congr rfl fun d _ => ?_
  rw [mul_right_comm, EReal.coe_mul, EReal.coe_mul, coe_sum]
  simp only [EReal.coe_mul]
/-- The reference's score, scaled last. -/
theorem score_ref (n : Fin 1024) (h : Fin 8) (J : Fin 8192) :
    (∑ d : Fin 128, (∑ k : Fin 1024, (X (ix3 0 n k) : EReal) * (W (ix2 k (lane h d)) : EReal)) * (K (ix4 0 J h d) : EReal)) * (sc : EReal)
      = (score X W K sc n h J : EReal) := by
  unfold score
  rw [EReal.coe_mul, coe_sum]
  refine congrArg (fun z : EReal => z * (sc : EReal)) (Finset.sum_congr rfl fun d _ => ?_)
  rw [EReal.coe_mul, coe_sum]
  simp only [EReal.coe_mul]
end

/-- The indices of the result. -/
theorem idx3 (i : S1x1024x1024.Idx) : ∃ n f : Fin 1024, i = ix3 0 n f := by
  refine ⟨i 1, i 2, funext fun a => ?_⟩
  match a with
  | 0 => exact Fin.ext (Nat.lt_one_iff.1 (i 0).isLt)
  | 1 => rfl
  | 2 => rfl

/-- The kernel's result on every device is the reference's, when the input, the query projection and the keys are finite. The
    values and the output projection may be infinite. -/
theorem out_eq (I : Ins Ideal) (x : FVec Ideal S1x1024x1024 .bf16) (wq wo : FVec Ideal S1024x1024 .bf16)
    (k v : FVec Ideal Cert.ReferenceIdeal.S1x8192x8x128 .bf16)
    (hx : ∀ p, I.x p = x) (hq : ∀ p, I.wq p = wq) (ho : ∀ p, I.wo p = wo)
    (hk : ∀ (p : Fin 8) j h d, I.k p (ix4 0 j h d) = k (ix4 0 (gkey p j) h d)) (hv : ∀ (p : Fin 8) j h d, I.v p (ix4 0 j h d) = v (ix4 0 (gkey p j) h d))
    (fx : ∀ i, ∃ r : ℝ, x i = (r : EReal)) (fq : ∀ i, ∃ r : ℝ, wq i = (r : EReal)) (fk : ∀ i, ∃ r : ℝ, k i = (r : EReal)) (c : Dev nD) :
    outF I c = refOut x wq k v wo := by
  funext i
  obtain ⟨n, f, rfl⟩ := idx3 i
  choose X hX using fx
  choose W hW using fq
  choose K hK using fk
  obtain ⟨sc, hsc⟩ := scale_real
  rw [out_apply, refOut_apply]
  refine Finset.sum_congr rfl fun e _ => ?_
  rw [ho]
  refine congrArg (· * _) ?_
  generalize hh : (⟨e.val / 128, by omega⟩ : Fin 8) = h
  generalize hd : (⟨e.val % 128, by omega⟩ : Fin 128) = d
  have hker : ∀ (p : Fin 8) (j : Fin 256), eK I p n h ⟨n.val / 64 % 4, by omega⟩ j
      = (Real.exp (score X W K sc n h (gkey p (orig ⟨n.val / 64 % 4, by omega⟩ j))) : EReal) := by
    intro p j
    rw [← Ideal.exp_coe, ← score_ker]
    unfold eK
    refine congrArg Ideal.exp (Finset.sum_congr rfl fun d _ => ?_)
    rw [hsc, hk, hK, hx, hq]
    simp only [hX, hW]
  have href : ∀ J : Fin 8192, sR (qR x wq) k (ix4 0 h n J) = (score X W K sc n h J : EReal) := by
    intro J
    rw [← score_ref, sR_apply, hsc]
    refine congrArg (· * _) (Finset.sum_congr rfl fun d _ => ?_)
    rw [qR_apply, hK]
    refine congrArg (· * _) (Finset.sum_congr rfl fun k _ => ?_)
    rw [hX, hW]
    refine congrArg (fun z => _ * (W (ix2 k z) : EReal)) (Fin.ext ?_)
    show h.val * 128 + d.val = 128 * h.val + d.val
    omega
  rw [cR_apply, hh, hd]
  generalize ht : tR (sR (qR x wq) k) = t
  have ht' : ∀ J : Fin 8192, t (ix4 0 h n J) = if J.val / 64 % 4 = n.val / 64 % 4 then (score X W K sc n h J : EReal) else ⊥ := by
    intro J
    rw [← ht, tR_apply, href]
  have hE : ∀ J : Fin 8192, eR t (ix4 0 h n J)
      = Ideal.exp (t (ix4 0 h n J) - (Finset.univ : Finset (Fin 8192)).fold max ⊥ fun J => t (ix4 0 h n J)) := by
    intro J
    rw [eR_apply, mR_apply]
  have hW' : ∀ J : Fin 8192, wR (eR t) (ix4 0 h n J) = Ideal.div (eR t (ix4 0 h n J)) (∑ J : Fin 8192, eR t (ix4 0 h n J)) := by
    intro J
    rw [wR_apply, dR_apply]
  have key := attn (fun J : Fin 8192 => J.val / 64 % 4 = n.val / 64 % 4) (score X W K sc n h) (fun J => v (ix4 0 J h d))
    ⟨⟨n.val, by omega⟩, rfl⟩ (fun J => t (ix4 0 h n J)) (fun J => eR t (ix4 0 h n J)) ht' hE
  refine Eq.trans ?_ (key.symm.trans (Finset.sum_congr rfl fun J _ => by rw [hW']))
  rw [sum_kept ⟨n.val / 64 % 4, by omega⟩ fun J => (Real.exp (score X W K sc n h J) : EReal) * v (ix4 0 J h d),
    sum_kept ⟨n.val / 64 % 4, by omega⟩ fun J => (Real.exp (score X W K sc n h J) : EReal)]
  refine congrArg₂ Ideal.div (Finset.sum_congr rfl fun p _ => Finset.sum_congr rfl fun j _ => ?_)
    (Finset.sum_congr rfl fun p _ => Finset.sum_congr rfl fun j _ => hker p j)
  rw [hker p j, hv]
end Cert.Value
-- ==== Proof.Value.Result.lean ====
/- The final arrays and the claim's hypotheses, read for the value claim. -/
module

public import proofs.«01_k».proof.Defs
public import proofs.«01_k».proof.Proof.Gen.Pre_finite_KernelIdeal
public import proofs.«01_k».proof.Proof.KernelIdealRun.Launch
public import proofs.«01_k».proof.Proof.Value.Equal

@[expose] public section

set_option maxRecDepth 16384

noncomputable section

namespace Cert.Value

open Cert.KernelIdeal Cert.KernelIdeal.Gen Cert.KernelIdeal.Run Idealize.ShloMosaic Idealize.ShloMosaic.TcCoe Idealize.SL.Sem

variable (m : (ℓ : Loc nD τ sig) → Buf (Elt Ideal) ℓ) (ρ : Dev nD → PrngReg) (c : Dev nD)

/-- A device's input is its argument buffer. -/
theorem ins_x : (insOf m).x c = m ((c : Thread nD τ).loc main_arg0) := by
  have hz : (fun a => (win0_0.index t0_0) a * main_arg0.ty.shape.size a) = fun _ => 0 := funext fun a => by fin_cases a <;> decide
  exact Memref.read_access_unit_zero (Elt Ideal) main_arg0 hz (fun a => by fin_cases a <;> decide) _
/-- A device's query projection is its argument buffer. -/
theorem ins_wq : (insOf m).wq c = m ((c : Thread nD τ).loc main_arg1) := by
  have hz : (fun a => (win0_1.index t0_0) a * main_arg1.ty.shape.size a) = fun _ => 0 := funext fun a => by fin_cases a <;> decide
  exact Memref.read_access_unit_zero (Elt Ideal) main_arg1 hz (fun a => by fin_cases a <;> decide) _
/-- A device's keys are its argument buffer. -/
theorem ins_k : (insOf m).k c = m ((c : Thread nD τ).loc main_arg2) := by
  have hz : (fun a => (win0_2.index t0_0) a * main_arg2.ty.shape.size a) = fun _ => 0 := funext fun a => by fin_cases a <;> decide
  exact Memref.read_access_unit_zero (Elt Ideal) main_arg2 hz (fun a => by fin_cases a <;> decide) _
/-- A device's values are its argument buffer. -/
theorem ins_v : (insOf m).v c = m ((c : Thread nD τ).loc main_arg3) := by
  have hz : (fun a => (win0_3.index t0_0) a * main_arg3.ty.shape.size a) = fun _ => 0 := funext fun a => by fin_cases a <;> decide
  exact Memref.read_access_unit_zero (Elt Ideal) main_arg3 hz (fun a => by fin_cases a <;> decide) _
/-- A device's output projection is its argument buffer. -/
theorem ins_wo : (insOf m).wo c = m ((c : Thread nD τ).loc main_arg4) := by
  have hz : (fun a => (win0_4.index t0_0) a * main_arg4.ty.shape.size a) = fun _ => 0 := funext fun a => by fin_cases a <;> decide
  exact Memref.read_access_unit_zero (Elt Ideal) main_arg4 hz (fun a => by fin_cases a <;> decide) _

/-- The result array, whole, is what the body left in its staging buffer. -/
theorem final_out : finalA m ρ c (5 : Fin 6) = outF (insOf m) c := by
  have h : (win0_5.blk t0_0).view.read (Elt Ideal) (finalA m ρ c (5 : Fin 6)) = outF (insOf m) c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  rw [← h]
  have hz : (fun a => (win0_5.index t0_0) a * main_v1.ty.shape.size a) = fun _ => 0 := funext fun a => by fin_cases a <;> decide
  exact (Memref.read_access_unit_zero (Elt Ideal) main_v1 hz (fun a => by fin_cases a <;> decide) _).symm

/-! ## Finiteness -/

/-- The pattern of plus infinity. -/
theorem pos_inf : Ideal.ofBits .f32 0x7F800000#32 = (⊤ : EReal) := by simp [Ideal.ofBits, Ideal.ieee]

/-- An extended real of magnitude below infinity is real. -/
theorem real_of_lt (x : EReal) (h : Ideal.cmp .olt (max x (-x)) ⊤ = 1#1) : ∃ r : ℝ, x = (r : EReal) := by
  have h' : max x (-x) < ⊤ := by
    by_contra hn
    rw [Ideal.cmp_olt, decide_eq_false hn] at h
    exact absurd h (by decide)
  refine ⟨x.toReal, (EReal.coe_toReal ?_ ?_).symm⟩
  · rintro rfl
    simp at h'
  · rintro rfl
    simp at h'

section
attribute [local instance] Cert.Pre_finite_KernelIdeal.Gen.facts
variable (x : FVec Ideal S1x1024x1024 .bf16) (wq wo : FVec Ideal S1024x1024 .bf16) (k v : FVec Ideal S1x1024x8x128 .bf16)

/-- A finite comparison that is all ones says every element is real. -/
theorem real_of_ones {s : Shape} (hb : Shape.BroadcastsInDim ⟨0, ![]⟩ s (![] : Fin 0 → Fin s.rank)) (y : FVec Ideal s .bf16)
    (h : cmpf .olt (Host.absf (extf .f32 y bitsLt_bf16_f32)) (broadcastInDim s ![] hb (constant ⟨0, ![]⟩ .f32 0x7F800000#32)) = fun _ => 1#1)
    (i : s.Idx) : ∃ r : ℝ, y i = (r : EReal) := by
  have h1 := congrFun h i
  refine real_of_lt (y i) (Eq.trans ?_ h1)
  rw [← pos_inf]
  rfl
/-- The precondition makes the input real, -/
theorem pre_x (h : (Cert.Pre_finite_KernelIdeal.fn (F := Ideal) x wq k v wo).1 = fun _ => 1#1) (i) : ∃ r : ℝ, x i = (r : EReal) :=
  real_of_ones _ x h i
/-- the query projection real, -/
theorem pre_wq (h : (Cert.Pre_finite_KernelIdeal.fn (F := Ideal) x wq k v wo).2.1 = fun _ => 1#1) (i) : ∃ r : ℝ, wq i = (r : EReal) :=
  real_of_ones _ wq h i
/-- and the keys real. -/
theorem pre_k (h : (Cert.Pre_finite_KernelIdeal.fn (F := Ideal) x wq k v wo).2.2 = fun _ => 1#1) (i) : ∃ r : ℝ, k i = (r : EReal) :=
  real_of_ones _ k h i
end

/-! ## Blocks -/

/-- A device's block of the keys, element by element. -/
theorem block_apply (w : FVec Ideal Cert.ReferenceIdeal.S1x8192x8x128 .bf16) (p : Fin 8) (j : Fin 1024) (h : Fin 8) (d : Fin 128) :
    Layout.block ⟨4, ![1, 1024, 8, 128]⟩ ⟨4, ![1, 8192, 8, 128]⟩ 1 8 p w (by decide) (ix4 0 j h d) = w (ix4 0 (gkey p j) h d) := by
  rw [Layout.block_apply]
  refine congrArg w (funext fun a => Fin.ext ?_)
  match a with
  | 0 => rfl
  | 1 => rfl
  | 2 => rfl
  | 3 => rfl
/-- Every key of the whole array lies in some device's block. -/
theorem idx4 (i : Cert.ReferenceIdeal.S1x8192x8x128.Idx) : ∃ (p : Fin 8) (j : Fin 1024) (h : Fin 8) (d : Fin 128), i = ix4 0 (gkey p j) h d := by
  have h1 : (i 1).val < 8192 := (i 1).isLt
  refine ⟨⟨(i 1).val / 1024, by omega⟩, ⟨(i 1).val % 1024, by omega⟩, i 2, i 3, funext fun a => ?_⟩
  match a with
  | 0 => exact Fin.ext (Nat.lt_one_iff.1 (i 0).isLt)
  | 1 =>
    refine Fin.ext ?_
    show (i 1).val = (i 1).val / 1024 * 1024 + (i 1).val % 1024
    omega
  | 2 => rfl
  | 3 => rfl
end Cert.Value
-- ==== Proof.lean ====
/- The certificate's claim, put together: the kernel's run at both readings, the reference's run, and the equation between their results. -/
module

public import proofs.«01_k».proof.Defs
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Gen.ReferenceIdeal.Run
public import proofs.«01_k».proof.Proof.KernelRun.Launch
public import proofs.«01_k».proof.Proof.KernelIdealRun.Launch
public import proofs.«01_k».proof.Proof.Value.Result
public import Idealize.ShloMosaic.Adequacy
public import Idealize.ShloMosaic.Init

@[expose] public section

noncomputable section

namespace Cert.Proof

open Idealize.ShloMosaic Idealize.SL.Sem

/-- The kernel's frame: it runs, leaves its arguments as they were, and every counter ends at zero. -/
theorem frame_kernel : Cert.quiescent_Kernel := by
  intro m ρ _
  exact (θ_run Cert.Kernel.defs _ _).mono (fun _ h => ⟨fun c =>
    ⟨(h.1 c (0 : Fin 6)).trans (Cert.Kernel.Run.finalA_in m ρ c (0 : Fin 6) rfl), (h.1 c (1 : Fin 6)).trans (Cert.Kernel.Run.finalA_in m ρ c (1 : Fin 6) rfl),
      (h.1 c (2 : Fin 6)).trans (Cert.Kernel.Run.finalA_in m ρ c (2 : Fin 6) rfl), (h.1 c (3 : Fin 6)).trans (Cert.Kernel.Run.finalA_in m ρ c (3 : Fin 6) rfl),
      (h.1 c (4 : Fin 6)).trans (Cert.Kernel.Run.finalA_in m ρ c (4 : Fin 6) rfl)⟩, h.2⟩) (Cert.Kernel.Run.run_main (F := Bits) m ρ)

/-- The same of the kernel read over the extended reals. -/
theorem frame_ideal : Cert.quiescent_KernelIdeal := by
  intro m ρ _
  exact (θ_run Cert.KernelIdeal.defs _ _).mono (fun _ h => ⟨fun c =>
    ⟨(h.1 c (0 : Fin 6)).trans (Cert.KernelIdeal.Run.finalA_in m ρ c (0 : Fin 6) rfl), (h.1 c (1 : Fin 6)).trans (Cert.KernelIdeal.Run.finalA_in m ρ c (1 : Fin 6) rfl),
      (h.1 c (2 : Fin 6)).trans (Cert.KernelIdeal.Run.finalA_in m ρ c (2 : Fin 6) rfl), (h.1 c (3 : Fin 6)).trans (Cert.KernelIdeal.Run.finalA_in m ρ c (3 : Fin 6) rfl),
      (h.1 c (4 : Fin 6)).trans (Cert.KernelIdeal.Run.finalA_in m ρ c (4 : Fin 6) rfl)⟩, h.2⟩) (Cert.KernelIdeal.Run.run_main (F := Ideal) m ρ)

/-- And under the precondition, which the frame does not use. -/
theorem frame_ideal_pre : Cert.quiescent_KernelIdeal_pre_finite_KernelIdeal := fun m ρ _ => frame_ideal m ρ trivial

/-- The reference's frame. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- And under the precondition. -/
theorem frame_reference_pre : Cert.quiescent_ReferenceIdeal_pre_finite_ReferenceIdeal := fun m ρ _ => frame_reference m ρ trivial

/-- On finite input, query projection and keys, the kernel read over the extended reals leaves on every device the result
    that the reference leaves on its one device, both leaving their arguments as they were. -/
theorem algebraic : Cert.algebraic_KernelIdeal_ReferenceIdeal_pre_finite_KernelIdeal := by
  intro m ρ m' ρ' hpre hagree
  generalize hx : m' (((0 : Dev Cert.ReferenceIdeal.nD).tc : Thread Cert.ReferenceIdeal.nD Cert.ReferenceIdeal.τ).loc Cert.ReferenceIdeal.main_arg0) = x at hagree
  generalize hq : m' (((0 : Dev Cert.ReferenceIdeal.nD).tc : Thread Cert.ReferenceIdeal.nD Cert.ReferenceIdeal.τ).loc Cert.ReferenceIdeal.main_arg1) = wq at hagree
  generalize hk : m' (((0 : Dev Cert.ReferenceIdeal.nD).tc : Thread Cert.ReferenceIdeal.nD Cert.ReferenceIdeal.τ).loc Cert.ReferenceIdeal.main_arg2) = k at hagree
  generalize hv : m' (((0 : Dev Cert.ReferenceIdeal.nD).tc : Thread Cert.ReferenceIdeal.nD Cert.ReferenceIdeal.τ).loc Cert.ReferenceIdeal.main_arg3) = v at hagree
  generalize ho : m' (((0 : Dev Cert.ReferenceIdeal.nD).tc : Thread Cert.ReferenceIdeal.nD Cert.ReferenceIdeal.τ).loc Cert.ReferenceIdeal.main_arg4) = wo at hagree
  have fx := Cert.Value.pre_x _ _ _ _ _ (hpre 0).1
  have fq := Cert.Value.pre_wq _ _ _ _ _ (hpre 0).2.1
  have fk := fun c => Cert.Value.pre_k _ _ _ _ _ (hpre c).2.2
  rw [(hagree 0).1] at fx
  rw [(hagree 0).2.1] at fq
  have hout : ∀ c, Cert.KernelIdeal.Run.outF (Cert.KernelIdeal.Run.insOf m) c = Cert.Value.refOut x wq k v wo :=
    Cert.Value.out_eq _ x wq wo k v (fun p => (Cert.Value.ins_x m p).trans (hagree p).1) (fun p => (Cert.Value.ins_wq m p).trans (hagree p).2.1)
      (fun p => (Cert.Value.ins_wo m p).trans (hagree p).2.2.2.2)
      (fun p j h d => (congrFun ((Cert.Value.ins_k m p).trans (hagree p).2.2.1) _).trans (Cert.Value.block_apply k p j h d))
      (fun p j h d => (congrFun ((Cert.Value.ins_v m p).trans (hagree p).2.2.2.1) _).trans (Cert.Value.block_apply v p j h d))
      fx fq (fun i => by
        obtain ⟨p, j, h, d, rfl⟩ := Cert.Value.idx4 i
        obtain ⟨r, hr⟩ := fk p (ix4 0 j h d)
        exact ⟨r, ((Cert.Value.block_apply k p j h d).symm.trans (congrFun (hagree p).2.2.1 _).symm).trans hr⟩)
  subst hx hq hk hv ho
  refine ⟨Cert.ReferenceIdeal.Value.res_main_v42 (F := Ideal) m' 0, ?_, ?_⟩
  · exact (θ_run Cert.KernelIdeal.defs _ _).mono (fun _ h c =>
      ⟨((h.1 c (5 : Fin 6)).trans (Cert.Value.final_out m ρ c)).trans ((hout c).trans (Cert.Value.res_eq m' 0).symm),
        (h.1 c (0 : Fin 6)).trans (Cert.KernelIdeal.Run.finalA_in m ρ c (0 : Fin 6) rfl), (h.1 c (1 : Fin 6)).trans (Cert.KernelIdeal.Run.finalA_in m ρ c (1 : Fin 6) rfl),
        (h.1 c (2 : Fin 6)).trans (Cert.KernelIdeal.Run.finalA_in m ρ c (2 : Fin 6) rfl), (h.1 c (3 : Fin 6)).trans (Cert.KernelIdeal.Run.finalA_in m ρ c (3 : Fin 6) rfl),
        (h.1 c (4 : Fin 6)).trans (Cert.KernelIdeal.Run.finalA_in m ρ c (4 : Fin 6) rfl)⟩) (Cert.KernelIdeal.Run.run_main (F := Ideal) m ρ)
  · exact (θ_run Cert.ReferenceIdeal.defs _ _).mono (fun _ h => h 0) (Cert.ReferenceIdeal.Value.run (F := Ideal) m' ρ')

/-- Every claim of the certificate. -/
theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    frame_kernel, frame_ideal, frame_ideal_pre, frame_reference, frame_reference_pre, trivial, algebraic⟩

end Cert.Proof

end
